-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slabs [hPre_slabs : Cert.Pre_slabs.Facts] (m : (ℓ : Loc Cert.KernelIdeal.nD Cert.KernelIdeal.τ Cert.KernelIdeal.sig) → Buf (Elt Ideal) ℓ) : Prop :=
  ∀ c : Dev Cert.KernelIdeal.nD,
    (Cert.Pre_slabs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slabs [hPre_slabs : Cert.Pre_slabs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slabs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_RefFfn1Ideal (m : (ℓ : Loc Cert.RefFfn1Ideal.nD Cert.RefFfn1Ideal.τ Cert.RefFfn1Ideal.sig) → Buf (Elt Ideal) ℓ) : Prop :=
  True

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_RefFfn0Ideal (m : (ℓ : Loc Cert.RefFfn0Ideal.nD Cert.RefFfn0Ideal.τ Cert.RefFfn0Ideal.sig) → Buf (Elt Ideal) ℓ) : Prop :=
  True

def Pre_Ffns (m : (ℓ : Loc Cert.Ffns.nD Cert.Ffns.τ Cert.Ffns.sig) → Buf (Elt Bits) ℓ) : Prop :=
  True

def Pre_FfnsIdeal (m : (ℓ : Loc Cert.FfnsIdeal.nD Cert.FfnsIdeal.τ Cert.FfnsIdeal.sig) → Buf (Elt Ideal) ℓ) : Prop :=
  True

def Pre_RefFfnsIdeal (m : (ℓ : Loc Cert.RefFfnsIdeal.nD Cert.RefFfnsIdeal.τ Cert.RefFfnsIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Projs (m : (ℓ : Loc Cert.Projs.nD Cert.Projs.τ Cert.Projs.sig) → Buf (Elt Bits) ℓ) : Prop :=
  True

def Pre_ProjsIdeal (m : (ℓ : Loc Cert.ProjsIdeal.nD Cert.ProjsIdeal.τ Cert.ProjsIdeal.sig) → Buf (Elt Ideal) ℓ) : Prop :=
  True

def Pre_RefProjsIdeal (m : (ℓ : Loc Cert.RefProjsIdeal.nD Cert.RefProjsIdeal.τ Cert.RefProjsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_slabs [hKernelIdeal : Cert.KernelIdeal.Facts] [hPre_slabs : Cert.Pre_slabs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slabs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_slabs [hReferenceIdeal : Cert.ReferenceIdeal.Facts] [hPre_slabs : Cert.Pre_slabs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slabs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ r.2.sem = fun _ => 0)

def quiescent_RefFfn1Ideal [hRefFfn1Ideal : Cert.RefFfn1Ideal.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3)
      ∧ r.2.mem ((c.tc : Thread Cert.RefFfn1Ideal.nD Cert.RefFfn1Ideal.τ).loc Cert.RefFfn1Ideal.main_arg4) = m ((c.tc : Thread Cert.RefFfn1Ideal.nD Cert.RefFfn1Ideal.τ).loc Cert.RefFfn1Ideal.main_arg4)
      ∧ r.2.mem ((c.tc : Thread Cert.RefFfn1Ideal.nD Cert.RefFfn1Ideal.τ).loc Cert.RefFfn1Ideal.main_arg5) = m ((c.tc : Thread Cert.RefFfn1Ideal.nD Cert.RefFfn1Ideal.τ).loc Cert.RefFfn1Ideal.main_arg5)
      ∧ r.2.mem ((c.tc : Thread Cert.RefFfn1Ideal.nD Cert.RefFfn1Ideal.τ).loc Cert.RefFfn1Ideal.main_arg6) = m ((c.tc : Thread Cert.RefFfn1Ideal.nD Cert.RefFfn1Ideal.τ).loc Cert.RefFfn1Ideal.main_arg6))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5)
      ∧ r.2.mem ((c.tc : Thread Cert.Ffn0.nD Cert.Ffn0.τ).loc Cert.Ffn0.main_arg6) = m ((c.tc : Thread Cert.Ffn0.nD Cert.Ffn0.τ).loc Cert.Ffn0.main_arg6)
      ∧ r.2.mem ((c.tc : Thread Cert.Ffn0.nD Cert.Ffn0.τ).loc Cert.Ffn0.main_arg7) = m ((c.tc : Thread Cert.Ffn0.nD Cert.Ffn0.τ).loc Cert.Ffn0.main_arg7)
      ∧ r.2.mem ((c.tc : Thread Cert.Ffn0.nD Cert.Ffn0.τ).loc Cert.Ffn0.main_arg8) = m ((c.tc : Thread Cert.Ffn0.nD Cert.Ffn0.τ).loc Cert.Ffn0.main_arg8))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
      ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7)
      ∧ r.2.mem ((c.tc : Thread Cert.Ffn0Ideal.nD Cert.Ffn0Ideal.τ).loc Cert.Ffn0Ideal.main_arg8) = m ((c.tc : Thread Cert.Ffn0Ideal.nD Cert.Ffn0Ideal.τ).loc Cert.Ffn0Ideal.main_arg8))
      ∧ r.2.sem = fun _ => 0)

def quiescent_RefFfn0Ideal [hRefFfn0Ideal : Cert.RefFfn0Ideal.Facts] : Prop :=
  ∀ (m : (ℓ : Loc Cert.RefFfn0Ideal.nD Cert.RefFfn0Ideal.τ Cert.RefFfn0Ideal.sig) → Buf (Elt Ideal) ℓ) (g : Dev Cert.RefFfn0Ideal.nD → PrngReg), Pre_RefFfn0Ideal m →
    θ_run (Cert.RefFfn0Ideal.defs (F := Ideal)) (onTc (τ := Cert.RefFfn0Ideal.τ) (Cert.RefFfn0Ideal.main (F := Ideal))) ⟨m, fun _ => 0, g⟩ (fun r => (∀ c : Dev Cert.RefFfn0Ideal.nD,
      r.2.mem ((c.tc : Thread Cert.RefFfn0Ideal.nD Cert.RefFfn0Ideal.τ).loc Cert.RefFfn0Ideal.main_arg0) = m ((c.tc : Thread Cert.RefFfn0Ideal.nD Cert.RefFfn0Ideal.τ).loc Cert.RefFfn0Ideal.main_arg0)
      ∧ r.2.mem ((c.tc : Thread Cert.RefFfn0Ideal.nD Cert.RefFfn0Ideal.τ).loc Cert.RefFfn0Ideal.main_arg1) = m ((c.tc : Thread Cert.RefFfn0Ideal.nD Cert.RefFfn0Ideal.τ).loc Cert.RefFfn0Ideal.main_arg1)
      ∧ r.2.mem ((c.tc : Thread Cert.RefFfn0Ideal.nD Cert.RefFfn0Ideal.τ).loc Cert.RefFfn0Ideal.main_arg2) = m ((c.tc : Thread Cert.RefFfn0Ideal.nD Cert.RefFfn0Ideal.τ).loc Cert.RefFfn0Ideal.main_arg2)
      ∧ r.2.mem ((c.tc : Thread Cert.RefFfn0Ideal.nD Cert.RefFfn0Ideal.τ).loc Cert.RefFfn0Ideal.main_arg3) = m ((c.tc : Thread Cert.RefFfn0Ideal.nD Cert.RefFfn0Ideal.τ).loc Cert.RefFfn0Ideal.main_arg3)
      ∧ r.2.mem ((c.tc : Thread Cert.RefFfn0Ideal.nD Cert.RefFfn0Ideal.τ).loc Cert.RefFfn0Ideal.main_arg4) = m ((c.tc : Thread Cert.RefFfn0Ideal.nD Cert.RefFfn0Ideal.τ).loc Cert.RefFfn0Ideal.main_arg4)
      ∧ r.2.mem ((c.tc : Thread Cert.RefFfn0Ideal.nD Cert.RefFfn0Ideal.τ).loc Cert.RefFfn0Ideal.main_arg5) = m ((c.tc : Thread Cert.RefFfn0Ideal.nD Cert.RefFfn0Ideal.τ).loc Cert.RefFfn0Ideal.main_arg5)
      ∧ r.2.mem ((c.tc : Thread Cert.RefFfn0Ideal.nD Cert.RefFfn0Ideal.τ).loc Cert.RefFfn0Ideal.main_arg6) = m ((c.tc : Thread Cert.RefFfn0Ideal.nD Cert.RefFfn0Ideal.τ).loc Cert.RefFfn0Ideal.main_arg6)
      ∧ r.2.mem ((c.tc : Thread Cert.RefFfn0Ideal.nD Cert.RefFfn0Ideal.τ).loc Cert.RefFfn0Ideal.main_arg7) = m ((c.tc : Thread Cert.RefFfn0Ideal.nD Cert.RefFfn0Ideal.τ).loc Cert.RefFfn0Ideal.main_arg7)
      ∧ r.2.mem ((c.tc : Thread Cert.RefFfn0Ideal.nD Cert.RefFfn0Ideal.τ).loc Cert.RefFfn0Ideal.main_arg8) = m ((c.tc : Thread Cert.RefFfn0Ideal.nD Cert.RefFfn0Ideal.τ).loc Cert.RefFfn0Ideal.main_arg8))
      ∧ r.2.sem = fun _ => 0)

def quiescent_Ffns [hFfns : Cert.Ffns.Facts] : Prop :=
  ∀ (m : (ℓ : Loc Cert.Ffns.nD Cert.Ffns.τ Cert.Ffns.sig) → Buf (Elt Bits) ℓ) (g : Dev Cert.Ffns.nD → PrngReg), Pre_Ffns m →
    θ_run (Cert.Ffns.defs (F := Bits)) (onTc (τ := Cert.Ffns.τ) (Cert.Ffns.main (F := Bits))) ⟨m, fun _ => 0, g⟩ (fun r => (∀ c : Dev Cert.Ffns.nD,
      r.2.mem ((c.tc : Thread Cert.Ffns.nD Cert.Ffns.τ).loc Cert.Ffns.main_arg0) = m ((c.tc : Thread Cert.Ffns.nD Cert.Ffns.τ).loc Cert.Ffns.main_arg0)
      ∧ r.2.mem ((c.tc : Thread Cert.Ffns.nD Cert.Ffns.τ).loc Cert.Ffns.main_arg1) = m ((c.tc : Thread Cert.Ffns.nD Cert.Ffns.τ).loc Cert.Ffns.main_arg1)
      ∧ r.2.mem ((c.tc : Thread Cert.Ffns.nD Cert.Ffns.τ).loc Cert.Ffns.main_arg2) = m ((c.tc : Thread Cert.Ffns.nD Cert.Ffns.τ).loc Cert.Ffns.main_arg2)
      ∧ r.2.mem ((c.tc : Thread Cert.Ffns.nD Cert.Ffns.τ).loc Cert.Ffns.main_arg3) = m ((c.tc : Thread Cert.Ffns.nD Cert.Ffns.τ).loc Cert.Ffns.main_arg3)
      ∧ r.2.mem ((c.tc : Thread Cert.Ffns.nD Cert.Ffns.τ).loc Cert.Ffns.main_arg4) = m ((c.tc : Thread Cert.Ffns.nD Cert.Ffns.τ).loc Cert.Ffns.main_arg4)
      ∧ r.2.mem ((c.tc : Thread Cert.Ffns.nD Cert.Ffns.τ).loc Cert.Ffns.main_arg5) = m ((c.tc : Thread Cert.Ffns.nD Cert.Ffns.τ).loc Cert.Ffns.main_arg5)
      ∧ r.2.mem ((c.tc : Thread Cert.Ffns.nD Cert.Ffns.τ).loc Cert.Ffns.main_arg6) = m ((c.tc : Thread Cert.Ffns.nD Cert.Ffns.τ).loc Cert.Ffns.main_arg6))
      ∧ r.2.sem = fun _ => 0)

def quiescent_FfnsIdeal [hFfnsIdeal : Cert.FfnsIdeal.Facts] : Prop :=
  ∀ (m : (ℓ : Loc Cert.FfnsIdeal.nD Cert.FfnsIdeal.τ Cert.FfnsIdeal.sig) → Buf (Elt Ideal) ℓ) (g : Dev Cert.FfnsIdeal.nD → PrngReg), Pre_FfnsIdeal m →
    θ_run (Cert.FfnsIdeal.defs (F := Ideal)) (onTc (τ := Cert.FfnsIdeal.τ) (Cert.FfnsIdeal.main (F := Ideal))) ⟨m, fun _ => 0, g⟩ (fun r => (∀ c : Dev Cert.FfnsIdeal.nD,
      r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
      ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
      ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
      ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
      ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4)
      ∧ r.2.mem ((c.tc : Thread Cert.FfnsIdeal.nD Cert.FfnsIdeal.τ).loc Cert.FfnsIdeal.main_arg5) = m ((c.tc : Thread Cert.FfnsIdeal.nD Cert.FfnsIdeal.τ).loc Cert.FfnsIdeal.main_arg5)
      ∧ r.2.mem ((c.tc : Thread Cert.FfnsIdeal.nD Cert.FfnsIdeal.τ).loc Cert.FfnsIdeal.main_arg6) = m ((c.tc : Thread Cert.FfnsIdeal.nD Cert.FfnsIdeal.τ).loc Cert.FfnsIdeal.main_arg6))
      ∧ r.2.sem = fun _ => 0)

def quiescent_RefFfnsIdeal [hRefFfnsIdeal : Cert.RefFfnsIdeal.Facts] : Prop :=
  ∀ (m : (ℓ : Loc Cert.RefFfnsIdeal.nD Cert.RefFfnsIdeal.τ Cert.RefFfnsIdeal.sig) → Buf (Elt Ideal) ℓ) (g : Dev Cert.RefFfnsIdeal.nD → PrngReg), Pre_RefFfnsIdeal m →
    θ_run (Cert.RefFfnsIdeal.defs (F := Ideal)) (onTc (τ := Cert.RefFfnsIdeal.τ) (Cert.RefFfnsIdeal.main (F := Ideal))) ⟨m, fun _ => 0, g⟩ (fun r => (∀ c : Dev Cert.RefFfnsIdeal.nD,
      r.2.mem ((c.tc : Thread Cert.RefFfnsIdeal.nD Cert.RefFfnsIdeal.τ).loc Cert.RefFfnsIdeal.main_arg0) = m ((c.tc : Thread Cert.RefFfnsIdeal.nD Cert.RefFfnsIdeal.τ).loc Cert.RefFfnsIdeal.main_arg0)
      ∧ r.2.mem ((c.tc : Thread Cert.RefFfnsIdeal.nD Cert.RefFfnsIdeal.τ).loc Cert.RefFfnsIdeal.main_arg1) = m ((c.tc : Thread Cert.RefFfnsIdeal.nD Cert.RefFfnsIdeal.τ).loc Cert.RefFfnsIdeal.main_arg1)
      ∧ r.2.mem ((c.tc : Thread Cert.RefFfnsIdeal.nD Cert.RefFfnsIdeal.τ).loc Cert.RefFfnsIdeal.main_arg2) = m ((c.tc : Thread Cert.RefFfnsIdeal.nD Cert.RefFfnsIdeal.τ).loc Cert.RefFfnsIdeal.main_arg2)
      ∧ r.2.mem ((c.tc : Thread Cert.RefFfnsIdeal.nD Cert.RefFfnsIdeal.τ).loc Cert.RefFfnsIdeal.main_arg3) = m ((c.tc : Thread Cert.RefFfnsIdeal.nD Cert.RefFfnsIdeal.τ).loc Cert.RefFfnsIdeal.main_arg3)
      ∧ r.2.mem ((c.tc : Thread Cert.RefFfnsIdeal.nD Cert.RefFfnsIdeal.τ).loc Cert.RefFfnsIdeal.main_arg4) = m ((c.tc : Thread Cert.RefFfnsIdeal.nD Cert.RefFfnsIdeal.τ).loc Cert.RefFfnsIdeal.main_arg4)
      ∧ r.2.mem ((c.tc : Thread Cert.RefFfnsIdeal.nD Cert.RefFfnsIdeal.τ).loc Cert.RefFfnsIdeal.main_arg5) = m ((c.tc : Thread Cert.RefFfnsIdeal.nD Cert.RefFfnsIdeal.τ).loc Cert.RefFfnsIdeal.main_arg5)
      ∧ r.2.mem ((c.tc : Thread Cert.RefFfnsIdeal.nD Cert.RefFfnsIdeal.τ).loc Cert.RefFfnsIdeal.main_arg6) = m ((c.tc : Thread Cert.RefFfnsIdeal.nD Cert.RefFfnsIdeal.τ).loc Cert.RefFfnsIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3))
      ∧ r.2.sem = fun _ => 0)

def quiescent_Projs [hProjs : Cert.Projs.Facts] : Prop :=
  ∀ (m : (ℓ : Loc Cert.Projs.nD Cert.Projs.τ Cert.Projs.sig) → Buf (Elt Bits) ℓ) (g : Dev Cert.Projs.nD → PrngReg), Pre_Projs m →
    θ_run (Cert.Projs.defs (F := Bits)) (onTc (τ := Cert.Projs.τ) (Cert.Projs.main (F := Bits))) ⟨m, fun _ => 0, g⟩ (fun r => (∀ c : Dev Cert.Projs.nD,
      r.2.mem ((c.tc : Thread Cert.Projs.nD Cert.Projs.τ).loc Cert.Projs.main_arg0) = m ((c.tc : Thread Cert.Projs.nD Cert.Projs.τ).loc Cert.Projs.main_arg0)
      ∧ r.2.mem ((c.tc : Thread Cert.Projs.nD Cert.Projs.τ).loc Cert.Projs.main_arg1) = m ((c.tc : Thread Cert.Projs.nD Cert.Projs.τ).loc Cert.Projs.main_arg1)
      ∧ r.2.mem ((c.tc : Thread Cert.Projs.nD Cert.Projs.τ).loc Cert.Projs.main_arg2) = m ((c.tc : Thread Cert.Projs.nD Cert.Projs.τ).loc Cert.Projs.main_arg2)
      ∧ r.2.mem ((c.tc : Thread Cert.Projs.nD Cert.Projs.τ).loc Cert.Projs.main_arg3) = m ((c.tc : Thread Cert.Projs.nD Cert.Projs.τ).loc Cert.Projs.main_arg3))
      ∧ r.2.sem = fun _ => 0)

def quiescent_ProjsIdeal [hProjsIdeal : Cert.ProjsIdeal.Facts] : Prop :=
  ∀ (m : (ℓ : Loc Cert.ProjsIdeal.nD Cert.ProjsIdeal.τ Cert.ProjsIdeal.sig) → Buf (Elt Ideal) ℓ) (g : Dev Cert.ProjsIdeal.nD → PrngReg), Pre_ProjsIdeal m →
    θ_run (Cert.ProjsIdeal.defs (F := Ideal)) (onTc (τ := Cert.ProjsIdeal.τ) (Cert.ProjsIdeal.main (F := Ideal))) ⟨m, fun _ => 0, g⟩ (fun r => (∀ c : Dev Cert.ProjsIdeal.nD,
      r.2.mem ((c.tc : Thread Cert.ProjsIdeal.nD Cert.ProjsIdeal.τ).loc Cert.ProjsIdeal.main_arg0) = m ((c.tc : Thread Cert.ProjsIdeal.nD Cert.ProjsIdeal.τ).loc Cert.ProjsIdeal.main_arg0)
      ∧ r.2.mem ((c.tc : Thread Cert.ProjsIdeal.nD Cert.ProjsIdeal.τ).loc Cert.ProjsIdeal.main_arg1) = m ((c.tc : Thread Cert.ProjsIdeal.nD Cert.ProjsIdeal.τ).loc Cert.ProjsIdeal.main_arg1)
      ∧ r.2.mem ((c.tc : Thread Cert.ProjsIdeal.nD Cert.ProjsIdeal.τ).loc Cert.ProjsIdeal.main_arg2) = m ((c.tc : Thread Cert.ProjsIdeal.nD Cert.ProjsIdeal.τ).loc Cert.ProjsIdeal.main_arg2)
      ∧ r.2.mem ((c.tc : Thread Cert.ProjsIdeal.nD Cert.ProjsIdeal.τ).loc Cert.ProjsIdeal.main_arg3) = m ((c.tc : Thread Cert.ProjsIdeal.nD Cert.ProjsIdeal.τ).loc Cert.ProjsIdeal.main_arg3))
      ∧ r.2.sem = fun _ => 0)

def quiescent_RefProjsIdeal [hRefProjsIdeal : Cert.RefProjsIdeal.Facts] : Prop :=
  ∀ (m : (ℓ : Loc Cert.RefProjsIdeal.nD Cert.RefProjsIdeal.τ Cert.RefProjsIdeal.sig) → Buf (Elt Ideal) ℓ) (g : Dev Cert.RefProjsIdeal.nD → PrngReg), Pre_RefProjsIdeal m →
    θ_run (Cert.RefProjsIdeal.defs (F := Ideal)) (onTc (τ := Cert.RefProjsIdeal.τ) (Cert.RefProjsIdeal.main (F := Ideal))) ⟨m, fun _ => 0, g⟩ (fun r => (∀ c : Dev Cert.RefProjsIdeal.nD,
      r.2.mem ((c.tc : Thread Cert.RefProjsIdeal.nD Cert.RefProjsIdeal.τ).loc Cert.RefProjsIdeal.main_arg0) = m ((c.tc : Thread Cert.RefProjsIdeal.nD Cert.RefProjsIdeal.τ).loc Cert.RefProjsIdeal.main_arg0)
      ∧ r.2.mem ((c.tc : Thread Cert.RefProjsIdeal.nD Cert.RefProjsIdeal.τ).loc Cert.RefProjsIdeal.main_arg1) = m ((c.tc : Thread Cert.RefProjsIdeal.nD Cert.RefProjsIdeal.τ).loc Cert.RefProjsIdeal.main_arg1)
      ∧ r.2.mem ((c.tc : Thread Cert.RefProjsIdeal.nD Cert.RefProjsIdeal.τ).loc Cert.RefProjsIdeal.main_arg2) = m ((c.tc : Thread Cert.RefProjsIdeal.nD Cert.RefProjsIdeal.τ).loc Cert.RefProjsIdeal.main_arg2)
      ∧ r.2.mem ((c.tc : Thread Cert.RefProjsIdeal.nD Cert.RefProjsIdeal.τ).loc Cert.RefProjsIdeal.main_arg3) = m ((c.tc : Thread Cert.RefProjsIdeal.nD Cert.RefProjsIdeal.τ).loc Cert.RefProjsIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_slabs [hKernelIdeal : Cert.KernelIdeal.Facts] [hReferenceIdeal : Cert.ReferenceIdeal.Facts] [hPre_slabs : Cert.Pre_slabs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slabs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn1_Ffn1Ideal : Prop :=
  True

def algebraic_Ffn1Ideal_RefFfn1Ideal [hFfn1Ideal : Cert.Ffn1Ideal.Facts] [hRefFfn1Ideal : Cert.RefFfn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.RefFfn1Ideal.nD Cert.RefFfn1Ideal.τ Cert.RefFfn1Ideal.sig) → Buf (Elt Ideal) ℓ) (g' : Dev Cert.RefFfn1Ideal.nD → PrngReg), Pre_Ffn1Ideal m →
    (∀ c : Dev Cert.Ffn1Ideal.nD,
      m' ((c.tc : Thread Cert.RefFfn1Ideal.nD Cert.RefFfn1Ideal.τ).loc Cert.RefFfn1Ideal.main_arg0) = m ((c.tc : Thread Cert.Ffn1Ideal.nD Cert.Ffn1Ideal.τ).loc Cert.Ffn1Ideal.main_arg0)
      ∧ m' ((c.tc : Thread Cert.RefFfn1Ideal.nD Cert.RefFfn1Ideal.τ).loc Cert.RefFfn1Ideal.main_arg1) = m ((c.tc : Thread Cert.Ffn1Ideal.nD Cert.Ffn1Ideal.τ).loc Cert.Ffn1Ideal.main_arg1)
      ∧ m' ((c.tc : Thread Cert.RefFfn1Ideal.nD Cert.RefFfn1Ideal.τ).loc Cert.RefFfn1Ideal.main_arg2) = m ((c.tc : Thread Cert.Ffn1Ideal.nD Cert.Ffn1Ideal.τ).loc Cert.Ffn1Ideal.main_arg2)
      ∧ m' ((c.tc : Thread Cert.RefFfn1Ideal.nD Cert.RefFfn1Ideal.τ).loc Cert.RefFfn1Ideal.main_arg3) = m ((c.tc : Thread Cert.Ffn1Ideal.nD Cert.Ffn1Ideal.τ).loc Cert.Ffn1Ideal.main_arg3)
      ∧ m' ((c.tc : Thread Cert.RefFfn1Ideal.nD Cert.RefFfn1Ideal.τ).loc Cert.RefFfn1Ideal.main_arg4) = m ((c.tc : Thread Cert.Ffn1Ideal.nD Cert.Ffn1Ideal.τ).loc Cert.Ffn1Ideal.main_arg4)
      ∧ m' ((c.tc : Thread Cert.RefFfn1Ideal.nD Cert.RefFfn1Ideal.τ).loc Cert.RefFfn1Ideal.main_arg5) = m ((c.tc : Thread Cert.Ffn1Ideal.nD Cert.Ffn1Ideal.τ).loc Cert.Ffn1Ideal.main_arg5)
      ∧ m' ((c.tc : Thread Cert.RefFfn1Ideal.nD Cert.RefFfn1Ideal.τ).loc Cert.RefFfn1Ideal.main_arg6) = m ((c.tc : Thread Cert.Ffn1Ideal.nD Cert.Ffn1Ideal.τ).loc Cert.Ffn1Ideal.main_arg6)) →
    ∃ (v0 : (c : Dev Cert.Ffn1Ideal.nD) → Buf (Elt Ideal) ((c.tc : Thread Cert.Ffn1Ideal.nD Cert.Ffn1Ideal.τ).loc Cert.Ffn1Ideal.main_v8)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v8) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ θ_run (Cert.RefFfn1Ideal.defs (F := Ideal)) (onTc (τ := Cert.RefFfn1Ideal.τ) (Cert.RefFfn1Ideal.main (F := Ideal))) ⟨m', fun _ => 0, g'⟩ (fun r => ∀ c : Dev Cert.RefFfn1Ideal.nD,
          r.2.mem ((c.tc : Thread Cert.RefFfn1Ideal.nD Cert.RefFfn1Ideal.τ).loc Cert.RefFfn1Ideal.main_v42) = v0 c
          ∧ r.2.mem ((c.tc : Thread Cert.RefFfn1Ideal.nD Cert.RefFfn1Ideal.τ).loc Cert.RefFfn1Ideal.main_arg0) = m' ((c.tc : Thread Cert.RefFfn1Ideal.nD Cert.RefFfn1Ideal.τ).loc Cert.RefFfn1Ideal.main_arg0)
          ∧ r.2.mem ((c.tc : Thread Cert.RefFfn1Ideal.nD Cert.RefFfn1Ideal.τ).loc Cert.RefFfn1Ideal.main_arg1) = m' ((c.tc : Thread Cert.RefFfn1Ideal.nD Cert.RefFfn1Ideal.τ).loc Cert.RefFfn1Ideal.main_arg1)
          ∧ r.2.mem ((c.tc : Thread Cert.RefFfn1Ideal.nD Cert.RefFfn1Ideal.τ).loc Cert.RefFfn1Ideal.main_arg2) = m' ((c.tc : Thread Cert.RefFfn1Ideal.nD Cert.RefFfn1Ideal.τ).loc Cert.RefFfn1Ideal.main_arg2)
          ∧ r.2.mem ((c.tc : Thread Cert.RefFfn1Ideal.nD Cert.RefFfn1Ideal.τ).loc Cert.RefFfn1Ideal.main_arg3) = m' ((c.tc : Thread Cert.RefFfn1Ideal.nD Cert.RefFfn1Ideal.τ).loc Cert.RefFfn1Ideal.main_arg3)
          ∧ r.2.mem ((c.tc : Thread Cert.RefFfn1Ideal.nD Cert.RefFfn1Ideal.τ).loc Cert.RefFfn1Ideal.main_arg4) = m' ((c.tc : Thread Cert.RefFfn1Ideal.nD Cert.RefFfn1Ideal.τ).loc Cert.RefFfn1Ideal.main_arg4)
          ∧ r.2.mem ((c.tc : Thread Cert.RefFfn1Ideal.nD Cert.RefFfn1Ideal.τ).loc Cert.RefFfn1Ideal.main_arg5) = m' ((c.tc : Thread Cert.RefFfn1Ideal.nD Cert.RefFfn1Ideal.τ).loc Cert.RefFfn1Ideal.main_arg5)
          ∧ r.2.mem ((c.tc : Thread Cert.RefFfn1Ideal.nD Cert.RefFfn1Ideal.τ).loc Cert.RefFfn1Ideal.main_arg6) = m' ((c.tc : Thread Cert.RefFfn1Ideal.nD Cert.RefFfn1Ideal.τ).loc Cert.RefFfn1Ideal.main_arg6))

def preserves_Ffn0_Ffn0Ideal : Prop :=
  True

def algebraic_Ffn0Ideal_RefFfn0Ideal [hFfn0Ideal : Cert.Ffn0Ideal.Facts] [hRefFfn0Ideal : Cert.RefFfn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.RefFfn0Ideal.nD Cert.RefFfn0Ideal.τ Cert.RefFfn0Ideal.sig) → Buf (Elt Ideal) ℓ) (g' : Dev Cert.RefFfn0Ideal.nD → PrngReg), Pre_Ffn0Ideal m →
    (∀ c : Dev Cert.Ffn0Ideal.nD,
      m' ((c.tc : Thread Cert.RefFfn0Ideal.nD Cert.RefFfn0Ideal.τ).loc Cert.RefFfn0Ideal.main_arg0) = m ((c.tc : Thread Cert.Ffn0Ideal.nD Cert.Ffn0Ideal.τ).loc Cert.Ffn0Ideal.main_arg0)
      ∧ m' ((c.tc : Thread Cert.RefFfn0Ideal.nD Cert.RefFfn0Ideal.τ).loc Cert.RefFfn0Ideal.main_arg1) = m ((c.tc : Thread Cert.Ffn0Ideal.nD Cert.Ffn0Ideal.τ).loc Cert.Ffn0Ideal.main_arg1)
      ∧ m' ((c.tc : Thread Cert.RefFfn0Ideal.nD Cert.RefFfn0Ideal.τ).loc Cert.RefFfn0Ideal.main_arg2) = m ((c.tc : Thread Cert.Ffn0Ideal.nD Cert.Ffn0Ideal.τ).loc Cert.Ffn0Ideal.main_arg2)
      ∧ m' ((c.tc : Thread Cert.RefFfn0Ideal.nD Cert.RefFfn0Ideal.τ).loc Cert.RefFfn0Ideal.main_arg3) = m ((c.tc : Thread Cert.Ffn0Ideal.nD Cert.Ffn0Ideal.τ).loc Cert.Ffn0Ideal.main_arg3)
      ∧ m' ((c.tc : Thread Cert.RefFfn0Ideal.nD Cert.RefFfn0Ideal.τ).loc Cert.RefFfn0Ideal.main_arg4) = m ((c.tc : Thread Cert.Ffn0Ideal.nD Cert.Ffn0Ideal.τ).loc Cert.Ffn0Ideal.main_arg4)
      ∧ m' ((c.tc : Thread Cert.RefFfn0Ideal.nD Cert.RefFfn0Ideal.τ).loc Cert.RefFfn0Ideal.main_arg5) = m ((c.tc : Thread Cert.Ffn0Ideal.nD Cert.Ffn0Ideal.τ).loc Cert.Ffn0Ideal.main_arg5)
      ∧ m' ((c.tc : Thread Cert.RefFfn0Ideal.nD Cert.RefFfn0Ideal.τ).loc Cert.RefFfn0Ideal.main_arg6) = m ((c.tc : Thread Cert.Ffn0Ideal.nD Cert.Ffn0Ideal.τ).loc Cert.Ffn0Ideal.main_arg6)
      ∧ m' ((c.tc : Thread Cert.RefFfn0Ideal.nD Cert.RefFfn0Ideal.τ).loc Cert.RefFfn0Ideal.main_arg7) = m ((c.tc : Thread Cert.Ffn0Ideal.nD Cert.Ffn0Ideal.τ).loc Cert.Ffn0Ideal.main_arg7)
      ∧ m' ((c.tc : Thread Cert.RefFfn0Ideal.nD Cert.RefFfn0Ideal.τ).loc Cert.RefFfn0Ideal.main_arg8) = m ((c.tc : Thread Cert.Ffn0Ideal.nD Cert.Ffn0Ideal.τ).loc Cert.Ffn0Ideal.main_arg8)) →
    ∃ (v0 : (c : Dev Cert.Ffn0Ideal.nD) → Buf (Elt Ideal) ((c.tc : Thread Cert.Ffn0Ideal.nD Cert.Ffn0Ideal.τ).loc Cert.Ffn0Ideal.main_v13)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v13) = v0 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
          ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
          ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7)
          ∧ r.2.mem ((c.tc : Thread Cert.Ffn0Ideal.nD Cert.Ffn0Ideal.τ).loc Cert.Ffn0Ideal.main_arg8) = m ((c.tc : Thread Cert.Ffn0Ideal.nD Cert.Ffn0Ideal.τ).loc Cert.Ffn0Ideal.main_arg8))
      ∧ θ_run (Cert.RefFfn0Ideal.defs (F := Ideal)) (onTc (τ := Cert.RefFfn0Ideal.τ) (Cert.RefFfn0Ideal.main (F := Ideal))) ⟨m', fun _ => 0, g'⟩ (fun r => ∀ c : Dev Cert.RefFfn0Ideal.nD,
          r.2.mem ((c.tc : Thread Cert.RefFfn0Ideal.nD Cert.RefFfn0Ideal.τ).loc Cert.RefFfn0Ideal.main_v59) = v0 c
          ∧ r.2.mem ((c.tc : Thread Cert.RefFfn0Ideal.nD Cert.RefFfn0Ideal.τ).loc Cert.RefFfn0Ideal.main_arg0) = m' ((c.tc : Thread Cert.RefFfn0Ideal.nD Cert.RefFfn0Ideal.τ).loc Cert.RefFfn0Ideal.main_arg0)
          ∧ r.2.mem ((c.tc : Thread Cert.RefFfn0Ideal.nD Cert.RefFfn0Ideal.τ).loc Cert.RefFfn0Ideal.main_arg1) = m' ((c.tc : Thread Cert.RefFfn0Ideal.nD Cert.RefFfn0Ideal.τ).loc Cert.RefFfn0Ideal.main_arg1)
          ∧ r.2.mem ((c.tc : Thread Cert.RefFfn0Ideal.nD Cert.RefFfn0Ideal.τ).loc Cert.RefFfn0Ideal.main_arg2) = m' ((c.tc : Thread Cert.RefFfn0Ideal.nD Cert.RefFfn0Ideal.τ).loc Cert.RefFfn0Ideal.main_arg2)
          ∧ r.2.mem ((c.tc : Thread Cert.RefFfn0Ideal.nD Cert.RefFfn0Ideal.τ).loc Cert.RefFfn0Ideal.main_arg3) = m' ((c.tc : Thread Cert.RefFfn0Ideal.nD Cert.RefFfn0Ideal.τ).loc Cert.RefFfn0Ideal.main_arg3)
          ∧ r.2.mem ((c.tc : Thread Cert.RefFfn0Ideal.nD Cert.RefFfn0Ideal.τ).loc Cert.RefFfn0Ideal.main_arg4) = m' ((c.tc : Thread Cert.RefFfn0Ideal.nD Cert.RefFfn0Ideal.τ).loc Cert.RefFfn0Ideal.main_arg4)
          ∧ r.2.mem ((c.tc : Thread Cert.RefFfn0Ideal.nD Cert.RefFfn0Ideal.τ).loc Cert.RefFfn0Ideal.main_arg5) = m' ((c.tc : Thread Cert.RefFfn0Ideal.nD Cert.RefFfn0Ideal.τ).loc Cert.RefFfn0Ideal.main_arg5)
          ∧ r.2.mem ((c.tc : Thread Cert.RefFfn0Ideal.nD Cert.RefFfn0Ideal.τ).loc Cert.RefFfn0Ideal.main_arg6) = m' ((c.tc : Thread Cert.RefFfn0Ideal.nD Cert.RefFfn0Ideal.τ).loc Cert.RefFfn0Ideal.main_arg6)
          ∧ r.2.mem ((c.tc : Thread Cert.RefFfn0Ideal.nD Cert.RefFfn0Ideal.τ).loc Cert.RefFfn0Ideal.main_arg7) = m' ((c.tc : Thread Cert.RefFfn0Ideal.nD Cert.RefFfn0Ideal.τ).loc Cert.RefFfn0Ideal.main_arg7)
          ∧ r.2.mem ((c.tc : Thread Cert.RefFfn0Ideal.nD Cert.RefFfn0Ideal.τ).loc Cert.RefFfn0Ideal.main_arg8) = m' ((c.tc : Thread Cert.RefFfn0Ideal.nD Cert.RefFfn0Ideal.τ).loc Cert.RefFfn0Ideal.main_arg8))

def preserves_Ffns_FfnsIdeal : Prop :=
  True

def algebraic_FfnsIdeal_RefFfnsIdeal [hFfnsIdeal : Cert.FfnsIdeal.Facts] [hRefFfnsIdeal : Cert.RefFfnsIdeal.Facts] : Prop :=
  ∀ (m : (ℓ : Loc Cert.FfnsIdeal.nD Cert.FfnsIdeal.τ Cert.FfnsIdeal.sig) → Buf (Elt Ideal) ℓ) (g : Dev Cert.FfnsIdeal.nD → PrngReg)
    (m' : (ℓ : Loc Cert.RefFfnsIdeal.nD Cert.RefFfnsIdeal.τ Cert.RefFfnsIdeal.sig) → Buf (Elt Ideal) ℓ) (g' : Dev Cert.RefFfnsIdeal.nD → PrngReg), Pre_FfnsIdeal m →
    (∀ c : Dev Cert.FfnsIdeal.nD,
      m' ((c.tc : Thread Cert.RefFfnsIdeal.nD Cert.RefFfnsIdeal.τ).loc Cert.RefFfnsIdeal.main_arg0) = m ((c.tc : Thread Cert.FfnsIdeal.nD Cert.FfnsIdeal.τ).loc Cert.FfnsIdeal.main_arg0)
      ∧ m' ((c.tc : Thread Cert.RefFfnsIdeal.nD Cert.RefFfnsIdeal.τ).loc Cert.RefFfnsIdeal.main_arg1) = m ((c.tc : Thread Cert.FfnsIdeal.nD Cert.FfnsIdeal.τ).loc Cert.FfnsIdeal.main_arg1)
      ∧ m' ((c.tc : Thread Cert.RefFfnsIdeal.nD Cert.RefFfnsIdeal.τ).loc Cert.RefFfnsIdeal.main_arg2) = m ((c.tc : Thread Cert.FfnsIdeal.nD Cert.FfnsIdeal.τ).loc Cert.FfnsIdeal.main_arg2)
      ∧ m' ((c.tc : Thread Cert.RefFfnsIdeal.nD Cert.RefFfnsIdeal.τ).loc Cert.RefFfnsIdeal.main_arg3) = m ((c.tc : Thread Cert.FfnsIdeal.nD Cert.FfnsIdeal.τ).loc Cert.FfnsIdeal.main_arg3)
      ∧ m' ((c.tc : Thread Cert.RefFfnsIdeal.nD Cert.RefFfnsIdeal.τ).loc Cert.RefFfnsIdeal.main_arg4) = m ((c.tc : Thread Cert.FfnsIdeal.nD Cert.FfnsIdeal.τ).loc Cert.FfnsIdeal.main_arg4)
      ∧ m' ((c.tc : Thread Cert.RefFfnsIdeal.nD Cert.RefFfnsIdeal.τ).loc Cert.RefFfnsIdeal.main_arg5) = m ((c.tc : Thread Cert.FfnsIdeal.nD Cert.FfnsIdeal.τ).loc Cert.FfnsIdeal.main_arg5)
      ∧ m' ((c.tc : Thread Cert.RefFfnsIdeal.nD Cert.RefFfnsIdeal.τ).loc Cert.RefFfnsIdeal.main_arg6) = m ((c.tc : Thread Cert.FfnsIdeal.nD Cert.FfnsIdeal.τ).loc Cert.FfnsIdeal.main_arg6)) →
    ∃ (v0 : (c : Dev Cert.FfnsIdeal.nD) → Buf (Elt Ideal) ((c.tc : Thread Cert.FfnsIdeal.nD Cert.FfnsIdeal.τ).loc Cert.FfnsIdeal.main_v8)),
      θ_run (Cert.FfnsIdeal.defs (F := Ideal)) (onTc (τ := Cert.FfnsIdeal.τ) (Cert.FfnsIdeal.main (F := Ideal))) ⟨m, fun _ => 0, g⟩ (fun r => ∀ c : Dev Cert.FfnsIdeal.nD,
          r.2.mem ((c.tc : Thread Cert.FfnsIdeal.nD Cert.FfnsIdeal.τ).loc Cert.FfnsIdeal.main_v8) = v0 c
          ∧ r.2.mem ((c.tc : Thread Cert.FfnsIdeal.nD Cert.FfnsIdeal.τ).loc Cert.FfnsIdeal.main_arg0) = m ((c.tc : Thread Cert.FfnsIdeal.nD Cert.FfnsIdeal.τ).loc Cert.FfnsIdeal.main_arg0)
          ∧ r.2.mem ((c.tc : Thread Cert.FfnsIdeal.nD Cert.FfnsIdeal.τ).loc Cert.FfnsIdeal.main_arg1) = m ((c.tc : Thread Cert.FfnsIdeal.nD Cert.FfnsIdeal.τ).loc Cert.FfnsIdeal.main_arg1)
          ∧ r.2.mem ((c.tc : Thread Cert.FfnsIdeal.nD Cert.FfnsIdeal.τ).loc Cert.FfnsIdeal.main_arg2) = m ((c.tc : Thread Cert.FfnsIdeal.nD Cert.FfnsIdeal.τ).loc Cert.FfnsIdeal.main_arg2)
          ∧ r.2.mem ((c.tc : Thread Cert.FfnsIdeal.nD Cert.FfnsIdeal.τ).loc Cert.FfnsIdeal.main_arg3) = m ((c.tc : Thread Cert.FfnsIdeal.nD Cert.FfnsIdeal.τ).loc Cert.FfnsIdeal.main_arg3)
          ∧ r.2.mem ((c.tc : Thread Cert.FfnsIdeal.nD Cert.FfnsIdeal.τ).loc Cert.FfnsIdeal.main_arg4) = m ((c.tc : Thread Cert.FfnsIdeal.nD Cert.FfnsIdeal.τ).loc Cert.FfnsIdeal.main_arg4)
          ∧ r.2.mem ((c.tc : Thread Cert.FfnsIdeal.nD Cert.FfnsIdeal.τ).loc Cert.FfnsIdeal.main_arg5) = m ((c.tc : Thread Cert.FfnsIdeal.nD Cert.FfnsIdeal.τ).loc Cert.FfnsIdeal.main_arg5)
          ∧ r.2.mem ((c.tc : Thread Cert.FfnsIdeal.nD Cert.FfnsIdeal.τ).loc Cert.FfnsIdeal.main_arg6) = m ((c.tc : Thread Cert.FfnsIdeal.nD Cert.FfnsIdeal.τ).loc Cert.FfnsIdeal.main_arg6))
      ∧ θ_run (Cert.RefFfnsIdeal.defs (F := Ideal)) (onTc (τ := Cert.RefFfnsIdeal.τ) (Cert.RefFfnsIdeal.main (F := Ideal))) ⟨m', fun _ => 0, g'⟩ (fun r => ∀ c : Dev Cert.RefFfnsIdeal.nD,
          r.2.mem ((c.tc : Thread Cert.RefFfnsIdeal.nD Cert.RefFfnsIdeal.τ).loc Cert.RefFfnsIdeal.main_v41) = v0 c
          ∧ r.2.mem ((c.tc : Thread Cert.RefFfnsIdeal.nD Cert.RefFfnsIdeal.τ).loc Cert.RefFfnsIdeal.main_arg0) = m' ((c.tc : Thread Cert.RefFfnsIdeal.nD Cert.RefFfnsIdeal.τ).loc Cert.RefFfnsIdeal.main_arg0)
          ∧ r.2.mem ((c.tc : Thread Cert.RefFfnsIdeal.nD Cert.RefFfnsIdeal.τ).loc Cert.RefFfnsIdeal.main_arg1) = m' ((c.tc : Thread Cert.RefFfnsIdeal.nD Cert.RefFfnsIdeal.τ).loc Cert.RefFfnsIdeal.main_arg1)
          ∧ r.2.mem ((c.tc : Thread Cert.RefFfnsIdeal.nD Cert.RefFfnsIdeal.τ).loc Cert.RefFfnsIdeal.main_arg2) = m' ((c.tc : Thread Cert.RefFfnsIdeal.nD Cert.RefFfnsIdeal.τ).loc Cert.RefFfnsIdeal.main_arg2)
          ∧ r.2.mem ((c.tc : Thread Cert.RefFfnsIdeal.nD Cert.RefFfnsIdeal.τ).loc Cert.RefFfnsIdeal.main_arg3) = m' ((c.tc : Thread Cert.RefFfnsIdeal.nD Cert.RefFfnsIdeal.τ).loc Cert.RefFfnsIdeal.main_arg3)
          ∧ r.2.mem ((c.tc : Thread Cert.RefFfnsIdeal.nD Cert.RefFfnsIdeal.τ).loc Cert.RefFfnsIdeal.main_arg4) = m' ((c.tc : Thread Cert.RefFfnsIdeal.nD Cert.RefFfnsIdeal.τ).loc Cert.RefFfnsIdeal.main_arg4)
          ∧ r.2.mem ((c.tc : Thread Cert.RefFfnsIdeal.nD Cert.RefFfnsIdeal.τ).loc Cert.RefFfnsIdeal.main_arg5) = m' ((c.tc : Thread Cert.RefFfnsIdeal.nD Cert.RefFfnsIdeal.τ).loc Cert.RefFfnsIdeal.main_arg5)
          ∧ r.2.mem ((c.tc : Thread Cert.RefFfnsIdeal.nD Cert.RefFfnsIdeal.τ).loc Cert.RefFfnsIdeal.main_arg6) = m' ((c.tc : Thread Cert.RefFfnsIdeal.nD Cert.RefFfnsIdeal.τ).loc Cert.RefFfnsIdeal.main_arg6))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v26) = v0 c
          ∧ r.2.mem ((c.tc : Thread Cert.RefProjIdeal.nD Cert.RefProjIdeal.τ).loc Cert.RefProjIdeal.main_v27) = v1 c
          ∧ r.2.mem ((c.tc : Thread Cert.RefProjIdeal.nD Cert.RefProjIdeal.τ).loc Cert.RefProjIdeal.main_v28) = v2 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3))

def preserves_Projs_ProjsIdeal : Prop :=
  True

def algebraic_ProjsIdeal_RefProjsIdeal [hProjsIdeal : Cert.ProjsIdeal.Facts] [hRefProjsIdeal : Cert.RefProjsIdeal.Facts] : Prop :=
  ∀ (m : (ℓ : Loc Cert.ProjsIdeal.nD Cert.ProjsIdeal.τ Cert.ProjsIdeal.sig) → Buf (Elt Ideal) ℓ) (g : Dev Cert.ProjsIdeal.nD → PrngReg)
    (m' : (ℓ : Loc Cert.RefProjsIdeal.nD Cert.RefProjsIdeal.τ Cert.RefProjsIdeal.sig) → Buf (Elt Ideal) ℓ) (g' : Dev Cert.RefProjsIdeal.nD → PrngReg), Pre_ProjsIdeal m →
    (∀ c : Dev Cert.ProjsIdeal.nD,
      m' ((c.tc : Thread Cert.RefProjsIdeal.nD Cert.RefProjsIdeal.τ).loc Cert.RefProjsIdeal.main_arg0) = m ((c.tc : Thread Cert.ProjsIdeal.nD Cert.ProjsIdeal.τ).loc Cert.ProjsIdeal.main_arg0)
      ∧ m' ((c.tc : Thread Cert.RefProjsIdeal.nD Cert.RefProjsIdeal.τ).loc Cert.RefProjsIdeal.main_arg1) = m ((c.tc : Thread Cert.ProjsIdeal.nD Cert.ProjsIdeal.τ).loc Cert.ProjsIdeal.main_arg1)
      ∧ m' ((c.tc : Thread Cert.RefProjsIdeal.nD Cert.RefProjsIdeal.τ).loc Cert.RefProjsIdeal.main_arg2) = m ((c.tc : Thread Cert.ProjsIdeal.nD Cert.ProjsIdeal.τ).loc Cert.ProjsIdeal.main_arg2)
      ∧ m' ((c.tc : Thread Cert.RefProjsIdeal.nD Cert.RefProjsIdeal.τ).loc Cert.RefProjsIdeal.main_arg3) = m ((c.tc : Thread Cert.ProjsIdeal.nD Cert.ProjsIdeal.τ).loc Cert.ProjsIdeal.main_arg3)) →
    ∃ (v0 : (c : Dev Cert.ProjsIdeal.nD) → Buf (Elt Ideal) ((c.tc : Thread Cert.ProjsIdeal.nD Cert.ProjsIdeal.τ).loc Cert.ProjsIdeal.main_v14_1)) (v1 : (c : Dev Cert.ProjsIdeal.nD) → Buf (Elt Ideal) ((c.tc : Thread Cert.ProjsIdeal.nD Cert.ProjsIdeal.τ).loc Cert.ProjsIdeal.main_v14_2)) (v2 : (c : Dev Cert.ProjsIdeal.nD) → Buf (Elt Ideal) ((c.tc : Thread Cert.ProjsIdeal.nD Cert.ProjsIdeal.τ).loc Cert.ProjsIdeal.main_v14_3)),
      θ_run (Cert.ProjsIdeal.defs (F := Ideal)) (onTc (τ := Cert.ProjsIdeal.τ) (Cert.ProjsIdeal.main (F := Ideal))) ⟨m, fun _ => 0, g⟩ (fun r => ∀ c : Dev Cert.ProjsIdeal.nD,
          r.2.mem ((c.tc : Thread Cert.ProjsIdeal.nD Cert.ProjsIdeal.τ).loc Cert.ProjsIdeal.main_v14_1) = v0 c
          ∧ r.2.mem ((c.tc : Thread Cert.ProjsIdeal.nD Cert.ProjsIdeal.τ).loc Cert.ProjsIdeal.main_v14_2) = v1 c
          ∧ r.2.mem ((c.tc : Thread Cert.ProjsIdeal.nD Cert.ProjsIdeal.τ).loc Cert.ProjsIdeal.main_v14_3) = v2 c
          ∧ r.2.mem ((c.tc : Thread Cert.ProjsIdeal.nD Cert.ProjsIdeal.τ).loc Cert.ProjsIdeal.main_arg0) = m ((c.tc : Thread Cert.ProjsIdeal.nD Cert.ProjsIdeal.τ).loc Cert.ProjsIdeal.main_arg0)
          ∧ r.2.mem ((c.tc : Thread Cert.ProjsIdeal.nD Cert.ProjsIdeal.τ).loc Cert.ProjsIdeal.main_arg1) = m ((c.tc : Thread Cert.ProjsIdeal.nD Cert.ProjsIdeal.τ).loc Cert.ProjsIdeal.main_arg1)
          ∧ r.2.mem ((c.tc : Thread Cert.ProjsIdeal.nD Cert.ProjsIdeal.τ).loc Cert.ProjsIdeal.main_arg2) = m ((c.tc : Thread Cert.ProjsIdeal.nD Cert.ProjsIdeal.τ).loc Cert.ProjsIdeal.main_arg2)
          ∧ r.2.mem ((c.tc : Thread Cert.ProjsIdeal.nD Cert.ProjsIdeal.τ).loc Cert.ProjsIdeal.main_arg3) = m ((c.tc : Thread Cert.ProjsIdeal.nD Cert.ProjsIdeal.τ).loc Cert.ProjsIdeal.main_arg3))
      ∧ θ_run (Cert.RefProjsIdeal.defs (F := Ideal)) (onTc (τ := Cert.RefProjsIdeal.τ) (Cert.RefProjsIdeal.main (F := Ideal))) ⟨m', fun _ => 0, g'⟩ (fun r => ∀ c : Dev Cert.RefProjsIdeal.nD,
          r.2.mem ((c.tc : Thread Cert.RefProjsIdeal.nD Cert.RefProjsIdeal.τ).loc Cert.RefProjsIdeal.main_v25) = v0 c
          ∧ r.2.mem ((c.tc : Thread Cert.RefProjsIdeal.nD Cert.RefProjsIdeal.τ).loc Cert.RefProjsIdeal.main_v26) = v1 c
          ∧ r.2.mem ((c.tc : Thread Cert.RefProjsIdeal.nD Cert.RefProjsIdeal.τ).loc Cert.RefProjsIdeal.main_v28) = v2 c
          ∧ r.2.mem ((c.tc : Thread Cert.RefProjsIdeal.nD Cert.RefProjsIdeal.τ).loc Cert.RefProjsIdeal.main_arg0) = m' ((c.tc : Thread Cert.RefProjsIdeal.nD Cert.RefProjsIdeal.τ).loc Cert.RefProjsIdeal.main_arg0)
          ∧ r.2.mem ((c.tc : Thread Cert.RefProjsIdeal.nD Cert.RefProjsIdeal.τ).loc Cert.RefProjsIdeal.main_arg1) = m' ((c.tc : Thread Cert.RefProjsIdeal.nD Cert.RefProjsIdeal.τ).loc Cert.RefProjsIdeal.main_arg1)
          ∧ r.2.mem ((c.tc : Thread Cert.RefProjsIdeal.nD Cert.RefProjsIdeal.τ).loc Cert.RefProjsIdeal.main_arg2) = m' ((c.tc : Thread Cert.RefProjsIdeal.nD Cert.RefProjsIdeal.τ).loc Cert.RefProjsIdeal.main_arg2)
          ∧ r.2.mem ((c.tc : Thread Cert.RefProjsIdeal.nD Cert.RefProjsIdeal.τ).loc Cert.RefProjsIdeal.main_arg3) = m' ((c.tc : Thread Cert.RefProjsIdeal.nD Cert.RefProjsIdeal.τ).loc Cert.RefProjsIdeal.main_arg3))

def Claim : Prop :=
  ∃ (hKernel : Cert.Kernel.Facts) (hKernelIdeal : Cert.KernelIdeal.Facts) (hReferenceIdeal : Cert.ReferenceIdeal.Facts) (hFfn1 : Cert.Ffn1.Facts) (hFfn1Ideal : Cert.Ffn1Ideal.Facts) (hRefFfn1Ideal : Cert.RefFfn1Ideal.Facts) (hFfn0 : Cert.Ffn0.Facts) (hFfn0Ideal : Cert.Ffn0Ideal.Facts) (hRefFfn0Ideal : Cert.RefFfn0Ideal.Facts) (hFfns : Cert.Ffns.Facts) (hFfnsIdeal : Cert.FfnsIdeal.Facts) (hRefFfnsIdeal : Cert.RefFfnsIdeal.Facts) (hProj : Cert.Proj.Facts) (hProjIdeal : Cert.ProjIdeal.Facts) (hRefProjIdeal : Cert.RefProjIdeal.Facts) (hProjs : Cert.Projs.Facts) (hProjsIdeal : Cert.ProjsIdeal.Facts) (hRefProjsIdeal : Cert.RefProjsIdeal.Facts) (hPre_slabs : Cert.Pre_slabs.Facts),
    quiescent_Kernel (hKernel := hKernel)
    ∧ quiescent_KernelIdeal (hKernelIdeal := hKernelIdeal)
    ∧ quiescent_KernelIdeal_pre_slabs (hKernelIdeal := hKernelIdeal) (hPre_slabs := hPre_slabs)
    ∧ quiescent_ReferenceIdeal (hReferenceIdeal := hReferenceIdeal)
    ∧ quiescent_ReferenceIdeal_pre_slabs (hReferenceIdeal := hReferenceIdeal) (hPre_slabs := hPre_slabs)
    ∧ quiescent_Ffn1 (hFfn1 := hFfn1)
    ∧ quiescent_Ffn1Ideal (hFfn1Ideal := hFfn1Ideal)
    ∧ quiescent_RefFfn1Ideal (hRefFfn1Ideal := hRefFfn1Ideal)
    ∧ quiescent_Ffn0 (hFfn0 := hFfn0)
    ∧ quiescent_Ffn0Ideal (hFfn0Ideal := hFfn0Ideal)
    ∧ quiescent_RefFfn0Ideal (hRefFfn0Ideal := hRefFfn0Ideal)
    ∧ quiescent_Ffns (hFfns := hFfns)
    ∧ quiescent_FfnsIdeal (hFfnsIdeal := hFfnsIdeal)
    ∧ quiescent_RefFfnsIdeal (hRefFfnsIdeal := hRefFfnsIdeal)
    ∧ quiescent_Proj (hProj := hProj)
    ∧ quiescent_ProjIdeal (hProjIdeal := hProjIdeal)
    ∧ quiescent_RefProjIdeal (hRefProjIdeal := hRefProjIdeal)
    ∧ quiescent_Projs (hProjs := hProjs)
    ∧ quiescent_ProjsIdeal (hProjsIdeal := hProjsIdeal)
    ∧ quiescent_RefProjsIdeal (hRefProjsIdeal := hRefProjsIdeal)
    ∧ preserves_Kernel_KernelIdeal
    ∧ algebraic_KernelIdeal_ReferenceIdeal_pre_slabs (hKernelIdeal := hKernelIdeal) (hReferenceIdeal := hReferenceIdeal) (hPre_slabs := hPre_slabs)
    ∧ preserves_Ffn1_Ffn1Ideal
    ∧ algebraic_Ffn1Ideal_RefFfn1Ideal (hFfn1Ideal := hFfn1Ideal) (hRefFfn1Ideal := hRefFfn1Ideal)
    ∧ preserves_Ffn0_Ffn0Ideal
    ∧ algebraic_Ffn0Ideal_RefFfn0Ideal (hFfn0Ideal := hFfn0Ideal) (hRefFfn0Ideal := hRefFfn0Ideal)
    ∧ preserves_Ffns_FfnsIdeal
    ∧ algebraic_FfnsIdeal_RefFfnsIdeal (hFfnsIdeal := hFfnsIdeal) (hRefFfnsIdeal := hRefFfnsIdeal)
    ∧ preserves_Proj_ProjIdeal
    ∧ algebraic_ProjIdeal_RefProjIdeal (hProjIdeal := hProjIdeal) (hRefProjIdeal := hRefProjIdeal)
    ∧ preserves_Projs_ProjsIdeal
    ∧ algebraic_ProjsIdeal_RefProjsIdeal (hProjsIdeal := hProjsIdeal) (hRefProjsIdeal := hRefProjsIdeal)
-- ==== Pre_slabs.lean ====
abbrev S2x16x128x8192 : Shape := ⟨4, ![2, 16, 128, 8192]⟩
abbrev S2x16x80x8192 : Shape := ⟨4, ![2, 16, 80, 8192]⟩
abbrev S_ : Shape := ⟨0, ![]⟩
abbrev S2x16x3x8192 : Shape := ⟨4, ![2, 16, 3, 8192]⟩
abbrev S2x16x61x8192 : Shape := ⟨4, ![2, 16, 61, 8192]⟩
abbrev S2x16x1x8192 : Shape := ⟨4, ![2, 16, 1, 8192]⟩
abbrev S2x16x8192 : Shape := ⟨3, ![2, 16, 8192]⟩

class Facts : Prop where
  bitsLt_bf16_f32 : FTy.bits .bf16 < FTy.bits .f32
  bcast_S_S2x16x128x8192 : S_.BroadcastsInDim S2x16x128x8192 (![] : Fin 0 → Fin S2x16x128x8192.rank)
  reducesTo_S2x16x128x8192_S_d0_1_2_3 : S2x16x128x8192.ReducesTo [0, 1, 2, 3] S_
  h_S_ : 0 < S_.numel
  bcast_S_S2x16x80x8192 : S_.BroadcastsInDim S2x16x80x8192 (![] : Fin 0 → Fin S2x16x80x8192.rank)
  reducesTo_S2x16x80x8192_S_d0_1_2_3 : S2x16x80x8192.ReducesTo [0, 1, 2, 3] S_
  slices_S2x16x128x8192_S2x16x3x8192_0_0_64_0 : S2x16x128x8192.Slices ![0, 0, 64, 0] S2x16x3x8192
  bcast_S_S2x16x3x8192 : S_.BroadcastsInDim S2x16x3x8192 (![] : Fin 0 → Fin S2x16x3x8192.rank)
  reducesTo_S2x16x3x8192_S_d0_1_2_3 : S2x16x3x8192.ReducesTo [0, 1, 2, 3] S_
  slices_S2x16x128x8192_S2x16x61x8192_0_0_67_0 : S2x16x128x8192.Slices ![0, 0, 67, 0] S2x16x61x8192
  bcast_S_S2x16x61x8192 : S_.BroadcastsInDim S2x16x61x8192 (![] : Fin 0 → Fin S2x16x61x8192.rank)
  reducesTo_S2x16x61x8192_S_d0_1_2_3 : S2x16x61x8192.ReducesTo [0, 1, 2, 3] S_
  slices_S2x16x80x8192_S2x16x1x8192_0_0_64_0 : S2x16x80x8192.Slices ![0, 0, 64, 0] S2x16x1x8192
  shapeCasts_S2x16x1x8192_S2x16x8192 : S2x16x1x8192.ShapeCasts S2x16x8192
  bcast_S_S2x16x8192 : S_.BroadcastsInDim S2x16x8192 (![] : Fin 0 → Fin S2x16x8192.rank)
  reducesTo_S2x16x8192_S_d0_1_2 : S2x16x8192.ReducesTo [0, 1, 2] S_

variable [Facts]

def fn_part1 {F : FTy → Type} [FloatOps F] (main_arg0 : FVec F S2x16x128x8192 .bf16) (main_arg2 : FVec F S2x16x80x8192 .bf16) (main_v16 : IVec S_ 1) (main_v17 : FVec F S2x16x3x8192 .bf16) : IVec S_ 1 :=
  let main_v18 : FVec F S2x16x3x8192 .f32 := (extf .f32 · bitsLt_bf16_f32) main_v17
  let main_cst_4 : FVec F S_ .f32 := constant S_ .f32 0xBF800000#32
  let main_v19 : FVec F S2x16x3x8192 .f32 := broadcastInDim S2x16x3x8192 ![] bcast_S_S2x16x3x8192 main_cst_4
  let main_v20 : IVec S2x16x3x8192 1 := cmpf .oeq main_v18 main_v19
  let main_c_5 : IVec S_ 1 := constantI S_ 1 1#1
  let main_v21 : IVec S_ 1 := (fun x v => Host.reduce IntOp.andi x v reducesTo_S2x16x3x8192_S_d0_1_2_3 h_S_) main_v20 main_c_5
  let main_v22 : IVec S_ 1 := andi main_v16 main_v21
  let main_v23 : FVec F S2x16x61x8192 .bf16 := (extractStridedSlice S2x16x61x8192 ![0, 0, 67, 0] · slices_S2x16x128x8192_S2x16x61x8192_0_0_67_0) main_arg0
  let main_v24 : FVec F S2x16x61x8192 .f32 := (extf .f32 · bitsLt_bf16_f32) main_v23
  let main_cst_6 : FVec F S_ .f32 := constant S_ .f32 0x00000000#32
  let main_v25 : FVec F S2x16x61x8192 .f32 := broadcastInDim S2x16x61x8192 ![] bcast_S_S2x16x61x8192 main_cst_6
  let main_v26 : IVec S2x16x61x8192 1 := cmpf .oeq main_v24 main_v25
  let main_c_7 : IVec S_ 1 := constantI S_ 1 1#1
  let main_v27 : IVec S_ 1 := (fun x v => Host.reduce IntOp.andi x v reducesTo_S2x16x61x8192_S_d0_1_2_3 h_S_) main_v26 main_c_7
  let main_v28 : IVec S_ 1 := andi main_v22 main_v27
  let main_v29 : FVec F S2x16x1x8192 .bf16 := (extractStridedSlice S2x16x1x8192 ![0, 0, 64, 0] · slices_S2x16x80x8192_S2x16x1x8192_0_0_64_0) main_arg2
  let main_v30 : FVec F S2x16x8192 .bf16 := shapeCast S2x16x8192 main_v29 shapeCasts_S2x16x1x8192_S2x16x8192
  let main_v31 : FVec F S2x16x8192 .f32 := (extf .f32 · bitsLt_bf16_f32) main_v30
  let main_cst_8 : FVec F S_ .f32 := constant S_ .f32 0x3F800000#32
  let main_v32 : FVec F S2x16x8192 .f32 := broadcastInDim S2x16x8192 ![] bcast_S_S2x16x8192 main_cst_8
  let main_v33 : IVec S2x16x8192 1 := cmpf .oeq main_v31 main_v32
  let main_c_9 : IVec S_ 1 := constantI S_ 1 1#1
  let main_v34 : IVec S_ 1 := (fun x v => Host.reduce IntOp.andi x v reducesTo_S2x16x8192_S_d0_1_2 h_S_) main_v33 main_c_9
  let main_v35 : IVec S_ 1 := andi main_v28 main_v34
  main_v35

def fn {F : FTy → Type} [FloatOps F] (main_arg0 : FVec F S2x16x128x8192 .bf16) (main_arg1 : FVec F S2x16x128x8192 .bf16) (main_arg2 : FVec F S2x16x80x8192 .bf16) : IVec S_ 1 :=
  let main_v0 : FVec F S2x16x128x8192 .f32 := (extf .f32 · bitsLt_bf16_f32) main_arg0
  let main_v1 : FVec F S2x16x128x8192 .f32 := Host.absf main_v0
  let main_cst : FVec F S_ .f32 := constant S_ .f32 0x7F800000#32
  let main_v2 : FVec F S2x16x128x8192 .f32 := broadcastInDim S2x16x128x8192 ![] bcast_S_S2x16x128x8192 main_cst
  let main_v3 : IVec S2x16x128x8192 1 := cmpf .olt main_v1 main_v2
  let main_c : IVec S_ 1 := constantI S_ 1 1#1
  let main_v4 : IVec S_ 1 := (fun x v => Host.reduce IntOp.andi x v reducesTo_S2x16x128x8192_S_d0_1_2_3 h_S_) main_v3 main_c
  let main_v5 : FVec F S2x16x128x8192 .f32 := (extf .f32 · bitsLt_bf16_f32) main_arg1
  let main_v6 : FVec F S2x16x128x8192 .f32 := Host.absf main_v5
  let main_cst_0 : FVec F S_ .f32 := constant S_ .f32 0x7F800000#32
  let main_v7 : FVec F S2x16x128x8192 .f32 := broadcastInDim S2x16x128x8192 ![] bcast_S_S2x16x128x8192 main_cst_0
  let main_v8 : IVec S2x16x128x8192 1 := cmpf .olt main_v6 main_v7
  let main_c_1 : IVec S_ 1 := constantI S_ 1 1#1
  let main_v9 : IVec S_ 1 := (fun x v => Host.reduce IntOp.andi x v reducesTo_S2x16x128x8192_S_d0_1_2_3 h_S_) main_v8 main_c_1
  let main_v10 : IVec S_ 1 := andi main_v4 main_v9
  let main_v11 : FVec F S2x16x80x8192 .f32 := (extf .f32 · bitsLt_bf16_f32) main_arg2
  let main_v12 : FVec F S2x16x80x8192 .f32 := Host.absf main_v11
  let main_cst_2 : FVec F S_ .f32 := constant S_ .f32 0x7F800000#32
  let main_v13 : FVec F S2x16x80x8192 .f32 := broadcastInDim S2x16x80x8192 ![] bcast_S_S2x16x80x8192 main_cst_2
  let main_v14 : IVec S2x16x80x8192 1 := cmpf .olt main_v12 main_v13
  let main_c_3 : IVec S_ 1 := constantI S_ 1 1#1
  let main_v15 : IVec S_ 1 := (fun x v => Host.reduce IntOp.andi x v reducesTo_S2x16x80x8192_S_d0_1_2_3 h_S_) main_v14 main_c_3
  let main_v16 : IVec S_ 1 := andi main_v10 main_v15
  let main_v17 : FVec F S2x16x3x8192 .bf16 := (extractStridedSlice S2x16x3x8192 ![0, 0, 64, 0] · slices_S2x16x128x8192_S2x16x3x8192_0_0_64_0) main_arg0
  fn_part1 (F := F) main_arg0 main_arg2 main_v16 main_v17
-- ==== Kernel.lean ====
abbrev S2x16x128x8192 : Shape := ⟨4, ![2, 16, 128, 8192]⟩
abbrev S2x16x80x8192 : Shape := ⟨4, ![2, 16, 80, 8192]⟩
abbrev S136 : Shape := ⟨1, ![136]⟩
abbrev S2x8192x1024 : Shape := ⟨3, ![2, 8192, 1024]⟩
abbrev S1x16x128x512 : Shape := ⟨4, ![1, 16, 128, 512]⟩
abbrev S1 : Shape := ⟨1, ![1]⟩
abbrev S1x16x80x512 : Shape := ⟨4, ![1, 16, 80, 512]⟩
abbrev S1x512x1024 : Shape := ⟨3, ![1, 512, 1024]⟩
abbrev S16x80x512 : Shape := ⟨3, ![16, 80, 512]⟩
abbrev S16x8x512 : Shape := ⟨3, ![16, 8, 512]⟩
abbrev S1x1x128x256 : Shape := ⟨4, ![1, 1, 128, 256]⟩
abbrev S128x256 : Shape := ⟨2, ![128, 256]⟩
abbrev S256x256 : Shape := ⟨2, ![256, 256]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩
abbrev S1x80x256 : Shape := ⟨3, ![1, 80, 256]⟩
abbrev S80x256 : Shape := ⟨2, ![80, 256]⟩
abbrev S1x1x80x256 : Shape := ⟨4, ![1, 1, 80, 256]⟩
abbrev S1x80x512 : Shape := ⟨3, ![1, 80, 512]⟩
abbrev S80x512 : Shape := ⟨2, ![80, 512]⟩
abbrev S64x512 : Shape := ⟨2, ![64, 512]⟩
abbrev S1x512 : Shape := ⟨2, ![1, 512]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 4
  | .vmem => 10
  | .smem => 2
  | _ => 0

abbrev bufTy : (tb : Table) → Fin (tcTables nBuf tb) → BufTy
  | .hbm, ⟨0, _⟩ => ⟨S2x16x128x8192, .bf16⟩
  | .hbm, ⟨1, _⟩ => ⟨S2x16x128x8192, .bf16⟩
  | .hbm, ⟨2, _⟩ => ⟨S2x16x80x8192, .bf16⟩
  | .hbm, ⟨3, _⟩ => ⟨S2x8192x1024, .bf16⟩
  | .local _ .vmem, ⟨0, _⟩ => ⟨S1x16x128x512, .bf16⟩
  | .local _ .vmem, ⟨1, _⟩ => ⟨S1x16x128x512, .bf16⟩
  | .local _ .vmem, ⟨2, _⟩ => ⟨S1x16x128x512, .bf16⟩
  | .local _ .vmem, ⟨3, _⟩ => ⟨S1x16x128x512, .bf16⟩
  | .local _ .vmem, ⟨4, _⟩ => ⟨S1x16x80x512, .bf16⟩
  | .local _ .vmem, ⟨5, _⟩ => ⟨S1x16x80x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S16x80x512, .f32⟩
  | .local _ .vmem, ⟨9, _⟩ => ⟨S16x8x512, .f32⟩
  | .local _ .smem, ⟨0, _⟩ => ⟨S136, .i32⟩
  | .local _ .smem, ⟨1, _⟩ => ⟨S136, .i32⟩
  | _, _ => ⟨S2x16x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (c0_i32_4 : BitVec 32) : Fin 4 → Nat :=
  let c0 : Index := 0#32
  let c0_i32_3 : BitVec 32 := 0#32
  let c16_i32 : BitVec 32 := 16#32
  let v13 : BitVec 32 := Scalar.muli c0_i32_3 c16_i32
  let v14 : BitVec 32 := Scalar.addi v13 c0_i32_4
  let v77 : Index := Scalar.indexCast v14
  let c0_52 : Index := 0#32
  let c0_53 : Index := 0#32
  ![0, v77.toNat, 0, 0]
def k0_off3 (c0_i32_6 : BitVec 32) : Fin 4 → Nat :=
  let c0_60 : Index := 0#32
  let c0_i32_3 : BitVec 32 := 0#32
  let c16_i32_5 : BitVec 32 := 16#32
  let v15 : BitVec 32 := Scalar.muli c0_i32_3 c16_i32_5
  let v16 : BitVec 32 := Scalar.addi v15 c0_i32_6
  let v87 : Index := Scalar.indexCast v16
  let c0_61 : Index := 0#32
  let c256 : Index := 256#32
  ![0, v87.toNat, 0, 256]
def k0_off4 (c0_i32_4 : BitVec 32) : Fin 3 → Nat :=
  let c0_i32_3 : BitVec 32 := 0#32
  let c16_i32 : BitVec 32 := 16#32
  let v13 : BitVec 32 := Scalar.muli c0_i32_3 c16_i32
  let v14 : BitVec 32 := Scalar.addi v13 c0_i32_4
  let v301 : Index := Scalar.indexCast v14
  let c0_273 : Index := 0#32
  let c0_274 : Index := 0#32
  ![v301.toNat, 0, 0]
def k0_off5 (c0_i32_4 : BitVec 32) : Fin 3 → Nat :=
  let c0_i32_3 : BitVec 32 := 0#32
  let c16_i32 : BitVec 32 := 16#32
  let v13 : BitVec 32 := Scalar.muli c0_i32_3 c16_i32
  let v14 : BitVec 32 := Scalar.addi v13 c0_i32_4
  let v315 : Index := Scalar.indexCast v14
  let c0_276 : Index := 0#32
  let c0_277 : Index := 0#32
  ![v315.toNat, 0, 0]
def k0_off6 (c0_i32_4 : BitVec 32) : Fin 4 → Nat :=
  let c0_278 : Index := 0#32
  let c0_i32_3 : BitVec 32 := 0#32
  let c16_i32 : BitVec 32 := 16#32
  let v13 : BitVec 32 := Scalar.muli c0_i32_3 c16_i32
  let v14 : BitVec 32 := Scalar.addi v13 c0_i32_4
  let v320 : Index := Scalar.indexCast v14
  let c0_279 : Index := 0#32
  let c0_280 : Index := 0#32
  ![0, v320.toNat, 0, 0]
def k0_off7 (c0_i32_6 : BitVec 32) : Fin 3 → Nat :=
  let c0_i32_3 : BitVec 32 := 0#32
  let c16_i32_5 : BitVec 32 := 16#32
  let v15 : BitVec 32 := Scalar.muli c0_i32_3 c16_i32_5
  let v16 : BitVec 32 := Scalar.addi v15 c0_i32_6
  let v334 : Index := Scalar.indexCast v16
  let c0_286 : Index := 0#32
  let c256_287 : Index := 256#32
  ![v334.toNat, 0, 256]
def k0_off8 (c0_i32_6 : BitVec 32) : Fin 3 → Nat :=
  let c0_i32_3 : BitVec 32 := 0#32
  let c16_i32_5 : BitVec 32 := 16#32
  let v15 : BitVec 32 := Scalar.muli c0_i32_3 c16_i32_5
  let v16 : BitVec 32 := Scalar.addi v15 c0_i32_6
  let v348 : Index := Scalar.indexCast v16
  let c0_289 : Index := 0#32
  let c256_290 : Index := 256#32
  ![v348.toNat, 0, 256]
def k0_off9 (c0_i32_4 : BitVec 32) : Fin 4 → Nat :=
  let c0_918 : Index := 0#32
  let c0_i32_3 : BitVec 32 := 0#32
  let c16_i32 : BitVec 32 := 16#32
  let v13 : BitVec 32 := Scalar.muli c0_i32_3 c16_i32
  let v14 : BitVec 32 := Scalar.addi v13 c0_i32_4
  let v1600 : Index := Scalar.indexCast v14
  let c0_919 : Index := 0#32
  let c256_920 : Index := 256#32
  ![0, v1600.toNat, 0, 256]
def k0_off10 (c0_i32_4 : BitVec 32) : Fin 4 → Nat :=
  let c0 : Index := 0#32
  let c0_i32_3 : BitVec 32 := 0#32
  let c16_i32 : BitVec 32 := 16#32
  let v13 : BitVec 32 := Scalar.muli c0_i32_3 c16_i32
  let v14 : BitVec 32 := Scalar.addi v13 c0_i32_4
  let v77 : Index := Scalar.indexCast v14
  let c0_52 : Index := 0#32
  let c0_53 : Index := 0#32
  ![0, v77.toNat, 0, 0]
def k0_off11 (c0_i32_6 : BitVec 32) : Fin 4 → Nat :=
  let c0_60 : Index := 0#32
  let c0_i32_3 : BitVec 32 := 0#32
  let c16_i32_5 : BitVec 32 := 16#32
  let v15 : BitVec 32 := Scalar.muli c0_i32_3 c16_i32_5
  let v16 : BitVec 32 := Scalar.addi v15 c0_i32_6
  let v87 : Index := Scalar.indexCast v16
  let c0_61 : Index := 0#32
  let c256 : Index := 256#32
  ![0, v87.toNat, 0, 256]
def k0_off12 (c0_i32_4 : BitVec 32) : Fin 3 → Nat :=
  let c0_i32_3 : BitVec 32 := 0#32
  let c16_i32 : BitVec 32 := 16#32
  let v13 : BitVec 32 := Scalar.muli c0_i32_3 c16_i32
  let v14 : BitVec 32 := Scalar.addi v13 c0_i32_4
  let v310 : Index := Scalar.indexCast v14
  let c0_276 : Index := 0#32
  let c0_277 : Index := 0#32
  ![v310.toNat, 0, 0]
def k0_off13 (c0_i32_4 : BitVec 32) : Fin 3 → Nat :=
  let c0_i32_3 : BitVec 32 := 0#32
  let c16_i32 : BitVec 32 := 16#32
  let v13 : BitVec 32 := Scalar.muli c0_i32_3 c16_i32
  let v14 : BitVec 32 := Scalar.addi v13 c0_i32_4
  let v324 : Index := Scalar.indexCast v14
  let c0_279 : Index := 0#32
  let c0_280 : Index := 0#32
  ![v324.toNat, 0, 0]
def k0_off14 (c0_i32_4 : BitVec 32) : Fin 4 → Nat :=
  let c0_281 : Index := 0#32
  let c0_i32_3 : BitVec 32 := 0#32
  let c16_i32 : BitVec 32 := 16#32
  let v13 : BitVec 32 := Scalar.muli c0_i32_3 c16_i32
  let v14 : BitVec 32 := Scalar.addi v13 c0_i32_4
  let v329 : Index := Scalar.indexCast v14
  let c0_282 : Index := 0#32
  let c0_283 : Index := 0#32
  ![0, v329.toNat, 0, 0]
def k0_off15 (c0_i32_6 : BitVec 32) : Fin 3 → Nat :=
  let c0_i32_3 : BitVec 32 := 0#32
  let c16_i32_5 : BitVec 32 := 16#32
  let v15 : BitVec 32 := Scalar.muli c0_i32_3 c16_i32_5
  let v16 : BitVec 32 := Scalar.addi v15 c0_i32_6
  let v343 : Index := Scalar.indexCast v16
  let c0_289 : Index := 0#32
  let c256_290 : Index := 256#32
  ![v343.toNat, 0, 256]
def k0_off16 (c0_i32_6 : BitVec 32) : Fin 3 → Nat :=
  let c0_i32_3 : BitVec 32 := 0#32
  let c16_i32_5 : BitVec 32 := 16#32
  let v15 : BitVec 32 := Scalar.muli c0_i32_3 c16_i32_5
  let v16 : BitVec 32 := Scalar.addi v15 c0_i32_6
  let v357 : Index := Scalar.indexCast v16
  let c0_292 : Index := 0#32
  let c256_293 : Index := 256#32
  ![v357.toNat, 0, 256]
def k0_off17 (c0_i32_6 : BitVec 32) : Fin 4 → Nat :=
  let c0_856 : Index := 0#32
  let c0_i32_3 : BitVec 32 := 0#32
  let c16_i32_5 : BitVec 32 := 16#32
  let v15 : BitVec 32 := Scalar.muli c0_i32_3 c16_i32_5
  let v16 : BitVec 32 := Scalar.addi v15 c0_i32_6
  let v1641 : Index := Scalar.indexCast v16
  let c0_857 : Index := 0#32
  let c256_858 : Index := 256#32
  ![0, v1641.toNat, 0, 256]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  let c0_i32_1 : BitVec 32 := 0#32
  ![arg0.toNat, c0_i32.toNat, c0_i32_0.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16x128x8192 : Shape := ⟨4, ![2, 16, 128, 8192]⟩
abbrev S2x16x80x8192 : Shape := ⟨4, ![2, 16, 80, 8192]⟩
abbrev S2x16x64x8192 : Shape := ⟨4, ![2, 16, 64, 8192]⟩
abbrev S2x16x3x8192 : Shape := ⟨4, ![2, 16, 3, 8192]⟩
abbrev S_ : Shape := ⟨0, ![]⟩
abbrev S2x16x8192 : Shape := ⟨3, ![2, 16, 8192]⟩
abbrev S2x16x8192x8192 : Shape := ⟨4, ![2, 16, 8192, 8192]⟩
abbrev S2x16x8192x1 : Shape := ⟨4, ![2, 16, 8192, 1]⟩
abbrev S2x16x1x8192 : Shape := ⟨4, ![2, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8192x16x64 : Shape := ⟨4, ![2, 8192, 16, 64]⟩
abbrev S2x8192x1024 : Shape := ⟨3, ![2, 8192, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x16x128x8192, .bf16⟩
  | .hbm, ⟨1, _⟩ => ⟨S2x16x128x8192, .bf16⟩
  | .hbm, ⟨2, _⟩ => ⟨S2x16x80x8192, .bf16⟩
  | .hbm, ⟨3, _⟩ => ⟨S2x16x64x8192, .bf16⟩
  | .hbm, ⟨4, _⟩ => ⟨S2x16x64x8192, .bf16⟩
  | .hbm, ⟨5, _⟩ => ⟨S2x16x64x8192, .bf16⟩
  | .hbm, ⟨6, _⟩ => ⟨S2x16x3x8192, .bf16⟩
  | .hbm, ⟨7, _⟩ => ⟨S2x16x3x8192, .f32⟩
  | .hbm, ⟨8, _⟩ => ⟨S_, .f32⟩
  | .hbm, ⟨9, _⟩ => ⟨S2x16x8192, .f32⟩
  | .hbm, ⟨10, _⟩ => ⟨S2x16x8192x8192, .f32⟩
  | .hbm, ⟨11, _⟩ => ⟨S2x16x8192x1, .f32⟩
  | .hbm, ⟨12, _⟩ => ⟨S2x16x8192x8192, .f32⟩
  | .hbm, ⟨13, _⟩ => ⟨S2x16x8192x8192, .f32⟩
  | .hbm, ⟨14, _⟩ => ⟨S2x16x1x8192, .f32⟩
  | .hbm, ⟨15, _⟩ => ⟨S2x16x8192x8192, .f32⟩
  | .hbm, ⟨16, _⟩ => ⟨S2x16x8192x8192, .f32⟩
  | .hbm, ⟨17, _⟩ => ⟨S_, .f32⟩
  | .hbm, ⟨18, _⟩ => ⟨S_, .f32⟩
  | .hbm, ⟨19, _⟩ => ⟨S2x16x8192x8192, .f32⟩
  | .hbm, ⟨20, _⟩ => ⟨S2x16x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S2x16x8192x8192, .i1⟩
  | .hbm, ⟨30, _⟩ => ⟨S2x16x8192x8192, .f32⟩
  | .hbm, ⟨31, _⟩ => ⟨S2x16x8192x8192, .f32⟩
  | .hbm, ⟨32, _⟩ => ⟨S_, .f32⟩
  | .hbm, ⟨33, _⟩ => ⟨S2x16x8192, .f32⟩
  | .hbm, ⟨34, _⟩ => ⟨S_, .f32⟩
  | .hbm, ⟨35, _⟩ => ⟨S2x16x8192, .f32⟩
  | .hbm, ⟨36, _⟩ => ⟨S2x16x8192, .f32⟩
  | .hbm, ⟨37, _⟩ => ⟨S2x16x8192x1, .f32⟩
  | .hbm, ⟨38, _⟩ => ⟨S2x16x8192x8192, .f32⟩
  | .hbm, ⟨39, _⟩ => ⟨S2x16x8192x8192, .f32⟩
  | .hbm, ⟨40, _⟩ => ⟨S2x16x8192x8192, .f32⟩
  | .hbm, ⟨41, _⟩ => ⟨S_, .f32⟩
  | .hbm, ⟨42, _⟩ => ⟨S2x16x8192, .f32⟩
  | .hbm, ⟨43, _⟩ => ⟨S2x16x8192x1, .f32⟩
  | .hbm, ⟨44, _⟩ => ⟨S2x16x8192x8192, .f32⟩
  | .hbm, ⟨45, _⟩ => ⟨S2x16x8192x8192, .f32⟩
  | .hbm, ⟨46, _⟩ => ⟨S2x16x8192x8192, .bf16⟩
  | .hbm, ⟨47, _⟩ => ⟨S2x16x64x8192, .f32⟩
  | .hbm, ⟨48, _⟩ => ⟨S2x8192x16x64, .f32⟩
  | .hbm, ⟨49, _⟩ => ⟨S2x8192x16x64, .bf16⟩
  | .hbm, ⟨50, _⟩ => ⟨S2x8192x1024, .bf16⟩
  | _, _ => ⟨S2x16x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Ffn1.lean ====
abbrev S16384x1024 : Shape := ⟨2, ![16384, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 16
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x5632, .bf16⟩
  | .local _ .vmem, ⟨7, _⟩ => ⟨S1x2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefFfn1Ideal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024x5632, .f32⟩
  | .hbm, ⟨30, _⟩ => ⟨S1024x5632, .f32⟩
  | .hbm, ⟨31, _⟩ => ⟨S1x2816x1024, .f32⟩
  | .hbm, ⟨32, _⟩ => ⟨S2816x1024, .f32⟩
  | .hbm, ⟨33, _⟩ => ⟨S16384x5632, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Ffn0.lean ====
abbrev S16384x1024 : Shape := ⟨2, ![16384, 1024]⟩
abbrev S1x1024 : Shape := ⟨2, ![1, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1024 : Shape := ⟨1, ![1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 23
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S1024x1024, .f32⟩
  | .hbm, ⟨10, _⟩ => ⟨S1024x1024, .bf16⟩
  | .hbm, ⟨11, _⟩ => ⟨S2x1024x5632, .bf16⟩
  | .hbm, ⟨12, _⟩ => ⟨S2x2816x1024, .bf16⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefFfn0Ideal.lean ====
abbrev S16384x1024 : Shape := ⟨2, ![16384, 1024]⟩
abbrev S1x1024 : Shape := ⟨2, ![1, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S2x1024, .f32⟩
  | .hbm, ⟨7, _⟩ => ⟨S2x1024x5632, .f32⟩
  | .hbm, ⟨8, _⟩ => ⟨S2x2816x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1024x1024, .f32⟩
  | .hbm, ⟨50, _⟩ => ⟨S16384x1024, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S1x1024x5632, .f32⟩
  | .hbm, ⟨75, _⟩ => ⟨S1024x5632, .f32⟩
  | .hbm, ⟨76, _⟩ => ⟨S1x2816x1024, .f32⟩
  | .hbm, ⟨77, _⟩ => ⟨S2816x1024, .f32⟩
  | .hbm, ⟨78, _⟩ => ⟨S16384x5632, .f32⟩
  | .hbm, ⟨79, _⟩ => ⟨S16384x2816, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S_, .f32⟩
  | .hbm, ⟨84, _⟩ => ⟨S16384x2816, .f32⟩
  | .hbm, ⟨85, _⟩ => ⟨S16384x2816, .f32⟩
  | .hbm, ⟨86, _⟩ => ⟨S_, .f32⟩
  | .hbm, ⟨87, _⟩ => ⟨S16384x2816, .f32⟩
  | .hbm, ⟨88, _⟩ => ⟨S16384x2816, .f32⟩
  | .hbm, ⟨89, _⟩ => ⟨S16384x2816, .f32⟩
  | .hbm, ⟨90, _⟩ => ⟨S16384x2816, .f32⟩
  | .hbm, ⟨91, _⟩ => ⟨S16384x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Ffns.lean ====
abbrev S128x1024 : Shape := ⟨2, ![128, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S128 : Shape := ⟨1, ![128]⟩
abbrev S128x1 : Shape := ⟨2, ![128, 1]⟩
abbrev S1x1024x2816 : Shape := ⟨3, ![1, 1024, 2816]⟩
abbrev S1024x2816 : Shape := ⟨2, ![1024, 2816]⟩
abbrev S128x2816 : Shape := ⟨2, ![128, 2816]⟩
abbrev S2816x1024 : Shape := ⟨2, ![2816, 1024]⟩

abbrev nBuf : Space → Nat
  | .hbm => 16
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S2x1024x5632, .bf16⟩
  | .hbm, ⟨8, _⟩ => ⟨S2x2816x1024, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefFfnsIdeal.lean ====
abbrev S128x1024 : Shape := ⟨2, ![128, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S128 : Shape := ⟨1, ![128]⟩
abbrev S128x1 : Shape := ⟨2, ![128, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S128x5632 : Shape := ⟨2, ![128, 5632]⟩
abbrev S128x2816 : Shape := ⟨2, ![128, 2816]⟩

abbrev nBuf : Space → Nat
  | .hbm => 63
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S1024x1024, .f32⟩
  | .hbm, ⟨8, _⟩ => ⟨S128x1024, .f32⟩
  | .hbm, ⟨9, _⟩ => ⟨S128x1024, .f32⟩
  | .hbm, ⟨10, _⟩ => ⟨S1x1024, .f32⟩
  | .hbm, ⟨11, _⟩ => ⟨S1024, .f32⟩
  | .hbm, ⟨12, _⟩ => ⟨S128x1024, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x1, .f32⟩
  | .hbm, ⟨23, _⟩ => ⟨S128x1024, .f32⟩
  | .hbm, ⟨24, _⟩ => ⟨S128x1024, .f32⟩
  | .hbm, ⟨25, _⟩ => ⟨S1x1024, .f32⟩
  | .hbm, ⟨26, _⟩ => ⟨S128x1024, .f32⟩
  | .hbm, ⟨27, _⟩ => ⟨S128x1024, .f32⟩
  | .hbm, ⟨28, _⟩ => ⟨S1x1024x5632, .f32⟩
  | .hbm, ⟨29, _⟩ => ⟨S1024x5632, .f32⟩
  | .hbm, ⟨30, _⟩ => ⟨S1x2816x1024, .f32⟩
  | .hbm, ⟨31, _⟩ => ⟨S2816x1024, .f32⟩
  | .hbm, ⟨32, _⟩ => ⟨S128x5632, .f32⟩
  | .hbm, ⟨33, _⟩ => ⟨S128x2816, .f32⟩
  | .hbm, ⟨34, _⟩ => ⟨S128x2816, .f32⟩
  | .hbm, ⟨35, _⟩ => ⟨S128x2816, .f32⟩
  | .hbm, ⟨36, _⟩ => ⟨S128x2816, .f32⟩
  | .hbm, ⟨37, _⟩ => ⟨S_, .f32⟩
  | .hbm, ⟨38, _⟩ => ⟨S128x2816, .f32⟩
  | .hbm, ⟨39, _⟩ => ⟨S128x2816, .f32⟩
  | .hbm, ⟨40, _⟩ => ⟨S_, .f32⟩
  | .hbm, ⟨41, _⟩ => ⟨S128x2816, .f32⟩
  | .hbm, ⟨42, _⟩ => ⟨S128x2816, .f32⟩
  | .hbm, ⟨43, _⟩ => ⟨S128x2816, .f32⟩
  | .hbm, ⟨44, _⟩ => ⟨S128x2816, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128, .f32⟩
  | .hbm, ⟨50, _⟩ => ⟨S128x1, .f32⟩
  | .hbm, ⟨51, _⟩ => ⟨S_, .f32⟩
  | .hbm, ⟨52, _⟩ => ⟨S128x1, .f32⟩
  | .hbm, ⟨53, _⟩ => ⟨S128x1, .f32⟩
  | .hbm, ⟨54, _⟩ => ⟨S_, .f32⟩
  | .hbm, ⟨55, _⟩ => ⟨S128x1, .f32⟩
  | .hbm, ⟨56, _⟩ => ⟨S128x1, .f32⟩
  | .hbm, ⟨57, _⟩ => ⟨S128x1, .f32⟩
  | .hbm, ⟨58, _⟩ => ⟨S128x1024, .f32⟩
  | .hbm, ⟨59, _⟩ => ⟨S128x1024, .f32⟩
  | .hbm, ⟨60, _⟩ => ⟨S1x1024, .f32⟩
  | .hbm, ⟨61, _⟩ => ⟨S128x1024, .f32⟩
  | .hbm, ⟨62, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Proj.lean ====
abbrev S16384x1024 : Shape := ⟨2, ![16384, 1024]⟩
abbrev S2x1024 : Shape := ⟨2, ![2, 1024]⟩
abbrev S1x1024x3088 : Shape := ⟨3, ![1, 1024, 3088]⟩
abbrev S1x16 : Shape := ⟨2, ![1, 16]⟩
abbrev S1024x3088 : Shape := ⟨2, ![1024, 3088]⟩
abbrev S3088x1024 : Shape := ⟨2, ![3088, 1024]⟩
abbrev S16x1024 : Shape := ⟨2, ![16, 1024]⟩
abbrev S16 : Shape := ⟨1, ![16]⟩
abbrev S16x1 : Shape := ⟨2, ![16, 1]⟩
abbrev S2x8192x1024 : Shape := ⟨3, ![2, 8192, 1024]⟩
abbrev S1x1024 : Shape := ⟨2, ![1, 1024]⟩
abbrev S1024 : Shape := ⟨1, ![1024]⟩
abbrev S3072x1024 : Shape := ⟨2, ![3072, 1024]⟩
abbrev S2x1024x8192 : Shape := ⟨3, ![2, 1024, 8192]⟩
abbrev S2x16x8192 : Shape := ⟨3, ![2, 16, 8192]⟩
abbrev S2x16x128x8192 : Shape := ⟨4, ![2, 16, 128, 8192]⟩
abbrev S2x16x80x8192 : Shape := ⟨4, ![2, 16, 80, 8192]⟩
abbrev S1x512x1024 : Shape := ⟨3, ![1, 512, 1024]⟩
abbrev S1x1024x512 : Shape := ⟨3, ![1, 1024, 512]⟩
abbrev S1x16x512 : Shape := ⟨3, ![1, 16, 512]⟩
abbrev S1x16x128x512 : Shape := ⟨4, ![1, 16, 128, 512]⟩
abbrev S1x16x80x512 : Shape := ⟨4, ![1, 16, 80, 512]⟩
abbrev S512x1024 : Shape := ⟨2, ![512, 1024]⟩
abbrev S512 : Shape := ⟨1, ![512]⟩
abbrev S512x1 : Shape := ⟨2, ![512, 1]⟩
abbrev S3072x512 : Shape := ⟨2, ![3072, 512]⟩
abbrev S1024x512 : Shape := ⟨2, ![1024, 512]⟩
abbrev S16x512 : Shape := ⟨2, ![16, 512]⟩
abbrev S64x1 : Shape := ⟨2, ![64, 1]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1024x3088, .f32⟩
  | .hbm, ⟨5, _⟩ => ⟨S3088x1024, .f32⟩
  | .hbm, ⟨6, _⟩ => ⟨S3088x1024, .bf16⟩
  | .hbm, ⟨7, _⟩ => ⟨S16x1024, .bf16⟩
  | .hbm, ⟨8, _⟩ => ⟨S16, .f32⟩
  | .hbm, ⟨9, _⟩ => ⟨S16x1, .f32⟩
  | .hbm, ⟨10, _⟩ => ⟨S2x8192x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S3072x1024, .bf16⟩
  | .hbm, ⟨15, _⟩ => ⟨S2x1024x8192, .f32⟩
  | .hbm, ⟨16, _⟩ => ⟨S2x1024x8192, .f32⟩
  | .hbm, ⟨17, _⟩ => ⟨S2x16x8192, .f32⟩
  | .hbm, ⟨18, _⟩ => ⟨S2x16x128x8192, .bf16⟩
  | .hbm, ⟨19, _⟩ => ⟨S2x16x128x8192, .bf16⟩
  | .hbm, ⟨20, _⟩ => ⟨S2x16x80x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S3072x1024, .bf16⟩
  | .local _ .vmem, ⟨4, _⟩ => ⟨S16x1024, .bf16⟩
  | .local _ .vmem, ⟨5, _⟩ => ⟨S16x1, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x16x512, .f32⟩
  | .local _ .vmem, ⟨11, _⟩ => ⟨S1x16x512, .f32⟩
  | .local _ .vmem, ⟨12, _⟩ => ⟨S1x16x128x512, .bf16⟩
  | .local _ .vmem, ⟨13, _⟩ => ⟨S1x16x128x512, .bf16⟩
  | .local _ .vmem, ⟨14, _⟩ => ⟨S1x16x128x512, .bf16⟩
  | .local _ .vmem, ⟨15, _⟩ => ⟨S1x16x128x512, .bf16⟩
  | .local _ .vmem, ⟨16, _⟩ => ⟨S1x16x80x512, .bf16⟩
  | .local _ .vmem, ⟨17, _⟩ => ⟨S1x16x80x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev main_v11_4 : Ref sig .tc := ⟨.hbm, 19, rfl⟩
abbrev main_v11_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefProjIdeal.lean ====
abbrev S16384x1024 : Shape := ⟨2, ![16384, 1024]⟩
abbrev S2x1024 : Shape := ⟨2, ![2, 1024]⟩
abbrev S1x1024x3088 : Shape := ⟨3, ![1, 1024, 3088]⟩
abbrev S1x16 : Shape := ⟨2, ![1, 16]⟩
abbrev S2x8192x1024 : Shape := ⟨3, ![2, 8192, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3088 : Shape := ⟨2, ![1024, 3088]⟩
abbrev S16 : Shape := ⟨1, ![16]⟩
abbrev S2x8192x3088 : Shape := ⟨3, ![2, 8192, 3088]⟩
abbrev S2x8192x16 : Shape := ⟨3, ![2, 8192, 16]⟩
abbrev S1x1x16 : Shape := ⟨3, ![1, 1, 16]⟩
abbrev S2x1024x8192 : Shape := ⟨3, ![2, 1024, 8192]⟩
abbrev S2x16x8192 : Shape := ⟨3, ![2, 16, 8192]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S2x8192x1024, .f32⟩
  | .hbm, ⟨5, _⟩ => ⟨S1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1024x3088, .f32⟩
  | .hbm, ⟨24, _⟩ => ⟨S16, .f32⟩
  | .hbm, ⟨25, _⟩ => ⟨S2x8192x3088, .f32⟩
  | .hbm, ⟨26, _⟩ => ⟨S2x8192x1024, .f32⟩
  | .hbm, ⟨27, _⟩ => ⟨S2x8192x1024, .f32⟩
  | .hbm, ⟨28, _⟩ => ⟨S2x8192x16, .f32⟩
  | .hbm, ⟨29, _⟩ => ⟨S1x1x16, .f32⟩
  | .hbm, ⟨30, _⟩ => ⟨S2x8192x16, .f32⟩
  | .hbm, ⟨31, _⟩ => ⟨S2x8192x16, .f32⟩
  | .hbm, ⟨32, _⟩ => ⟨S2x8192x16, .f32⟩
  | .hbm, ⟨33, _⟩ => ⟨S_, .f32⟩
  | .hbm, ⟨34, _⟩ => ⟨S2x8192x16, .f32⟩
  | .hbm, ⟨35, _⟩ => ⟨S2x8192x16, .f32⟩
  | .hbm, ⟨36, _⟩ => ⟨S2x8192x16, .f32⟩
  | .hbm, ⟨37, _⟩ => ⟨S2x8192x16, .f32⟩
  | .hbm, ⟨38, _⟩ => ⟨S2x8192x16, .i1⟩
  | .hbm, ⟨39, _⟩ => ⟨S2x8192x16, .f32⟩
  | .hbm, ⟨40, _⟩ => ⟨S2x8192x16, .f32⟩
  | .hbm, ⟨41, _⟩ => ⟨S2x8192x16, .f32⟩
  | .hbm, ⟨42, _⟩ => ⟨S2x8192x16, .f32⟩
  | .hbm, ⟨43, _⟩ => ⟨S2x8192x16, .f32⟩
  | .hbm, ⟨44, _⟩ => ⟨S2x8192x16, .f32⟩
  | .hbm, ⟨45, _⟩ => ⟨S2x8192x16, .f32⟩
  | .hbm, ⟨46, _⟩ => ⟨S2x8192x16, .f32⟩
  | .hbm, ⟨47, _⟩ => ⟨S2x8192x16, .f32⟩
  | .hbm, ⟨48, _⟩ => ⟨S2x1024x8192, .f32⟩
  | .hbm, ⟨49, _⟩ => ⟨S2x1024x8192, .f32⟩
  | .hbm, ⟨50, _⟩ => ⟨S2x16x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Projs.lean ====
abbrev S128x1024 : Shape := ⟨2, ![128, 1024]⟩
abbrev S2x1024 : Shape := ⟨2, ![2, 1024]⟩
abbrev S1x1024x3088 : Shape := ⟨3, ![1, 1024, 3088]⟩
abbrev S1x16 : Shape := ⟨2, ![1, 16]⟩
abbrev S1024x3088 : Shape := ⟨2, ![1024, 3088]⟩
abbrev S3088x1024 : Shape := ⟨2, ![3088, 1024]⟩
abbrev S1x1024x1024 : Shape := ⟨3, ![1, 1024, 1024]⟩
abbrev S1024x1024 : Shape := ⟨2, ![1024, 1024]⟩
abbrev S16x1024 : Shape := ⟨2, ![16, 1024]⟩
abbrev S16 : Shape := ⟨1, ![16]⟩
abbrev S16x1 : Shape := ⟨2, ![16, 1]⟩
abbrev S1x128x1024 : Shape := ⟨3, ![1, 128, 1024]⟩
abbrev S1x1024 : Shape := ⟨2, ![1, 1024]⟩
abbrev S1024 : Shape := ⟨1, ![1024]⟩
abbrev S2048x1024 : Shape := ⟨2, ![2048, 1024]⟩
abbrev S1x16x128 : Shape := ⟨3, ![1, 16, 128]⟩
abbrev S128 : Shape := ⟨1, ![128]⟩
abbrev S128x1 : Shape := ⟨2, ![128, 1]⟩
abbrev S2048x128 : Shape := ⟨2, ![2048, 128]⟩
abbrev S128x2048 : Shape := ⟨2, ![128, 2048]⟩
abbrev S16x128 : Shape := ⟨2, ![16, 128]⟩

abbrev nBuf : Space → Nat
  | .hbm => 22
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1024x3088, .f32⟩
  | .hbm, ⟨5, _⟩ => ⟨S3088x1024, .f32⟩
  | .hbm, ⟨6, _⟩ => ⟨S3088x1024, .bf16⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S16x1024, .bf16⟩
  | .hbm, ⟨11, _⟩ => ⟨S16, .f32⟩
  | .hbm, ⟨12, _⟩ => ⟨S16x1, .f32⟩
  | .hbm, ⟨13, _⟩ => ⟨S1x128x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2048x1024, .bf16⟩
  | .hbm, ⟨18, _⟩ => ⟨S1x128x1024, .bf16⟩
  | .hbm, ⟨19, _⟩ => ⟨S1x128x1024, .f32⟩
  | .hbm, ⟨20, _⟩ => ⟨S1x128x1024, .f32⟩
  | .hbm, ⟨21, _⟩ => ⟨S1x16x128, .f32⟩
  | .local _ .vmem, ⟨0, _⟩ => ⟨S1x128x1024, .f32⟩
  | .local _ .vmem, ⟨1, _⟩ => ⟨S1x1024, .f32⟩
  | .local _ .vmem, ⟨2, _⟩ => ⟨S1024x1024, .bf16⟩
  | .local _ .vmem, ⟨3, _⟩ => ⟨S2048x1024, .bf16⟩
  | .local _ .vmem, ⟨4, _⟩ => ⟨S16x1024, .bf16⟩
  | .local _ .vmem, ⟨5, _⟩ => ⟨S16x1, .f32⟩
  | .local _ .vmem, ⟨6, _⟩ => ⟨S1x128x1024, .bf16⟩
  | .local _ .vmem, ⟨7, _⟩ => ⟨S1x128x1024, .f32⟩
  | .local _ .vmem, ⟨8, _⟩ => ⟨S1x128x1024, .f32⟩
  | .local _ .vmem, ⟨9, _⟩ => ⟨S1x16x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== RefProjsIdeal.lean ====
abbrev S128x1024 : Shape := ⟨2, ![128, 1024]⟩
abbrev S2x1024 : Shape := ⟨2, ![2, 1024]⟩
abbrev S1x1024x3088 : Shape := ⟨3, ![1, 1024, 3088]⟩
abbrev S1x16 : Shape := ⟨2, ![1, 16]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x3088 : Shape := ⟨2, ![1024, 3088]⟩
abbrev S16 : Shape := ⟨1, ![16]⟩
abbrev S128x3088 : Shape := ⟨2, ![128, 3088]⟩
abbrev S128x16 : Shape := ⟨2, ![128, 16]⟩
abbrev S1x128x1024 : Shape := ⟨3, ![1, 128, 1024]⟩
abbrev S16x128 : Shape := ⟨2, ![16, 128]⟩
abbrev S1x16x128 : Shape := ⟨3, ![1, 16, 128]⟩

abbrev nBuf : Space → Nat
  | .hbm => 51
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1x1024, .f32⟩
  | .hbm, ⟨5, _⟩ => ⟨S1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S1024x3088, .f32⟩
  | .hbm, ⟨23, _⟩ => ⟨S16, .f32⟩
  | .hbm, ⟨24, _⟩ => ⟨S128x3088, .f32⟩
  | .hbm, ⟨25, _⟩ => ⟨S128x1024, .f32⟩
  | .hbm, ⟨26, _⟩ => ⟨S128x1024, .f32⟩
  | .hbm, ⟨27, _⟩ => ⟨S128x16, .f32⟩
  | .hbm, ⟨28, _⟩ => ⟨S1x16, .f32⟩
  | .hbm, ⟨29, _⟩ => ⟨S128x16, .f32⟩
  | .hbm, ⟨30, _⟩ => ⟨S128x16, .f32⟩
  | .hbm, ⟨31, _⟩ => ⟨S128x16, .f32⟩
  | .hbm, ⟨32, _⟩ => ⟨S_, .f32⟩
  | .hbm, ⟨33, _⟩ => ⟨S128x16, .f32⟩
  | .hbm, ⟨34, _⟩ => ⟨S128x16, .f32⟩
  | .hbm, ⟨35, _⟩ => ⟨S128x16, .f32⟩
  | .hbm, ⟨36, _⟩ => ⟨S128x16, .f32⟩
  | .hbm, ⟨37, _⟩ => ⟨S128x16, .i1⟩
  | .hbm, ⟨38, _⟩ => ⟨S128x16, .f32⟩
  | .hbm, ⟨39, _⟩ => ⟨S128x16, .f32⟩
  | .hbm, ⟨40, _⟩ => ⟨S128x16, .f32⟩
  | .hbm, ⟨41, _⟩ => ⟨S128x16, .f32⟩
  | .hbm, ⟨42, _⟩ => ⟨S128x16, .f32⟩
  | .hbm, ⟨43, _⟩ => ⟨S128x16, .f32⟩
  | .hbm, ⟨44, _⟩ => ⟨S128x16, .f32⟩
  | .hbm, ⟨45, _⟩ => ⟨S128x16, .f32⟩
  | .hbm, ⟨46, _⟩ => ⟨S128x16, .f32⟩
  | .hbm, ⟨47, _⟩ => ⟨S1x128x1024, .f32⟩
  | .hbm, ⟨48, _⟩ => ⟨S1x128x1024, .f32⟩
  | .hbm, ⟨49, _⟩ => ⟨S16x128, .f32⟩
  | .hbm, ⟨50, _⟩ => ⟨S1x16x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Proof.Owns.lean ====
/- Loads and stores of a memref that is owned at known contents: a load of a rectangle gives the contents there, a store
   overlays them. -/
module

public import Idealize.ShloMosaic.Lib.Memref

@[expose] public section

noncomputable section

namespace Cert.Flash

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a rectangle: the contents under it. -/
theorem wp_load_owns {cs : CoreSpace} {m : Memref sig c.2.kind cs s e} {r : Rect s} {hl : m.view.LoadsAt r}
    {k : (r.shape.Idx → Val e) → Prog (TpuEff nD τ sig Val Λ c.2) α} (q : PosShare TreeShare) (X : s.Idx → Val e) :
    (owns c m q X : sProp (MT nD τ sig Ix Val Name U Lvl))
      ⊢ iprop((owns c m q X -∗ wp frame (wpE defs 𝒱 c bd) E (k fun x => X (r.emb x)) Q)
        -∗ wp frame (wpE defs 𝒱 c bd) E (.op (.load m r hl) k) Q) := by
  unfold owns
  iintro ⟨%f, %hf, H⟩ HK
  subst hf
  iapply (wp_load_rect 𝒱 c bd E (m := m) (r := r) (hl := hl) (k := k) (m.view.set_slice_subset r)) $$ H
  iintro H
  iapply HK
  iexists f
  isplitr; · ipureintro; rfl
  iexact H

/-- An unmasked store of a rectangle: the contents with the rectangle's replaced. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} (X : s.Idx → Val e) :
    (owns c m fullShare X : sProp (MT nD τ sig Ix Val Name U Lvl))
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ HK
  subst hf
  iapply (wp_store 𝒱 c bd E (m := m) (r := r) (w := w) (hx := hx) (hm := hm) (k := k) (Mk := Finset.univ) (f := f) (m.setOn_access_subset r _)) $$ H
  iintro H
  iapply HK
  iexists (m.access r).write Val f w Finset.univ
  isplitr
  · ipureintro
    funext y
    by_cases hy : y ∈ r.set
    · obtain ⟨x, -, rfl⟩ := Finset.mem_map.mp (r.map_emb_univ ▸ hy)
      rw [Rect.overlay_emb]
      exact View.read_slice_write_emb r f w (Finset.mem_univ x)
    · rw [Rect.overlay_of_not_mem r _ _ hy]
      exact View.read_slice_write_of_not_mem r f w Finset.univ (by rw [Rect.map_emb_univ]; exact hy)
  iexact H

/-- The load alone, its result to the postcondition. -/
theorem wp_load_lift {cs : CoreSpace} {m : Memref sig c.2.kind cs s e} {r : Rect s} {hl : m.view.LoadsAt r}
    {Q : (r.shape.Idx → Val e) → sProp (MT nD τ sig Ix Val Name U Lvl)} (q : PosShare TreeShare) (X : s.Idx → Val e) :
    (owns c m q X : sProp (MT nD τ sig Ix Val Name U Lvl))
      ⊢ iprop((owns c m q X -∗ Q fun x => X (r.emb x))
        -∗ wp frame (wpE defs 𝒱 c bd) E (Prog.lift (.load m r hl) : Prog (TpuEff nD τ sig Val Λ c.2) _) Q) := by
  iintro H HK
  iapply (wp_load_owns 𝒱 c bd E (m := m) (r := r) (hl := hl) (k := .ret) q X) $$ H
  iintro H
  iapply (le_wp_ret frame (wpE defs 𝒱 c bd) E)
  iapply HK
  iexact H

/-- The store alone. -/
theorem wp_store_lift {cs : CoreSpace} {m : Memref sig c.2.kind cs s e} {r : Rect s} {w : r.shape.Idx → Val e}
    {hx : (m.access r).Stores Finset.univ} {hm : Finset.univ = Finset.univ ∨ ∀ a, r.stride a = 1}
    {Q : PUnit → sProp (MT nD τ sig Ix Val Name U Lvl)} (X : s.Idx → Val e) :
    (owns c m fullShare X : sProp (MT nD τ sig Ix Val Name U Lvl))
      ⊢ iprop((owns c m fullShare (r.overlay X w) -∗ Q ⟨⟩)
        -∗ wp frame (wpE defs 𝒱 c bd) E (Prog.lift (.store m r w Finset.univ hx hm) : Prog (TpuEff nD τ sig Val Λ c.2) _) Q) := by
  iintro H HK
  iapply (wp_store_owns 𝒱 c bd E (m := m) (r := r) (w := w) (hx := hx) (hm := hm) (k := .ret) X) $$ H
  iintro H
  iapply (le_wp_ret frame (wpE defs 𝒱 c bd) E)
  iapply HK
  iexact H

/-- One word of a table, read alone. -/
theorem wp_word {m : Memref sig c.2.kind .smem s e} {r : Rect s} {h1 : r.shape.numel = 1} {hp : e.packing = 1}
    {Q : Val e → sProp (MT nD τ sig Ix Val Name U Lvl)} (q : PosShare TreeShare) (X : s.Idx → Val e) :
    (owns c m q X : sProp (MT nD τ sig Ix Val Name U Lvl))
      ⊢ iprop((owns c m q X -∗ Q (X (r.emb (Shape.Idx.first (h1.symm ▸ Nat.one_pos)))))
        -∗ wp frame (wpE defs 𝒱 c bd) E (smemLoad m r h1 hp : Prog (TpuEff nD τ sig Val Λ c.2) _) Q) := by
  iintro H HK
  iapply (wp_load_owns 𝒱 c bd E (m := m) (r := r) (hl := View.loadsAt_rect (View.loads_smem_one hp h1))
    (k := fun f => .ret (f (Shape.Idx.first (h1.symm ▸ Nat.one_pos)))) q X) $$ H
  iintro H
  iapply (le_wp_ret frame (wpE defs 𝒱 c bd) E)
  iapply HK
  iexact H

end Cert.Flash

end
-- ==== Proof.Run.lean ====
/- The run of the kernel's program: what the accumulator and the running maximum hold after each point, the body's
   obligation, and the launch. -/
module

public import proofs.«01_k».proof.Proof.Schedule
public import Idealize.ShloMosaic.Adequacy
public import Idealize.ShloMosaic.Init
public import Idealize.ShloMosaic.Lib.Pipeline.Regions

@[expose] public section

set_option maxRecDepth 16384
set_option Elab.async false

noncomputable section

namespace Cert.Kernel.Flash

open Cert.Kernel Cert.Kernel.Gen Cert.Flash
open Idealize.ShloMosaic Idealize.ShloMosaic.TcCoe
open Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat Cfg Window BodyObligation BodyObligationLoose cellOf)

local notation "𝕄" => MT nD τ sig Unit (Elt Bits) ℕ (UR sig nD τ) ℕ

/-- The rounds algebra is the whole of the certificate's. -/
abbrev EP : Emb (UR sig nD τ) 𝕄 := emb₁

variable (m : (ℓ : Loc nD τ sig) → Buf (Elt Bits) ℓ) (ρ : Dev nD → PrngReg)

/-- A window's block at a point, of its array as launched. -/
def iblk (c : Dev nD) (w : Fin cfgA.W) (t : Fin cfgA.N) : ((cfgA.win w).xblock (crd t)).Idx → Elt Bits (cfgA.win w).elt :=
  ((cfgA.win w).blk t).view.read (Elt Bits) (m ((cfgA.win w).arr.view.loc (c : Thread nD τ)))

abbrev iQ (c : Dev nD) (t : Fin cfgA.N) : S1x16x128x512.Idx → Elt Bits .bf16 := iblk m c (0 : Fin 4) t
abbrev iK (c : Dev nD) (t : Fin cfgA.N) : S1x16x128x512.Idx → Elt Bits .bf16 := iblk m c (1 : Fin 4) t
abbrev iV (c : Dev nD) (t : Fin cfgA.N) : S1x16x80x512.Idx → Elt Bits .bf16 := iblk m c (2 : Fin 4) t

/-- What a point makes of the accumulator and the running maximum. -/
def next (c : Dev nD) (t : Fin cfgA.N) (st : St Bits) : St Bits :=
  pointOf (word tabQ (crd t)) (word tabK (crd t)) (iQ m c t) (iK m c t) (iV m c t) st

/-- The accumulator and the running maximum after the point at a position. -/
def traj (c : Dev nD) : (n : ℕ) → n < cfgA.N → St Bits
  | 0, h => next m c ⟨0, h⟩ startOf
  | n + 1, h => next m c ⟨n + 1, h⟩ (traj c n (Nat.lt_of_succ_lt h))

/-- The first block of keys starts afresh. -/
theorem pointOf_first (v1 v3 : BitVec 32) (Q K : S1x16x128x512.Idx → Elt Bits .bf16) (V : S1x16x80x512.Idx → Elt Bits .bf16)
    (h : isFirst v3) (st st' : St Bits) : pointOf v1 v3 Q K V st = pointOf v1 v3 Q K V st' := by
  unfold pointOf; simp only [if_pos h]

/-- The state after a point is the point's of any state the point before may have left. -/
theorem traj_next (c : Dev nD) (t : Fin cfgA.N) (st : St Bits)
    (h : ∀ h0 : t.val ≠ 0, st = traj m c (t.val - 1) (by omega)) : next m c t st = traj m c t.val t.isLt := by
  obtain ⟨n, hn⟩ := t
  cases n with
  | zero =>
    refine pointOf_first _ _ _ _ _ ?_ _ _
    have := (acts ⟨0, hn⟩)
    refine this.1.mpr ?_
    have e := this.2.2.2.2.2.2.2.2.2.2
    simp only at e
    omega
  | succ n => rw [h (by simp)]; rfl

/-- The columns written do not depend on what the buffer held. -/
theorem emitOf_congr (A : S16x80x512.Idx → Elt Bits .f32) (j : S1x512x1024.Idx) : ∀ (l : List (Fin 8)) (O O' : S1x512x1024.Idx → Elt Bits .bf16),
    (O j = O' j ∨ ∃ p ∈ l, j ∈ (rOut p).set) → emitOf A l O j = emitOf A l O' j
  | [], O, O', h => by
    rcases h with h | ⟨p, hp, -⟩
    · exact h
    · exact absurd hp (by simp)
  | p :: r, O, O', h => by
    unfold emitOf
    refine emitOf_congr A j r _ _ ?_
    by_cases hj : j ∈ (rOut p).set
    · left
      rw [← (rOut p).map_emb_univ, Finset.mem_map] at hj
      obtain ⟨i, -, rfl⟩ := hj
      exact ((rOut p).overlay_emb O _ i).trans ((rOut p).overlay_emb O' _ i).symm
    · rcases h with h | ⟨p', hp', hj'⟩
      · left
        rw [Rect.overlay_of_not_mem _ _ _ hj, Rect.overlay_of_not_mem _ _ _ hj, h]
      · rcases List.mem_cons.mp hp' with rfl | hp'
        · exact absurd hj' hj
        · exact .inr ⟨p', hp', hj'⟩

/-- Every output index lies in a pair's columns. -/
theorem out_cover (j : S1x512x1024.Idx) : j ∈ (rOut ⟨(j 2).val / 128, by have := (j 2).isLt; simp at this; omega⟩).set := by
  rw [← Rect.map_emb_univ, Finset.mem_map]
  have h0 : (j 0).val < 1 := (j 0).isLt
  have h1 : (j 1).val < 512 := (j 1).isLt
  have h2 : (j 2).val < 1024 := (j 2).isLt
  refine ⟨(fun | ⟨0, _⟩ => ⟨(j 0).val, h0⟩ | ⟨1, _⟩ => ⟨(j 1).val, h1⟩ | ⟨2, _⟩ => ⟨(j 2).val % 128, Nat.mod_lt _ (by decide)⟩ : S1x512x128.Idx), Finset.mem_univ _, ?_⟩
  refine Rect.emb_eq_of_coords _ _ _ fun a => ?_
  match a with
  | ⟨0, _⟩ => simp [Rect.unit]
  | ⟨1, _⟩ => simp [Rect.unit]
  | ⟨2, _⟩ => simp [Rect.unit]; omega

/-- The output block a state of the accumulator gives. -/
def outOf (A : S16x80x512.Idx → Elt Bits .f32) : S1x512x1024.Idx → Elt Bits .bf16 := emitOf A (List.finRange 8) default

theorem emitOf_eq (A : S16x80x512.Idx → Elt Bits .f32) (O : S1x512x1024.Idx → Elt Bits .bf16) : emitOf A (List.finRange 8) O = outOf A :=
  funext fun j => emitOf_congr A j _ _ _ (.inr ⟨_, List.mem_finRange _, out_cover j⟩)

/-! ## The pipeline's proof data -/

abbrev ms0_0 (t : Fin cfgA.N) : Memref sig .tc .vmem S1x16x128x512 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S1x16x128x512 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S1x16x80x512 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S1x512x1024 .bf16 := spec0_3.stage (cfgA.slots t (3 : Fin 4))
abbrev hs0_3 (t : Fin cfgA.N) : (ms0_3 t).IsWhole := hstage0_3 ((cfgA.slots t (3 : Fin 4)).cast nbuf0_3)

/-- Between the points: the accumulator and the running maximum as the point before left them, and the tables. -/
def Phi (c : Dev nD) (t : Fin (cfgA.N + 1)) : sProp 𝕄 :=
  iprop((∃ st : St Bits, ⌜∀ h0 : t.val ≠ 0, st = traj m c (t.val - 1) (by omega)⌝ ∗ state c (Memref.whole cc0_scratch0) (Memref.whole cc0_scratch1) st)
    ∗ owns (c : Thread nD τ) (Memref.whole main_c) fullShare tabQ ∗ owns (c : Thread nD τ) (Memref.whole main_c_0) fullShare tabK)

/-- The proof data: the arrays as launched, the inputs' blocks as fetched, the output's block as the accumulator gives it. -/
def dats (_ : Fin 1) (c : Dev nD) : Dat τ (Elt Bits) Unit ℕ (UR sig nD τ) ℕ cfgA c where
  A w := m ((cfgA.win w).arr.view.loc (c : Thread nD τ))
  after w t := match w with
    | ⟨0, _⟩ => iblk m c (0 : Fin 4) t
    | ⟨1, _⟩ => iblk m c (1 : Fin 4) t
    | ⟨2, _⟩ => iblk m c (2 : Fin 4) t
    | ⟨3, _⟩ => outOf (traj m c t.val t.isLt).1
  Φ t := Phi m c t
  q _ := fullShare
  owed _ := 0

theorem after_0 (c : Dev nD) (t : Fin cfgA.N) : (dats m 0 c).after (0 : Fin 4) t = iblk m c (0 : Fin 4) t := rfl
theorem after_1 (c : Dev nD) (t : Fin cfgA.N) : (dats m 0 c).after (1 : Fin 4) t = iblk m c (1 : Fin 4) t := rfl
theorem after_2 (c : Dev nD) (t : Fin cfgA.N) : (dats m 0 c).after (2 : Fin 4) t = iblk m c (2 : Fin 4) t := rfl
theorem after_3 (c : Dev nD) (t : Fin cfgA.N) : (dats m 0 c).after (3 : Fin 4) t = outOf (traj m c t.val t.isLt).1 := rfl

theorem before_0 (c : Dev nD) (t : Fin cfgA.N) (d) : (dats m 0 c).before (0 : Fin 4) t d = iQ m c t :=
  ((dats m 0 c).before_in_eq_fetched (0 : Fin 4) rfl (fun _ => rfl) (fun _ _ _ => rfl) (fun t => by rw [after_0]; unfold Dat.blockOf iblk; rfl) t d).trans
    (by unfold Dat.fetched Dat.blockOf iQ iblk; rfl)
theorem before_1 (c : Dev nD) (t : Fin cfgA.N) (d) : (dats m 0 c).before (1 : Fin 4) t d = iK m c t :=
  ((dats m 0 c).before_in_eq_fetched (1 : Fin 4) rfl (fun _ => rfl) (fun _ _ _ => rfl) (fun t => by rw [after_1]; unfold Dat.blockOf iblk; rfl) t d).trans
    (by unfold Dat.fetched Dat.blockOf iK iblk; rfl)
theorem before_2 (c : Dev nD) (t : Fin cfgA.N) (d) : (dats m 0 c).before (2 : Fin 4) t d = iV m c t :=
  ((dats m 0 c).before_in_eq_fetched (2 : Fin 4) rfl (fun _ => rfl) (fun _ _ _ => rfl) (fun t => by rw [after_2]; unfold Dat.blockOf iblk; rfl) t d).trans
    (by unfold Dat.fetched Dat.blockOf iV iblk; rfl)

/-- The output's buffer is always fresh: it is written back by the point that writes it. -/
theorem fresh_3 (t : Fin cfgA.N) : cfgA.fresh (3 : Fin 4) t.val = true :=
  Pipeline.Cfg.fresh_tab cfgA (3 : Fin 4) (fun _ => true) rfl (fun t => by
    have h := acts t
    rw [h.2.2.2.2.1, h.2.2.2.1]
    by_cases hk : kN t = qN t <;> simp [hk]) t.val (Nat.le_of_lt t.isLt)

theorem before_3 (c : Dev nD) (t : Fin cfgA.N) (d) : (dats m 0 c).before (3 : Fin 4) t d = d := by
  rw [(dats m 0 c).before_out_traj (3 : Fin 4) rfl (fun _ _ => rfl)
    (fun t _ _ hf => absurd (hf.symm.trans (fresh_3 t)) Bool.false_ne_true) t.val t rfl d, if_pos (fresh_3 t)]

/-! ## The body's obligation -/

/-- The body at a point, as the pipeline calls it. -/
abbrev bodyAt (t : Fin cfgA.N) : Prog (TpuEff nD τ sig (Elt Bits) Λ₀ .tc) PUnit :=
  cc0_flash_prompt (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (Memref.whole cc0_scratch0) (Memref.isWhole_whole _) (Memref.whole cc0_scratch1) (Memref.isWhole_whole _)

set_option maxHeartbeats 4000000 in
theorem sound_body (c : Dev nD) (t : Fin cfgA.N) :
    iprop((dats m 0 c).Φ t.castSucc ∗ (dats m 0 c).owesAt () t.castSucc
        ∗ (∃ d, owns (c : Thread nD τ) (ms0_0 t) fullShare ((dats m 0 c).before (0 : Fin 4) t d))
        ∗ (∃ d, owns (c : Thread nD τ) (ms0_1 t) fullShare ((dats m 0 c).before (1 : Fin 4) t d))
        ∗ (∃ d, owns (c : Thread nD τ) (ms0_2 t) fullShare ((dats m 0 c).before (2 : Fin 4) t d))
        ∗ (∃ d, owns (c : Thread nD τ) (ms0_3 t) fullShare ((dats m 0 c).before (3 : Fin 4) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  have hA := acts t
  rewrite [hA.2.2.2.1, hA.2.2.2.2.1]
  simp only [before_0, before_1, before_2, before_3, after_0, after_1, after_2, after_3]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold bodyAt
  rewrite [body_eq]
  unfold Phi
  iintro ⟨⟨⟨%st, %hst, HS⟩, HT0, HT1⟩, Ho, ⟨%d0, H0⟩, ⟨%d1, H1⟩, ⟨%d2, H2⟩, ⟨%d3, H3⟩⟩
  iapply (body_spec c (Memref.whole main_c) (Memref.whole main_c_0) (ms0_0 t) (ms0_1 t) (ms0_2 t) (ms0_3 t) (hs0_3 t) (Memref.whole cc0_scratch0) (Memref.whole cc0_scratch1)
    (iQ m c t) (iK m c t) (iV m c t) (crd t) fullShare fullShare tabQ tabK d3 st) $$ [HS HT0 HT1 H0 H1 H2 H3]
  · isplitl [HT0]; · iexact HT0
    isplitl [HT1]; · iexact HT1
    isplitr [H3]
    · unfold held
      isplitl [H0 H1]
      · isplitl [H0]; · iexact H0
        iexact H1
      isplitl [H2]; · iexact H2
      iexact HS
    iexact H3
  unfold held
  iintro ⟨HT0, HT1, ⟨⟨H0, H1⟩, H2, HS⟩, H3⟩
  isplitl [HS HT0 HT1]
  · isplitl [HS]
    · iexists (next m c t st)
      isplitr
      · ipureintro
        intro _
        exact traj_next m c t st hst
      iexact HS
    isplitl [HT0]; · iexact HT0
    iexact HT1
  isplitl [Ho]; · iexact Ho
  isplitl [H0]; · iexact H0
  isplitl [H1]; · iexact H1
  isplitl [H2]; · iexact H2
  have ht : (pointOf (word tabQ (crd t)) (word tabK (crd t)) (iQ m c t) (iK m c t) (iV m c t) st) = traj m c t.val t.isLt := traj_next m c t st hst
  have h3 := hA.2.2.1
  by_cases hk : kN t = qN t
  · have e : (if k0_cond3 (word tabQ (crd t)) (word tabK (crd t)) = 1#1 then emitOf (pointOf (word tabQ (crd t)) (word tabK (crd t)) (iQ m c t) (iK m c t) (iV m c t) st).1 (List.finRange 8) d3 else d3)
        = outOf (traj m c t.val t.isLt).1 := by rw [if_pos (h3.mpr hk), ht, emitOf_eq]
    rw [e]
    simp only [hk, decide_true, Bool.not_true]
    iexact H3
  · have e : (if k0_cond3 (word tabQ (crd t)) (word tabK (crd t)) = 1#1 then emitOf (pointOf (word tabQ (crd t)) (word tabK (crd t)) (iQ m c t) (iK m c t) (iV m c t) st).1 (List.finRange 8) d3 else d3)
        = d3 := by rw [if_neg fun h => hk (h3.mp h)]
    rw [e]
    simp only [hk, decide_false, Bool.not_false]
    iexists d3
    iexact H3

theorem body_obligation (c : Dev nD) : BodyObligation (dats m 0 c) (defs₀ (F := Bits)) Variants.none () Set.univ := fun t => by
  rw [bigSep_W0]
  exact sound_body m c t

end Cert.Kernel.Flash

end
-- ==== Proof.Launch.lean ====
/- The launch: the two tables written by host operations, then the kernel. -/
module

public import proofs.«01_k».proof.Proof.Run
public import Idealize.ShloMosaic.Lib.Pipeline.Frame

@[expose] public section

set_option maxRecDepth 16384
set_option Elab.async false

noncomputable section

namespace Cert.Kernel.Flash

open Cert.Kernel Cert.Kernel.Gen Cert.Flash
open Idealize.ShloMosaic Idealize.ShloMosaic.TcCoe
open Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- A core's buffers as launched. -/
abbrev V₀ (c : Dev nD) : Valuation τ sig (Elt Bits) := fun b => m ((c : Dev nD), b)
/-- A core's buffers when the kernel is entered: the tables are written. -/
def V (c : Dev nD) (b : Ref sig .tc) : Buf (Elt Bits) ((c : Thread nD τ).loc b) := StableHlo.after hostOps0 (V₀ m c) b

/-- The host writes the tables alone. -/
theorem V_of_ne (c : Dev nD) (b : Ref sig .tc) (h0 : b ≠ main_c) (h1 : b ≠ main_c_0) : V m c b = m ((c : Thread nD τ).loc b) := by
  unfold V
  refine StableHlo.after_of_forall_not_mem (b := Proc.devRef .tc b) hostOps0 (V₀ m c) ?_
  intro op hop
  simp only [List.mem_cons, List.mem_nil_iff, or_false] at hop
  rcases hop with rfl | rfl <;>
    simp only [StableHlo.nullary_writes, Finset.mem_singleton] <;>
    exact StableHlo.devRef_ne_of_ne ‹_›

theorem V_tabQ (c : Dev nD) : V m c main_c = tabQ := rfl
theorem V_tabK (c : Dev nD) : V m c main_c_0 = tabK := rfl

theorem A_eq (c : Dev nD) (w : Fin 4) : (dats m 0 c).A w = V m c (Pipeline.arrRef spec0 w) := by
  match w with
  | 0 => exact (V_of_ne m c main_arg0 (by decide) (by decide)).symm
  | 1 => exact (V_of_ne m c main_arg1 (by decide) (by decide)).symm
  | 2 => exact (V_of_ne m c main_arg2 (by decide) (by decide)).symm
  | 3 => exact (V_of_ne m c main_v0 (by decide) (by decide)).symm

theorem share_eq (c : Dev nD) (w : Fin cfgA.W) : (dats m 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- A whole buffer held is its reference's. -/
theorem owns_intro (c : Dev nD) (b : Ref sig .tc) (q : PosShare TreeShare) (X : b.ty.Contents (Elt Bits)) :
    (((c : Thread nD τ).loc b ↦{q} X) : sProp 𝕄) ⊢ owns (c : Thread nD τ) (Memref.whole b) q X := by
  rw [owns_whole_eq]
  iintro H; iexists X; isplitr; · ipureintro; rfl
  iexact H

theorem owns_elim (c : Dev nD) (b : Ref sig .tc) (q : PosShare TreeShare) (X : b.ty.Contents (Elt Bits)) :
    (owns (c : Thread nD τ) (Memref.whole b) q X : sProp 𝕄) ⊢ ∃ f : Buf (Elt Bits) ((c : Thread nD τ).loc b), ((c : Thread nD τ).loc b ↦{q} f) := by
  rw [owns_whole_eq]
  iintro ⟨%f, -, H⟩; iexists f; iexact H

/-- Before the first point: the tables, and the scratch at something. -/
theorem phi_first (c : Dev nD) :
    iprop(BI.emp ∗ Pipeline.prefHeld pre0 c (fun _ => fullShare) adm0.1 ∗ Pipeline.scopedRest spec0 c) ⊢ (dats m 0 c).Φ 0 := by
  rw [prefHeld_eq, scopedRest0_eq, show (dats m 0 c).Φ 0 = Phi m c 0 from rfl]
  unfold Phi state
  iintro ⟨-, ⟨HT0, HT1⟩, ⟨%a0, HS0⟩, ⟨%a1, HS1⟩⟩
  isplitl [HS0 HS1]
  · iexists ((a0, a1) : St Bits); isplitr
    · ipureintro; intro h0; exact absurd rfl h0
    isplitl [HS0]
    · iapply (owns_intro c cc0_scratch0 fullShare a0); iexact HS0
    iapply (owns_intro c cc0_scratch1 fullShare a1); iexact HS1
  isplitl [HT0]
  · iapply (owns_intro c main_c fullShare tabQ); iexact HT0
  iapply (owns_intro c main_c_0 fullShare tabK); iexact HT1

/-- After the last point: the scratch at something. -/
theorem phi_last (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi state
  iintro ⟨⟨%st, -, HS0, HS1⟩, -, -⟩
  isplitr; · iempintro
  isplitl [HS0]
  · iapply (owns_elim c cc0_scratch0 fullShare st.1); iexact HS0
  iapply (owns_elim c cc0_scratch1 fullShare st.2); iexact HS1

/-! ## The launch -/

abbrev L : GSem nD τ sig → Finset Unit := fun _ => ∅
abbrev lv : GSem nD τ sig → Unit → ℕ := fun _ _ => 0
abbrev adms : (p : Fin 1) → (pcfgs (F := Bits) p).Adm := fun _ => adm0
abbrev rest (c : Dev nD) : sProp 𝕄 := iprop(∃ W, owes (c : Thread nD τ) (0 : CellTallies nD τ sig Unit) W)

/-- The launch's element of the rounds algebra. -/
def u₀ : UR sig nD τ := initOf (Pipeline.cells pcs (cellOf_inj adms)) (Pipeline.launchToks pcs (cellOf_inj adms))

theorem own_u₀ : (ownU u₀ : sProp 𝕄) ⊢ own (EP.toFun u₀) := .rfl

/-- The kernel has no semaphore of its own. -/
abbrev noSem : Fin 0 → SemLoc sig := fun k => k.elim0
theorem noSem_facts : Pipeline.OwnSemFacts spec0 noSem := by decide
theorem noSem_eq (c : Dev nD) : (Pipeline.ownSems0 (Ix := Unit) (Name := ℕ) (U := UR sig nD τ) (Lvl := ℕ) (Val := Elt Bits) (τ := τ) noSem c : sProp 𝕄) = BI.emp := by
  unfold Pipeline.ownSems0
  rw [show (Finset.univ : Finset (Fin 0)) = ∅ from rfl, BI.bigSep_empty]

/-- The host's operations. -/
def hostSeg : Pipeline.HostSeg (Name := ℕ) (U := UR sig nD τ) (pcfgs (F := Bits)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) rest

/-- The arrays at the end. -/
abbrev ends (c : Dev nD) : sProp 𝕄 := (dats m 0 c).arrays ((dats m 0 c).arrAt · cfgA.N)

set_option backward.isDefEq.respectTransparency.types false in
/-- The kernel's region: entered from what the host leaves, left with the arrays at their final contents. -/
def region : Pipeline.RegionSeg (pcfgs (F := Bits)) adms (dats m) () defs₀ Variants.none L lv 0 where
  win := winFacts0.to₀
  block_pos := block_pos0
  stage_whole := stage_whole0
  K := Fin 0
  osem := noSem
  ho := noSem_facts
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ rest c)
  post c := iprop(ends m c ∗ rest c)
  X _ := BI.emp
  Y _ := BI.emp
  Z _ := BI.emp
  hentry c := by
    rw [show StableHlo.held (c : Thread nD τ) (Pipeline.ucRefs τ sig) (StableHlo.after hostOps0 (V₀ m c)) = unscopedBufs c (V m c) from (Pipeline.unscopedBufs_held c _).symm]
    have hsplit := (Pipeline.arrays_of_unscopedBufs (pcfgs (F := Bits)) adms (dats m) winFacts0 arr_whole0 c
      (share_eq m c) (V m c) (A_eq m c)).trans (sep_mono .rfl (Entails.of_eq (Pipeline.unscopedRest_split preFacts0 c (V m c))))
    rw [unscopedRestP0_eq, prefHeld_eq] at hsplit
    rw [show Pipeline.prefHeld (Ix := Unit) (Name := ℕ) (U := UR sig nD τ) (Lvl := ℕ) (pcfgs (F := Bits) 0).pre c (fun _ => fullShare) (adms 0).1 = _ from prefHeld_eq c _ _]
    iintro ⟨⟨Hub, HO⟩, -, -⟩
    ihave H := hsplit $$ Hub
    icases H with ⟨Ha, ⟨HT0, HT1⟩, -⟩
    imodintro
    isplitl [Ha]; · iexact Ha
    isplitl [HT0 HT1]
    · isplitl [HT0]; · iexact HT0
      iexact HT1
    isplitl [HO]
    · unfold Pipeline.Dat.owesAt Pipeline.owesWithin
      icases HO with ⟨%W, HO⟩; iexists W; isplitr; · ipureintro; exact fun _ _ => Or.inl trivial
      iexact HO
    isplitr <;> iempintro
  hin c := phi_first m c
  hout c := by
    rw [noSem_eq]
    have h := phi_last m c
    iintro H
    ihave H := h $$ H
    icases H with ⟨-, H⟩
    isplitr; · iempintro
    isplitr; · iempintro
    iexact H
  hexit c := by
    iintro ⟨Ha, HO, -, -⟩
    imodintro
    isplitl [Ha]; · iexact Ha
    unfold Pipeline.Dat.owesAt Pipeline.owesWithin
    icases HO with ⟨%W, -, HO⟩; iexists W; iexact HO

abbrev segs : List (Pipeline.Seg (pcfgs (F := Bits)) adms (dats m) () defs₀ Variants.none L lv) := [.host (hostSeg m), .region (region m)]

set_option backward.isDefEq.respectTransparency.types false in
/-- Every execution ends with each array at the contents the points leave it and every counter at zero. -/
theorem run_main : θ_run (defs (F := Bits)) (onTc (τ := τ) (main (F := Bits))) ⟨m, fun _ => 0, ρ⟩
    (fun r => (∀ c : Dev nD, ∀ w : Fin 4, r.2.mem ((cfgA.win w).arr.view.loc (c : Thread nD τ)) = (dats m 0 c).arrAt w cfgA.N) ∧ r.2.sem = fun _ => 0) :=
  Pipeline.θ_run_regions_kit_sems (pcfgs (F := Bits)) adms (dats m) () (cellOf_inj adms) EP defs₀ Variants.none L lv m ρ main (segs m)
    (fun c Q => by rw [main_segs adms (dats m) () Variants.none L lv (hostSeg m) (region m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      iintro HP
      ihave HP := own_u₀ $$ HP
      unfold u₀
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ rest c)) (Tₙ := ends m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ w : Fin 4, s.mem ((cfgA.win w).arr.view.loc (c : Thread nD τ)) = (dats m 0 c).arrAt w cfgA.N)
    (hfin := fun c s' => by
      iintro ⟨Ha, HSI⟩
      ihave Hr := (Pipeline.arrays_read (pcfgs (F := Bits)) adms (dats m) arr_whole0 c (share_eq m c) _ s') $$ [Ha HSI]
      · isplitl [Ha] <;> iassumption
      icases Hr with ⟨%ha, HSI⟩
      imodintro
      isplitr; · ipureintro; exact ha
      iexact HSI)
    (hQ := fun _ h hz => ⟨h, funext fun g => hz g (.inr (by revert g; decide))⟩)

/-- The frame: the arguments end as they began and every counter at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c 0).trans ((dats m 0 c).arrAt_in (0 : Fin 4) rfl _), (h.1 c 1).trans ((dats m 0 c).arrAt_in (1 : Fin 4) rfl _),
      (h.1 c 2).trans ((dats m 0 c).arrAt_in (2 : Fin 4) rfl _)⟩, h.2⟩) (run_main m ρ)

end Cert.Kernel.Flash

end
-- ==== Proof.Ideal.Body.lean ====
/- The kernel's body, written once for every head, column block and key chunk: a score product, one step of the
   running softmax for one head and one block of 256 queries, a sweep over a list of those, and the final division.
   The printed body is this program (`body_eq`). -/
module

public import proofs.«01_k».proof.Proof.Gen.KernelIdeal
public import Idealize.ShloMosaic.Lib.Tactic

@[expose] public section

set_option maxRecDepth 65536

noncomputable section

namespace Cert.KernelIdeal.Flash

open Cert.KernelIdeal
open Idealize.ShloMosaic Idealize.ShloMosaic.TcCoe
open Idealize.SL.Sem
open Cert.KernelIdeal.Facts₀ Cert.KernelIdeal.Facts

variable {F : FTy → Type} [FloatOps F] [Named F]

/-- Programs of the kernel. -/
abbrev KProg (α : Type) : Type 1 := Prog (TpuEff nD τ sig (Elt F) Λ₀ .tc) α

/-- The masked score: minus infinity's stand-in. -/
def neg : F .f32 := Named.named κ "mask" 0xF149F2CA#32

/-- One head and one half of the 512 queries of the block. -/
abbrev Chain : Type := Fin 16 × Fin 2

theorem inb_qk (h : Fin 16) (c : Fin 2) : ∀ a, (![0, h.val, 0, 256 * c.val] : Fin 4 → Nat) a + S1x1x128x256.size a ≤ S1x16x128x512.size a := by
  revert h c; decide
theorem inb_v (h : Fin 16) (c : Fin 2) : ∀ a, (![0, h.val, 0, 256 * c.val] : Fin 4 → Nat) a + S1x1x80x256.size a ≤ S1x16x80x512.size a := by
  revert h c; decide
theorem inb_m (h : Fin 16) (c : Fin 2) : ∀ a, (![h.val, 0, 256 * c.val] : Fin 3 → Nat) a + S1x8x256.size a ≤ S16x8x512.size a := by
  revert h c; decide
theorem inb_acc (h : Fin 16) (c : Fin 2) : ∀ a, (![h.val, 0, 256 * c.val] : Fin 3 → Nat) a + S1x80x256.size a ≤ S16x80x512.size a := by
  revert h c; decide

/-- Head `h`, half `c` of a block of queries or keys. -/
abbrev rQK (h : Fin 16) (c : Fin 2) : Rect S1x16x128x512 := Rect.unit ![0, h.val, 0, 256 * c.val] S1x1x128x256.size (inb_qk h c)
/-- Head `h`, half `c` of a block of values. -/
abbrev rV (h : Fin 16) (c : Fin 2) : Rect S1x16x80x512 := Rect.unit ![0, h.val, 0, 256 * c.val] S1x1x80x256.size (inb_v h c)
/-- Head `h`, half `c` of the running maximum. -/
abbrev rM (h : Fin 16) (c : Fin 2) : Rect S16x8x512 := Rect.unit ![h.val, 0, 256 * c.val] S1x8x256.size (inb_m h c)
/-- Head `h`, half `c` of the accumulator. -/
abbrev rA (h : Fin 16) (c : Fin 2) : Rect S16x80x512 := Rect.unit ![h.val, 0, 256 * c.val] S1x80x256.size (inb_acc h c)

theorem inb_o (h : Fin 16) : ∀ a, (![h.val, 0, 0] : Fin 3 → Nat) a + S1x80x512.size a ≤ S16x80x512.size a := by
  revert h; decide
theorem inb_out (p : Fin 8) : ∀ a, (![0, 0, 128 * p.val] : Fin 3 → Nat) a + S1x512x128.size a ≤ S1x512x1024.size a := by
  revert p; decide

theorem packed_out (p : Fin 8) : (Rect.unit (s := S1x512x1024) ![0, 0, 128 * p.val] S1x512x128.size (inb_out p)).PackedRows (EltTy.packing .bf16) := by
  revert p; decide

/-- All of head `h` of the accumulator. -/
abbrev rO (h : Fin 16) : Rect S16x80x512 := Rect.unit ![h.val, 0, 0] S1x80x512.size (inb_o h)
/-- The output columns of a pair of heads. -/
abbrev rOut (p : Fin 8) : Rect S1x512x1024 := Rect.unit ![0, 0, 128 * p.val] S1x512x128.size (inb_out p)
/-- The pair's first head. -/
abbrev ev (p : Fin 8) : Fin 16 := ⟨2 * p.val, by omega⟩
/-- The pair's second head. -/
abbrev od (p : Fin 8) : Fin 16 := ⟨2 * p.val + 1, by omega⟩

/-! ## The values -/

/-- Scores of 256 keys against 256 queries. -/
def score (x y : Vec F S1x1x128x256 .bf16) : FVec F S256x256 .f32 :=
  matmul dot_S128x256_S128x256_S256x256_0_0_1_1_n_n none
    (shapeCast S128x256 x shapeCasts_S1x1x128x256_S128x256) (shapeCast S128x256 y shapeCasts_S1x1x128x256_S128x256)
    (constant S256x256 .f32 0x00000000#32)

/-- The scores with the keys after the query masked, keys and queries both counted from `o`. -/
def masked (o : BitVec 32) (s : FVec F S256x256 .f32) : FVec F S256x256 .f32 :=
  select (cmpi .sle (addi (iota .tc S256x256 32 [0] iota_S256x256_d0_w32) (broadcast S256x256 o))
    (addi (iota .tc S256x256 32 [1] iota_S256x256_d1_w32) (broadcast S256x256 o))) s (broadcast S256x256 neg)

/-- The new running maximum. -/
def mNew (s : FVec F S256x256 .f32) (m : Vec F S1x8x256 .f32) : FVec F S8x256 .f32 :=
  maximumf (shapeCast S8x256 m shapeCasts_S1x8x256_S8x256)
    (broadcastTo S8x256 (shapeCast S1x256 (multiReduction .maximumf [0] S256 s 0xFF800000#32 reduces_S256x256_S256 (.inl rfl) rfl)
      shapeCasts_S256_S1x256) broadcasts_S1x256_S8x256)

/-- The chunk's weights. -/
def weights (s : FVec F S256x256 .f32) (m : Vec F S1x8x256 .f32) : FVec F S256x256 .f32 :=
  exp2 (subf s (broadcastTo S256x256 (extractStridedSlice S1x256 ![0, 0] (mNew s m) slices_S8x256_o0_0_S1x256) broadcasts_S1x256_S256x256))

/-- What the accumulator is rescaled by. -/
def rescale (s : FVec F S256x256 .f32) (m : Vec F S1x8x256 .f32) : FVec F S1x256 .f32 :=
  extractStridedSlice S1x256 ![0, 0] (exp2 (subf (shapeCast S8x256 m shapeCasts_S1x8x256_S8x256) (mNew s m))) slices_S8x256_o0_0_S1x256

/-- The new accumulator. -/
def aNew (s : FVec F S256x256 .f32) (m : Vec F S1x8x256 .f32) (a : Vec F S1x80x256 .f32) (v : Vec F S1x1x80x256 .bf16) : FVec F S1x80x256 .f32 :=
  shapeCast S1x80x256
    (addf (mulf (broadcastTo S80x256 (rescale s m) broadcasts_S1x256_S80x256) (shapeCast S80x256 a shapeCasts_S1x80x256_S80x256))
      (matmul dot_S80x256_S256x256_S80x256_1_0_0_1_n_n none (shapeCast S80x256 v shapeCasts_S1x1x80x256_S80x256)
        (truncf .bf16 (weights s m) bitsLt_bf16_f32) (constant S80x256 .f32 0x00000000#32)))
    shapeCasts_S80x256_S1x80x256

/-- The new running maximum as it is stored. -/
def mOut (s : FVec F S256x256 .f32) (m : Vec F S1x8x256 .f32) : FVec F S1x8x256 .f32 :=
  shapeCast S1x8x256 (mNew s m) shapeCasts_S8x256_S1x8x256

/-- Two heads' quotients side by side. -/
def quot (a : Vec F S1x80x512 .f32) : FVec F S64x512 .f32 :=
  divf (extractStridedSlice S64x512 ![0, 0] (shapeCast S80x512 a shapeCasts_S1x80x512_S80x512) slices_S80x512_o0_0_S64x512)
    (broadcastTo S64x512 (extractStridedSlice S1x512 ![64, 0] (shapeCast S80x512 a shapeCasts_S1x80x512_S80x512) slices_S80x512_o64_0_S1x512)
      broadcasts_S1x512_S64x512)

/-- The 128 output columns of two heads. -/
def pairOut (a b : Vec F S1x80x512 .f32) : FVec F S1x512x128 .bf16 :=
  shapeCast S1x512x128
    (truncf .bf16 (transpose S512x128 [1, 0]
      (concatenate S128x512 0 [⟨S64x512, quot a⟩, ⟨S64x512, quot b⟩] concatenates_S64x512_S64x512_S128x512_d0)
      transposes_S128x512_p1_0_S512x128) bitsLt_bf16_f32) shapeCasts_S512x128_S1x512x128

/-! ## The program -/

section program

variable (arg2 : Memref sig .tc .smem S136 .i32) (arg3 : Memref sig .tc .smem S136 .i32)
  (arg4 : Memref sig .tc .vmem S1x16x128x512 .bf16) (arg5 : Memref sig .tc .vmem S1x16x128x512 .bf16)
  (arg6 : Memref sig .tc .vmem S1x16x80x512 .bf16) (arg7 : Memref sig .tc .vmem S1x512x1024 .bf16) (harg7 : arg7.IsWhole)
  (arg8 : Memref sig .tc .vmem S16x80x512 .f32) (arg9 : Memref sig .tc .vmem S16x8x512 .f32)

/-- The running maximum at the stand-in of minus infinity, the accumulator at zero. -/
def start : KProg (F := F) PUnit := do
  let _ ← Prog.lift (.load arg9 (Rect.unit (s := S16x8x512) ![0, 0, 0] S16x8x512.size inb_S16x8x512_S16x8x512_0_0_0).toLoadRect (View.loadsAt_vmem h_S16x8x512))
  Prog.lift (.store arg9 (Rect.unit (s := S16x8x512) ![0, 0, 0] S16x8x512.size inb_S16x8x512_S16x8x512_0_0_0)
    (shapeCast S16x8x512 (broadcast S16x8x512 (neg (F := F))) shapeCasts_S16x8x512_S16x8x512) Finset.univ (View.stores_vmem_bits_univ h_S16x8x512 rfl) (.inl rfl))
  let _ ← Prog.lift (.load arg8 (Rect.unit (s := S16x80x512) ![0, 0, 0] S16x80x512.size inb_S16x80x512_S16x80x512_0_0_0).toLoadRect (View.loadsAt_vmem h_S16x80x512))
  Prog.lift (.store arg8 (Rect.unit (s := S16x80x512) ![0, 0, 0] S16x80x512.size inb_S16x80x512_S16x80x512_0_0_0)
    (shapeCast S16x80x512 (broadcast S16x80x512 (Scalar.ofBits (F := F) .f32 0x00000000#32)) shapeCasts_S16x80x512_S16x80x512) Finset.univ (View.stores_vmem_bits_univ h_S16x80x512 rfl) (.inl rfl))

/-- The scores of chunk `k` of the keys, for each of the chains. -/
def scores (k : Fin 2) : List Chain → KProg (F := F) (List (Chain × FVec F S256x256 .f32))
  | [] => pure []
  | ch :: r => do
    let x ← Prog.lift (.load arg5 (rQK ch.1 k).toLoadRect (View.loadsAt_vmem h_S1x1x128x256))
    let y ← Prog.lift (.load arg4 (rQK ch.1 ch.2).toLoadRect (View.loadsAt_vmem h_S1x1x128x256))
    let l ← scores k r
    pure ((ch, score x y) :: l)

/-- One step of one chain, with its scores `s` of chunk `k`. -/
def step (k : Fin 2) (ch : Chain) (s : FVec F S256x256 .f32) : KProg (F := F) PUnit := do
  let m ← Prog.lift (.load arg9 (rM ch.1 ch.2).toLoadRect (View.loadsAt_vmem h_S1x8x256))
  let a ← Prog.lift (.load arg8 (rA ch.1 ch.2).toLoadRect (View.loadsAt_vmem h_S1x80x256))
  let v ← Prog.lift (.load arg6 (rV ch.1 k).toLoadRect (View.loadsAt_vmem h_S1x1x80x256))
  let _ ← Prog.lift (.load arg8 (rA ch.1 ch.2).toLoadRect (View.loadsAt_vmem h_S1x80x256))
  Prog.lift (.store arg8 (rA ch.1 ch.2) (aNew s m a v) Finset.univ (View.stores_vmem_bits_univ h_S1x80x256 rfl) (.inl rfl))
  let _ ← Prog.lift (.load arg9 (rM ch.1 ch.2).toLoadRect (View.loadsAt_vmem h_S1x8x256))
  Prog.lift (.store arg9 (rM ch.1 ch.2) (mOut s m) Finset.univ (View.stores_vmem_bits_univ h_S1x8x256 rfl) (.inl rfl))

/-- The chains' steps one after another, each chain's scores through `f`. -/
def steps (k : Fin 2) (f : Chain → FVec F S256x256 .f32 → FVec F S256x256 .f32) : List (Chain × FVec F S256x256 .f32) → KProg (F := F) PUnit
  | [] => pure ⟨⟩
  | p :: r => do
    step arg6 arg8 arg9 k p.1 (f p.1 p.2)
    steps k f r

/-- A chunk of the keys, for the chains of a list. -/
def chunk (k : Fin 2) (f : Chain → FVec F S256x256 .f32 → FVec F S256x256 .f32) (l : List Chain) : KProg (F := F) PUnit := do
  let ss ← scores arg4 arg5 k l
  steps arg6 arg8 arg9 k f ss

/-- The output columns of heads `2 p` and `2 p + 1`. -/
def emitPair (p : Fin 8) : KProg (F := F) PUnit := do
  let a ← Prog.lift (.load arg8 (rO (ev p)).toLoadRect (View.loadsAt_vmem h_S1x80x512))
  let b ← Prog.lift (.load arg8 (rO (od p)).toLoadRect (View.loadsAt_vmem h_S1x80x512))
  let _ ← Prog.lift (.load arg7 (rOut p).toLoadRect (View.loadsAt_vmem h_S1x512x128))
  Prog.lift (.store arg7 (rOut p) (pairOut a b) Finset.univ
    (View.stores_vmem h_S1x512x128 (harg7.storeExact_slice rfl _ (packed_out p)) (fun _ => rfl)) (.inl rfl))

/-- The output columns of a list of pairs of heads. -/
def emit : List (Fin 8) → KProg (F := F) PUnit
  | [] => pure ⟨⟩
  | p :: r => do
    emitPair arg7 harg7 arg8 p
    emit r

/-- Every head and both halves of the queries. -/
def allChains : List Chain := (List.finRange 16).flatMap fun h => [(h, 0), (h, 1)]
/-- Every head, the second half of the queries. -/
def lateChains : List Chain := (List.finRange 16).map fun h => (h, 1)

/-- The two chunks of a block of keys before the block of queries. -/
def below : KProg (F := F) PUnit := do
  chunk arg4 arg5 arg6 arg8 arg9 0 (fun _ s => s) allChains
  chunk arg4 arg5 arg6 arg8 arg9 1 (fun _ s => s) allChains

/-- The two chunks of the block of keys at the block of queries. -/
def diagonal : KProg (F := F) PUnit := do
  chunk arg4 arg5 arg6 arg8 arg9 0 (fun ch s => if ch.2 = 0 then masked 0#32 s else s) allChains
  chunk arg4 arg5 arg6 arg8 arg9 1 (fun _ s => masked 256#32 s) lateChains
  emit arg7 harg7 arg8 (List.finRange 8)

/-- The body. -/
def body (i : grid0.Coords) : KProg (F := F) PUnit := do
  let v1 : Elt F .i32 ← smemLoad arg2 (Rect.unit (s := S136) (k0_off1 i) S1.size (k0_off1_inb i)) numel1_S1 rfl
  let v3 : Elt F .i32 ← smemLoad arg3 (Rect.unit (s := S136) (k0_off1 i) S1.size (k0_off1_inb i)) numel1_S1 rfl
  if Scalar.cmpi .ne (Scalar.extui (Scalar.cmpi .eq v3 0#32) : BitVec 32) 0#32 = 1#1 then start arg8 arg9 else pure ⟨⟩
  if Scalar.cmpi .ne (Scalar.extui (Scalar.cmpi .slt v3 v1) : BitVec 32) 0#32 = 1#1 then below arg4 arg5 arg6 arg8 arg9 else pure ⟨⟩
  if _h : k0_cond3 v1 v3 = 1#1 then diagonal arg4 arg5 arg6 arg7 harg7 arg8 arg9 else pure ⟨⟩
  pure ⟨⟩

/-- The printed body is this program. -/
theorem body_eq (i : grid0.Coords) (harg2 : arg2.IsWhole) (harg3 : arg3.IsWhole) (harg4 : arg4.IsWhole) (harg5 : arg5.IsWhole)
    (harg6 : arg6.IsWhole) (harg8 : arg8.IsWhole) (harg9 : arg9.IsWhole) :
    cc0_flash_prompt (F := F) i arg2 harg2 arg3 harg3 arg4 harg4 arg5 harg5 arg6 harg6 arg7 harg7 arg8 harg8 arg9 harg9 =
      body (F := F) arg2 arg3 arg4 arg5 arg6 arg7 harg7 arg8 arg9 i := by
  sl_kernel_rfl

end program

end Cert.KernelIdeal.Flash

end
-- ==== Proof.Ideal.Steps.lean ====
/- What the kernel's body computes: the accumulator and the running maximum as functions of what they held and of the
   blocks of queries, keys and values, and the body's triple over them. -/
module

public import proofs.«01_k».proof.Proof.Ideal.Body
public import proofs.«01_k».proof.Proof.Owns
public import proofs.«01_k».proof.Proof.Gen.KernelIdeal.Launch

@[expose] public section

set_option maxRecDepth 16384

noncomputable section

namespace Cert.KernelIdeal.Flash

open Cert.KernelIdeal Cert.Flash
open Idealize.ShloMosaic Idealize.ShloMosaic.TcCoe
open Idealize.SL Idealize.SL.RA Idealize.SL.BI Idealize.SL.Sem Idealize.SL.ProofMode
open scoped Idealize.SL.BI
open Idealize.SL.BI.BIBase Idealize.SL.BI.Laws
open Idealize.ShloMosaic.Rounds
open Cert.KernelIdeal.Facts₀ Cert.KernelIdeal.Facts

variable {F : FTy → Type} [FloatOps F] [Named F]

/-- The accumulator and the running maximum. -/
abbrev St (F : FTy → Type) : Type := (S16x80x512.Idx → Elt F .f32) × (S16x8x512.Idx → Elt F .f32)

/-- The scores of one chain against chunk `k` of the keys. -/
def scoreOf (Q K : S1x16x128x512.Idx → Elt F .bf16) (k : Fin 2) (ch : Chain) : FVec F S256x256 .f32 :=
  score (fun x : (rQK ch.1 k).shape.Idx => K ((rQK ch.1 k).emb x)) (fun x : (rQK ch.1 ch.2).shape.Idx => Q ((rQK ch.1 ch.2).emb x))

/-- One step of one chain. -/
def stepOf (V : S1x16x80x512.Idx → Elt F .bf16) (k : Fin 2) (ch : Chain) (s : FVec F S256x256 .f32) (st : St F) : St F :=
  ((rA ch.1 ch.2).overlay st.1 (aNew s (fun x => st.2 ((rM ch.1 ch.2).emb x)) (fun x => st.1 ((rA ch.1 ch.2).emb x)) (fun x => V ((rV ch.1 k).emb x))),
   (rM ch.1 ch.2).overlay st.2 (mOut s (fun x => st.2 ((rM ch.1 ch.2).emb x))))

/-- The steps of a list of chains with their scores. -/
def stepsOf (V : S1x16x80x512.Idx → Elt F .bf16) (k : Fin 2) (f : Chain → FVec F S256x256 .f32 → FVec F S256x256 .f32) :
    List (Chain × FVec F S256x256 .f32) → St F → St F
  | [], st => st
  | p :: r, st => stepsOf V k f r (stepOf V k p.1 (f p.1 p.2) st)

/-- A chunk of the keys, for the chains of a list. -/
def chunkOf (Q K : S1x16x128x512.Idx → Elt F .bf16) (V : S1x16x80x512.Idx → Elt F .bf16) (k : Fin 2)
    (f : Chain → FVec F S256x256 .f32 → FVec F S256x256 .f32) (l : List Chain) (st : St F) : St F :=
  stepsOf V k f (l.map fun ch => (ch, scoreOf Q K k ch)) st

/-- The state the first block of keys starts from. -/
def startOf : St F := (fun _ => Scalar.ofBits .f32 0x00000000#32, fun _ => neg)

/-- A block of keys before the block of queries. -/
def belowOf (Q K : S1x16x128x512.Idx → Elt F .bf16) (V : S1x16x80x512.Idx → Elt F .bf16) (st : St F) : St F :=
  chunkOf Q K V 1 (fun _ s => s) allChains (chunkOf Q K V 0 (fun _ s => s) allChains st)

/-- The block of keys at the block of queries. -/
def diagOf (Q K : S1x16x128x512.Idx → Elt F .bf16) (V : S1x16x80x512.Idx → Elt F .bf16) (st : St F) : St F :=
  chunkOf Q K V 1 (fun _ s => masked 256#32 s) lateChains
    (chunkOf Q K V 0 (fun ch s => if ch.2 = 0 then masked 0#32 s else s) allChains st)

/-- The output block with the columns of some pairs of heads written. -/
def emitOf (A : S16x80x512.Idx → Elt F .f32) : List (Fin 8) → (S1x512x1024.Idx → Elt F .bf16) → S1x512x1024.Idx → Elt F .bf16
  | [], O => O
  | p :: r, O => emitOf A r ((rOut p).overlay O (pairOut (fun x => A ((rO (ev p)).emb x)) (fun x => A ((rO (od p)).emb x))))

/-- The first block of keys. -/
abbrev isFirst (v3 : BitVec 32) : Prop := Scalar.cmpi .ne (Scalar.extui (Scalar.cmpi .eq v3 0#32) : BitVec 32) 0#32 = 1#1
/-- A block of keys before the block of queries. -/
abbrev isBelow (v1 v3 : BitVec 32) : Prop := Scalar.cmpi .ne (Scalar.extui (Scalar.cmpi .slt v3 v1) : BitVec 32) 0#32 = 1#1

/-- The state after a point. -/
def pointOf (v1 v3 : BitVec 32) (Q K : S1x16x128x512.Idx → Elt F .bf16) (V : S1x16x80x512.Idx → Elt F .bf16) (st : St F) : St F :=
  let st := if isFirst v3 then startOf else st
  let st := if isBelow v1 v3 then belowOf Q K V st else st
  if k0_cond3 v1 v3 = 1#1 then diagOf Q K V st else st

/-- The word of a table at a point. -/
def word (T : S136.Idx → BitVec 32) (i : grid0.Coords) : BitVec 32 :=
  T ((Rect.unit (s := S136) (k0_off1 i) S1.size (k0_off1_inb i)).emb (Shape.Idx.first (numel1_S1.symm ▸ Nat.one_pos)))

section triples

attribute [local irreducible] aNew mOut score pairOut

local notation "𝕄" => MT nD τ sig Unit (Elt F) ℕ (UR sig nD τ) ℕ

variable (c : Dev nD)
  (arg2 : Memref sig .tc .smem S136 .i32) (arg3 : Memref sig .tc .smem S136 .i32)
  (arg4 : Memref sig .tc .vmem S1x16x128x512 .bf16) (arg5 : Memref sig .tc .vmem S1x16x128x512 .bf16)
  (arg6 : Memref sig .tc .vmem S1x16x80x512 .bf16) (arg7 : Memref sig .tc .vmem S1x512x1024 .bf16) (harg7 : arg7.IsWhole)
  (arg8 : Memref sig .tc .vmem S16x80x512 .f32) (arg9 : Memref sig .tc .vmem S16x8x512 .f32)
  (Q K : S1x16x128x512.Idx → Elt F .bf16) (V : S1x16x80x512.Idx → Elt F .bf16)

/-- The body's programs on core `c`. -/
abbrev run {α : Type} (p : KProg (F := F) α) (Φ : α → sProp 𝕄) : sProp 𝕄 :=
  wp frame (wpE (defs₀ (F := F)) Variants.none (c : Thread nD τ) none) Set.univ p Φ

/-- The accumulator and the running maximum held at a state. -/
def state (st : St F) : sProp 𝕄 := iprop(owns (c : Thread nD τ) arg8 fullShare st.1 ∗ owns (c : Thread nD τ) arg9 fullShare st.2)

theorem step_spec (k : Fin 2) (ch : Chain) (s : FVec F S256x256 .f32) (st : St F) (Φ : PUnit → sProp 𝕄) :
    iprop(owns (c : Thread nD τ) arg6 fullShare V ∗ state c arg8 arg9 st)
      ⊢ iprop((iprop(owns (c : Thread nD τ) arg6 fullShare V ∗ state c arg8 arg9 (stepOf V k ch s st)) -∗ Φ ⟨⟩)
        -∗ run c (step arg6 arg8 arg9 k ch s) Φ) := by
  unfold state step run
  simp only [wp_bind]
  iintro ⟨H6, H8, H9⟩ HK
  iapply (wp_load_lift _ _ _ _ fullShare st.2) $$ H9; iintro H9
  iapply (wp_load_lift _ _ _ _ fullShare st.1) $$ H8; iintro H8
  iapply (wp_load_lift _ _ _ _ fullShare V) $$ H6; iintro H6
  iapply (wp_load_lift _ _ _ _ fullShare st.1) $$ H8; iintro H8
  iapply (wp_store_lift _ _ _ _ st.1) $$ H8; iintro H8
  iapply (wp_load_lift _ _ _ _ fullShare st.2) $$ H9; iintro H9
  iapply (wp_store_lift _ _ _ _ st.2) $$ H9; iintro H9
  iapply HK
  unfold stepOf
  dsimp only
  isplitl [H6]; · iexact H6
  isplitl [H8]; · iexact H8
  iexact H9

theorem steps_spec (k : Fin 2) (f : Chain → FVec F S256x256 .f32 → FVec F S256x256 .f32) (l : List (Chain × FVec F S256x256 .f32)) :
    ∀ (st : St F) (Φ : PUnit → sProp 𝕄),
    iprop(owns (c : Thread nD τ) arg6 fullShare V ∗ state c arg8 arg9 st)
      ⊢ iprop((iprop(owns (c : Thread nD τ) arg6 fullShare V ∗ state c arg8 arg9 (stepsOf V k f l st)) -∗ Φ ⟨⟩)
        -∗ run c (steps arg6 arg8 arg9 k f l) Φ) := by
  induction l with
  | nil =>
    intro st Φ
    unfold steps run
    iintro H HK
    iapply (le_wp_ret frame (wpE (defs₀ (F := F)) Variants.none (c : Thread nD τ) none) Set.univ)
    iapply HK; iexact H
  | cons p r ih =>
    intro st Φ
    unfold steps run
    simp only [wp_bind]
    iintro H HK
    iapply (step_spec c arg6 arg8 arg9 V k p.1 (f p.1 p.2) st) $$ H; iintro H
    iapply (ih (stepOf V k p.1 (f p.1 p.2) st) Φ) $$ H; iintro H
    iapply HK; iexact H

theorem scores_spec (k : Fin 2) (l : List Chain) : ∀ (Φ : List (Chain × FVec F S256x256 .f32) → sProp 𝕄),
    iprop(owns (c : Thread nD τ) arg4 fullShare Q ∗ owns (c : Thread nD τ) arg5 fullShare K)
      ⊢ iprop((iprop(owns (c : Thread nD τ) arg4 fullShare Q ∗ owns (c : Thread nD τ) arg5 fullShare K) -∗ Φ (l.map fun ch => (ch, scoreOf Q K k ch)))
        -∗ run c (scores arg4 arg5 k l) Φ) := by
  induction l with
  | nil =>
    intro Φ
    unfold scores run
    iintro H HK
    iapply (le_wp_ret frame (wpE (defs₀ (F := F)) Variants.none (c : Thread nD τ) none) Set.univ)
    rw [List.map_nil]
    iapply HK; iexact H
  | cons p r ih =>
    intro Φ
    unfold scores run
    simp only [wp_bind]
    iintro ⟨H4, H5⟩ HK
    iapply (wp_load_lift _ _ _ _ fullShare K) $$ H5; iintro H5
    iapply (wp_load_lift _ _ _ _ fullShare Q) $$ H4; iintro H4
    iapply (ih _) $$ [H4 H5]
    · isplitl [H4]; · iexact H4
      iexact H5
    iintro H
    iapply (le_wp_ret frame (wpE (defs₀ (F := F)) Variants.none (c : Thread nD τ) none) Set.univ)
    show Entails' _ (Φ (List.map (fun ch => (ch, scoreOf Q K k ch)) (p :: r)))
    iapply HK; iexact H

/-- The blocks and the state. -/
def held (st : St F) : sProp 𝕄 :=
  iprop((owns (c : Thread nD τ) arg4 fullShare Q ∗ owns (c : Thread nD τ) arg5 fullShare K)
    ∗ (owns (c : Thread nD τ) arg6 fullShare V ∗ state c arg8 arg9 st))

theorem held_open (st : St F) : (held c arg4 arg5 arg6 arg8 arg9 Q K V st : sProp 𝕄)
    ⊢ iprop((owns (c : Thread nD τ) arg4 fullShare Q ∗ owns (c : Thread nD τ) arg5 fullShare K)
      ∗ (owns (c : Thread nD τ) arg6 fullShare V ∗ state c arg8 arg9 st)) := .rfl

theorem chunk_spec (k : Fin 2) (f : Chain → FVec F S256x256 .f32 → FVec F S256x256 .f32) (l : List Chain) (st : St F) (Φ : PUnit → sProp 𝕄) :
    held c arg4 arg5 arg6 arg8 arg9 Q K V st
      ⊢ iprop((held c arg4 arg5 arg6 arg8 arg9 Q K V (chunkOf Q K V k f l st) -∗ Φ ⟨⟩)
        -∗ run c (chunk arg4 arg5 arg6 arg8 arg9 k f l) Φ) := by
  unfold held chunk run
  simp only [wp_bind]
  iintro ⟨HA, HB⟩ HK
  iapply (scores_spec c arg4 arg5 Q K k l) $$ HA; iintro HA
  iapply (steps_spec c arg6 arg8 arg9 V k f _ st Φ) $$ HB; iintro HB
  iapply HK
  isplitl [HA]; · iexact HA
  iexact HB

theorem below_spec (st : St F) (Φ : PUnit → sProp 𝕄) :
    held c arg4 arg5 arg6 arg8 arg9 Q K V st
      ⊢ iprop((held c arg4 arg5 arg6 arg8 arg9 Q K V (belowOf Q K V st) -∗ Φ ⟨⟩)
        -∗ run c (below arg4 arg5 arg6 arg8 arg9) Φ) := by
  unfold below run
  simp only [wp_bind]
  iintro H HK
  iapply (chunk_spec c arg4 arg5 arg6 arg8 arg9 Q K V 0 _ allChains st) $$ H; iintro H
  iapply (chunk_spec c arg4 arg5 arg6 arg8 arg9 Q K V 1 _ allChains _ Φ) $$ H; iintro H
  iapply HK; iexact H

theorem emit_spec (l : List (Fin 8)) (A : S16x80x512.Idx → Elt F .f32) : ∀ (O : S1x512x1024.Idx → Elt F .bf16) (Φ : PUnit → sProp 𝕄),
    iprop(owns (c : Thread nD τ) arg8 fullShare A ∗ owns (c : Thread nD τ) arg7 fullShare O)
      ⊢ iprop((iprop(owns (c : Thread nD τ) arg8 fullShare A ∗ owns (c : Thread nD τ) arg7 fullShare (emitOf A l O)) -∗ Φ ⟨⟩)
        -∗ run c (emit arg7 harg7 arg8 l) Φ) := by
  induction l with
  | nil =>
    intro O Φ
    unfold emit run
    iintro H HK
    iapply (le_wp_ret frame (wpE (defs₀ (F := F)) Variants.none (c : Thread nD τ) none) Set.univ)
    iapply HK; iexact H
  | cons p r ih =>
    intro O Φ
    unfold emit emitPair run
    simp only [wp_bind]
    iintro ⟨H8, H7⟩ HK
    iapply (wp_load_lift _ _ _ _ fullShare A) $$ H8; iintro H8
    iapply (wp_load_lift _ _ _ _ fullShare A) $$ H8; iintro H8
    iapply (wp_load_lift _ _ _ _ fullShare O) $$ H7; iintro H7
    iapply (wp_store_lift _ _ _ _ O) $$ H7; iintro H7
    iapply (ih _ Φ) $$ [H8 H7]
    · isplitl [H8]; · iexact H8
      iexact H7
    iintro H
    iapply HK; iexact H

theorem diag_spec (O : S1x512x1024.Idx → Elt F .bf16) (st : St F) (Φ : PUnit → sProp 𝕄) :
    iprop(held c arg4 arg5 arg6 arg8 arg9 Q K V st ∗ owns (c : Thread nD τ) arg7 fullShare O)
      ⊢ iprop((iprop(held c arg4 arg5 arg6 arg8 arg9 Q K V (diagOf Q K V st) ∗ owns (c : Thread nD τ) arg7 fullShare (emitOf (diagOf Q K V st).1 (List.finRange 8) O)) -∗ Φ ⟨⟩)
        -∗ run c (diagonal arg4 arg5 arg6 arg7 harg7 arg8 arg9) Φ) := by
  unfold diagonal run
  simp only [wp_bind]
  iintro ⟨H, H7⟩ HK
  iapply (chunk_spec c arg4 arg5 arg6 arg8 arg9 Q K V 0 _ allChains st) $$ H; iintro H
  iapply (chunk_spec c arg4 arg5 arg6 arg8 arg9 Q K V 1 _ lateChains _) $$ H; iintro H
  rw [show (held c arg4 arg5 arg6 arg8 arg9 Q K V (diagOf Q K V st) : sProp 𝕄) = iprop((owns (c : Thread nD τ) arg4 fullShare Q ∗ owns (c : Thread nD τ) arg5 fullShare K)
    ∗ (owns (c : Thread nD τ) arg6 fullShare V ∗ (owns (c : Thread nD τ) arg8 fullShare (diagOf Q K V st).1 ∗ owns (c : Thread nD τ) arg9 fullShare (diagOf Q K V st).2))) from rfl]
  unfold held state
  icases H with ⟨HA, H6, H8, H9⟩
  iapply (emit_spec c arg7 harg7 arg8 (List.finRange 8) _ O Φ) $$ [H8 H7]
  · isplitl [H8]; · iexact H8
    iexact H7
  iintro ⟨H8, H7⟩
  iapply HK
  isplitr [H7]
  · isplitl [HA]; · iexact HA
    isplitl [H6]; · iexact H6
    isplitl [H8]; · iexact H8
    iexact H9
  iexact H7

/-- A store of a whole buffer leaves what it wrote. -/
theorem overlay_whole {s : Shape} {off : Fin s.rank → ℕ} {h : ∀ a, off a + s.size a ≤ s.size a} {α : Type} (X : s.Idx → α)
    (w : (Rect.unit off s.size h).shape.Idx → α) (v : α) (hw : ∀ x, w x = v) : (Rect.unit off s.size h).overlay X w = fun _ => v := by
  funext j
  have hj : (Rect.unit off s.size h).emb (fun a => j a) = j := by
    refine Rect.emb_eq_of_coords _ _ _ fun a => ?_
    have := h a
    simp only [Rect.unit]
    omega
  rw [← hj]; exact (Rect.overlay_emb _ _ _ _).trans (hw _)

theorem start_spec (st : St F) (Φ : PUnit → sProp 𝕄) :
    state c arg8 arg9 st ⊢ iprop((state c arg8 arg9 startOf -∗ Φ ⟨⟩) -∗ run c (start arg8 arg9) Φ) := by
  unfold start state run
  simp only [wp_bind]
  iintro ⟨H8, H9⟩ HK
  iapply (wp_load_lift _ _ _ _ fullShare st.2) $$ H9; iintro H9
  iapply (wp_store_lift _ _ _ _ st.2) $$ H9; iintro H9
  iapply (wp_load_lift _ _ _ _ fullShare st.1) $$ H8; iintro H8
  iapply (wp_store_lift _ _ _ _ st.1) $$ H8; iintro H8
  iapply HK
  have h9 := overlay_whole (s := S16x8x512) (off := ![0, 0, 0]) (h := inb_S16x8x512_S16x8x512_0_0_0) st.2
    (shapeCast S16x8x512 (broadcast S16x8x512 (neg (F := F))) shapeCasts_S16x8x512_S16x8x512) (neg (F := F)) (fun _ => rfl)
  have h8 := overlay_whole (s := S16x80x512) (off := ![0, 0, 0]) (h := inb_S16x80x512_S16x80x512_0_0_0) st.1
    (shapeCast S16x80x512 (broadcast S16x80x512 (Scalar.ofBits (F := F) .f32 0x00000000#32)) shapeCasts_S16x80x512_S16x80x512) (Scalar.ofBits .f32 0x00000000#32) (fun _ => rfl)
  rw [show (startOf (F := F)) = (_, _) from Prod.ext h8.symm h9.symm]
  isplitl [H8]; · iexact H8
  iexact H9

/-- The body from the diagonal's test on. -/
theorem tail_diag (v1 v3 : BitVec 32) (O : S1x512x1024.Idx → Elt F .bf16) (st : St F) (Φ : PUnit → sProp 𝕄) :
    iprop(held c arg4 arg5 arg6 arg8 arg9 Q K V st ∗ owns (c : Thread nD τ) arg7 fullShare O)
      ⊢ iprop((iprop(held c arg4 arg5 arg6 arg8 arg9 Q K V (if k0_cond3 v1 v3 = 1#1 then diagOf Q K V st else st)
          ∗ owns (c : Thread nD τ) arg7 fullShare (if k0_cond3 v1 v3 = 1#1 then emitOf (diagOf Q K V st).1 (List.finRange 8) O else O)) -∗ Φ ⟨⟩)
        -∗ run c (if _h : k0_cond3 v1 v3 = 1#1 then do
              diagonal arg4 arg5 arg6 arg7 harg7 arg8 arg9
              pure ⟨⟩
            else pure ⟨⟩) Φ) := by
  unfold run
  by_cases h : k0_cond3 v1 v3 = 1#1
  · simp only [if_pos h, dif_pos h, wp_bind]
    iintro H HK
    iapply (diag_spec c arg4 arg5 arg6 arg7 harg7 arg8 arg9 Q K V O st) $$ H; iintro H
    iapply (le_wp_ret frame (wpE (defs₀ (F := F)) Variants.none (c : Thread nD τ) none) Set.univ)
    iapply HK; iexact H
  · simp only [if_neg h, dif_neg h]
    iintro H HK
    iapply (le_wp_ret frame (wpE (defs₀ (F := F)) Variants.none (c : Thread nD τ) none) Set.univ)
    iapply HK; iexact H

/-- The body from the second test on. -/
theorem tail_below (v1 v3 : BitVec 32) (O : S1x512x1024.Idx → Elt F .bf16) (st : St F) (Φ : PUnit → sProp 𝕄) :
    iprop(held c arg4 arg5 arg6 arg8 arg9 Q K V st ∗ owns (c : Thread nD τ) arg7 fullShare O)
      ⊢ iprop((iprop(held c arg4 arg5 arg6 arg8 arg9 Q K V
            (if k0_cond3 v1 v3 = 1#1 then diagOf Q K V (if isBelow v1 v3 then belowOf Q K V st else st) else (if isBelow v1 v3 then belowOf Q K V st else st))
          ∗ owns (c : Thread nD τ) arg7 fullShare
            (if k0_cond3 v1 v3 = 1#1 then emitOf (diagOf Q K V (if isBelow v1 v3 then belowOf Q K V st else st)).1 (List.finRange 8) O else O)) -∗ Φ ⟨⟩)
        -∗ run c (if isBelow v1 v3 then do
              below arg4 arg5 arg6 arg8 arg9
              if _h : k0_cond3 v1 v3 = 1#1 then do
                diagonal arg4 arg5 arg6 arg7 harg7 arg8 arg9
                pure ⟨⟩
              else pure ⟨⟩
            else
              if _h : k0_cond3 v1 v3 = 1#1 then do
                diagonal arg4 arg5 arg6 arg7 harg7 arg8 arg9
                pure ⟨⟩
              else pure ⟨⟩) Φ) := by
  unfold run
  by_cases h : isBelow v1 v3
  · rw [if_pos h, if_pos h, wp_bind]
    iintro ⟨H, H7⟩ HK
    iapply (below_spec c arg4 arg5 arg6 arg8 arg9 Q K V st) $$ H; iintro H
    iapply (tail_diag c arg4 arg5 arg6 arg7 harg7 arg8 arg9 Q K V v1 v3 O _ Φ) $$ [H H7]
    · isplitl [H]; · iexact H
      iexact H7
    iexact HK
  · rw [if_neg h, if_neg h]
    exact tail_diag c arg4 arg5 arg6 arg7 harg7 arg8 arg9 Q K V v1 v3 O st Φ

/-- The body at a point of the grid: the state after the point, and at the diagonal the output block. -/
theorem body_spec (i : grid0.Coords) (q2 q3 : PosShare TreeShare) (T0 T1 : S136.Idx → Elt F .i32) (O : S1x512x1024.Idx → Elt F .bf16) (st : St F) (Φ : PUnit → sProp 𝕄) :
    iprop(owns (c : Thread nD τ) arg2 q2 T0 ∗ owns (c : Thread nD τ) arg3 q3 T1 ∗ held c arg4 arg5 arg6 arg8 arg9 Q K V st ∗ owns (c : Thread nD τ) arg7 fullShare O)
      ⊢ iprop((iprop(owns (c : Thread nD τ) arg2 q2 T0 ∗ owns (c : Thread nD τ) arg3 q3 T1
          ∗ held c arg4 arg5 arg6 arg8 arg9 Q K V (pointOf (word T0 i) (word T1 i) Q K V st)
          ∗ owns (c : Thread nD τ) arg7 fullShare
            (if k0_cond3 (word T0 i) (word T1 i) = 1#1 then emitOf (pointOf (word T0 i) (word T1 i) Q K V st).1 (List.finRange 8) O else O)) -∗ Φ ⟨⟩)
        -∗ run c (body arg2 arg3 arg4 arg5 arg6 arg7 harg7 arg8 arg9 i) Φ) := by
  unfold body run
  simp only [wp_bind]
  iintro ⟨H2, H3, H, H7⟩ HK
  iapply (wp_word _ _ _ _ q2 T0) $$ H2; iintro H2
  iapply (wp_word _ _ _ _ q3 T1) $$ H3; iintro H3
  rw [show T0 ((Rect.unit (s := S136) (k0_off1 i) S1.size (k0_off1_inb i)).emb (Shape.Idx.first (numel1_S1.symm ▸ Nat.one_pos))) = word T0 i from rfl,
    show T1 ((Rect.unit (s := S136) (k0_off1 i) S1.size (k0_off1_inb i)).emb (Shape.Idx.first (numel1_S1.symm ▸ Nat.one_pos))) = word T1 i from rfl]
  generalize word T0 i = v1
  generalize word T1 i = v3
  unfold pointOf
  by_cases h : isFirst v3
  · simp only [if_pos h]
    simp only [wp_bind]
    ihave H := (held_open c arg4 arg5 arg6 arg8 arg9 Q K V st) $$ H
    icases H with ⟨HA, H6, HS⟩
    iapply (start_spec c arg8 arg9 st) $$ HS; iintro HS
    iapply (tail_below c arg4 arg5 arg6 arg7 harg7 arg8 arg9 Q K V v1 v3 O startOf Φ) $$ [HA H6 HS H7]
    · isplitr [H7]
      · unfold held
        isplitl [HA]; · iexact HA
        isplitl [H6]; · iexact H6
        iexact HS
      iexact H7
    iintro ⟨H, H7⟩
    iapply HK
    isplitl [H2]; · iexact H2
    isplitl [H3]; · iexact H3
    isplitl [H]; · iexact H
    by_cases h3 : k0_cond3 v1 v3 = 1#1
    · simp only [if_pos h3]; iexact H7
    · simp only [if_neg h3]; iexact H7
  · simp only [if_neg h]
    iapply (tail_below c arg4 arg5 arg6 arg7 harg7 arg8 arg9 Q K V v1 v3 O st Φ) $$ [H H7]
    · isplitl [H]; · iexact H
      iexact H7
    iintro ⟨H, H7⟩
    iapply HK
    isplitl [H2]; · iexact H2
    isplitl [H3]; · iexact H3
    isplitl [H]; · iexact H
    by_cases h3 : k0_cond3 v1 v3 = 1#1
    · simp only [if_pos h3]; iexact H7
    · simp only [if_neg h3]; iexact H7

end triples

end Cert.KernelIdeal.Flash

end
-- ==== Proof.Ideal.Schedule.lean ====
/- The schedule: the grid's 272 points as a batch, a block of queries and a block of keys at or below it, and what each
   point does. -/
module

public import proofs.«01_k».proof.Proof.Ideal.Steps
public import Idealize.ShloMosaic.Lib.Pipeline.Kit
public import Idealize.ShloMosaic.Lib.Pipeline.TableIdle
public import Idealize.ShloMosaic.Lib.Pipeline.FrameBody
public import Idealize.ShloMosaic.Lib.Affine
public import Idealize.ShloMosaic.PureOps.BitExact
public import Idealize.ShloMosaic.PureOps.Ideal

@[expose] public section

set_option maxRecDepth 16384
set_option Elab.async false

noncomputable section

namespace Cert.KernelIdeal.Flash

open Cert.KernelIdeal Cert.KernelIdeal.Gen
open Idealize.ShloMosaic Idealize.ShloMosaic.TcCoe

/-- The table of query blocks. -/
def tabQ : S136.Idx → BitVec 32 := fun i => lit0 (S136.rowMajor i)
/-- The table of key blocks. -/
def tabK : S136.Idx → BitVec 32 := fun i => lit1 (S136.rowMajor i)

/-- The tables' contents. -/
def tabs : pre0.Contents (Elt Ideal) := fun | ⟨0, _⟩ => tabQ | ⟨1, _⟩ => tabK | ⟨_ + 2, h⟩ => absurd h (by simp)

theorem inb_0 : ∀ i : grid0.Coords, ∀ a, (cc0_transform_0 k0_off1_inb numel1_S1 tabs i a + 1) * S1x16x128x512.size a ≤ S2x16x128x8192.size a := by decide +kernel
theorem inb_1 : ∀ i : grid0.Coords, ∀ a, (cc0_transform_1 k0_off1_inb numel1_S1 tabs i a + 1) * S1x16x128x512.size a ≤ S2x16x128x8192.size a := by decide +kernel
theorem inb_2 : ∀ i : grid0.Coords, ∀ a, (cc0_transform_2 k0_off1_inb numel1_S1 tabs i a + 1) * S1x16x80x512.size a ≤ S2x16x80x8192.size a := by decide +kernel
theorem inb_3 : ∀ i : grid0.Coords, ∀ a, (cc0_transform_3 k0_off1_inb numel1_S1 tabs i a + 1) * S1x512x1024.size a ≤ S2x8192x1024.size a := by decide +kernel

theorem tabs_ok : ok0 (F := Ideal) tabs :=
  ⟨fun i => ⟨inb_0 i, .inr (Affine.block_words_dvd (s := S2x16x128x8192) (p := EltTy.packing .bf16) (by decide) (by decide))⟩,
   fun i => ⟨inb_1 i, .inr (Affine.block_words_dvd (s := S2x16x128x8192) (p := EltTy.packing .bf16) (by decide) (by decide))⟩,
   fun i => ⟨inb_2 i, .inr (Affine.block_words_dvd (s := S2x16x80x8192) (p := EltTy.packing .bf16) (by decide) (by decide))⟩,
   fun i => ⟨inb_3 i, .inr (Affine.block_words_dvd (s := S2x8192x1024) (p := EltTy.packing .bf16) (by decide) (by decide))⟩⟩

/-- The tables, admissible; the pipeline at them. -/
def adm0 : (pcfg0 (F := Ideal)).Adm := ⟨tabs, tabs_ok⟩
abbrev cfgA : Pipeline.Cfg sig Λ₀ := cfg0 (F := Ideal) adm0
abbrev pcs : Fin 1 → Pipeline.Cfg sig Λ₀ := Pipeline.pin (pcfgs (F := Ideal)) fun _ => adm0

/-- A point's coordinates. -/
abbrev crd (t : Fin cfgA.N) : cfgA.grid.Coords := cfgA.grid.coords t

/-- A point's batch, block of queries and block of keys. -/
def bN (t : Fin cfgA.N) : ℕ := t.val / 136
def qN (t : Fin cfgA.N) : ℕ := (word tabQ (crd t)).toNat
def kN (t : Fin cfgA.N) : ℕ := (word tabK (crd t)).toNat

/-- What a point does. -/
abbrev Acts (t : Fin cfgA.N) : Prop :=
  (isFirst (word tabK (crd t)) ↔ kN t = 0)
  ∧ (isBelow (word tabQ (crd t)) (word tabK (crd t)) ↔ kN t < qN t)
  ∧ (k0_cond3 (word tabQ (crd t)) (word tabK (crd t)) = 1#1 ↔ kN t = qN t)
  ∧ (cfgA.idle (3 : Fin 4) (crd t) = !decide (kN t = qN t))
  ∧ ((cfgA.win (3 : Fin 4)).flush t = decide (kN t = qN t))
  ∧ (kN t ≤ qN t ∧ qN t < 16)
  ∧ (cc0_transform_0 k0_off1_inb numel1_S1 tabs (crd t) = ![bN t, 0, 0, qN t])
  ∧ (cc0_transform_1 k0_off1_inb numel1_S1 tabs (crd t) = ![bN t, 0, 0, kN t])
  ∧ (cc0_transform_2 k0_off1_inb numel1_S1 tabs (crd t) = ![bN t, 0, 0, kN t])
  ∧ (cc0_transform_3 k0_off1_inb numel1_S1 tabs (crd t) = ![bN t, qN t, 0])
  ∧ (t.val = bN t * 136 + qN t * (qN t + 1) / 2 + kN t ∧ bN t < 2)

instance (t : Fin cfgA.N) : Decidable (Acts t) := inferInstance

theorem acts_0 : ∀ t : Fin cfgA.N, 0 ≤ t.val → t.val < 34 → Acts t := by decide +kernel
theorem acts_1 : ∀ t : Fin cfgA.N, 34 ≤ t.val → t.val < 68 → Acts t := by decide +kernel
theorem acts_2 : ∀ t : Fin cfgA.N, 68 ≤ t.val → t.val < 102 → Acts t := by decide +kernel
theorem acts_3 : ∀ t : Fin cfgA.N, 102 ≤ t.val → t.val < 136 → Acts t := by decide +kernel
theorem acts_4 : ∀ t : Fin cfgA.N, 136 ≤ t.val → t.val < 170 → Acts t := by decide +kernel
theorem acts_5 : ∀ t : Fin cfgA.N, 170 ≤ t.val → t.val < 204 → Acts t := by decide +kernel
theorem acts_6 : ∀ t : Fin cfgA.N, 204 ≤ t.val → t.val < 238 → Acts t := by decide +kernel
theorem acts_7 : ∀ t : Fin cfgA.N, 238 ≤ t.val → t.val < 272 → Acts t := by decide +kernel

/-- What every point does. -/
theorem acts (t : Fin cfgA.N) : Acts t := by
  have hN : cfgA.N = 272 := N_0
  have := t.isLt
  rcases Nat.lt_or_ge t.val 34 with h1 | h1; · exact acts_0 t (Nat.zero_le _) h1
  rcases Nat.lt_or_ge t.val 68 with h2 | h2; · exact acts_1 t h1 h2
  rcases Nat.lt_or_ge t.val 102 with h3 | h3; · exact acts_2 t h2 h3
  rcases Nat.lt_or_ge t.val 136 with h4 | h4; · exact acts_3 t h3 h4
  rcases Nat.lt_or_ge t.val 170 with h5 | h5; · exact acts_4 t h4 h5
  rcases Nat.lt_or_ge t.val 204 with h6 | h6; · exact acts_5 t h5 h6
  rcases Nat.lt_or_ge t.val 238 with h7 | h7; · exact acts_6 t h6 h7
  exact acts_7 t h7 (by omega)

end Cert.KernelIdeal.Flash

end
-- ==== Proof.Ideal.Run.lean ====
/- The run of the kernel's program: what the accumulator and the running maximum hold after each point, the body's
   obligation, and the launch. -/
module

public import proofs.«01_k».proof.Proof.Ideal.Schedule
public import Idealize.ShloMosaic.Adequacy
public import Idealize.ShloMosaic.Init
public import Idealize.ShloMosaic.Lib.Pipeline.Regions

@[expose] public section

set_option maxRecDepth 16384
set_option Elab.async false

noncomputable section

namespace Cert.KernelIdeal.Flash

open Cert.KernelIdeal Cert.KernelIdeal.Gen Cert.Flash
open Idealize.ShloMosaic Idealize.ShloMosaic.TcCoe
open Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounds algebra is the whole of the certificate's. -/
abbrev EP : Emb (UR sig nD τ) 𝕄 := emb₁

variable (m : (ℓ : Loc nD τ sig) → Buf (Elt Ideal) ℓ) (ρ : Dev nD → PrngReg)

/-- A window's block at a point, of its array as launched. -/
def iblk (c : Dev nD) (w : Fin cfgA.W) (t : Fin cfgA.N) : ((cfgA.win w).xblock (crd t)).Idx → Elt Ideal (cfgA.win w).elt :=
  ((cfgA.win w).blk t).view.read (Elt Ideal) (m ((cfgA.win w).arr.view.loc (c : Thread nD τ)))

abbrev iQ (c : Dev nD) (t : Fin cfgA.N) : S1x16x128x512.Idx → Elt Ideal .bf16 := iblk m c (0 : Fin 4) t
abbrev iK (c : Dev nD) (t : Fin cfgA.N) : S1x16x128x512.Idx → Elt Ideal .bf16 := iblk m c (1 : Fin 4) t
abbrev iV (c : Dev nD) (t : Fin cfgA.N) : S1x16x80x512.Idx → Elt Ideal .bf16 := iblk m c (2 : Fin 4) t

/-- What a point makes of the accumulator and the running maximum. -/
def next (c : Dev nD) (t : Fin cfgA.N) (st : St Ideal) : St Ideal :=
  pointOf (word tabQ (crd t)) (word tabK (crd t)) (iQ m c t) (iK m c t) (iV m c t) st

/-- The accumulator and the running maximum after the point at a position. -/
def traj (c : Dev nD) : (n : ℕ) → n < cfgA.N → St Ideal
  | 0, h => next m c ⟨0, h⟩ startOf
  | n + 1, h => next m c ⟨n + 1, h⟩ (traj c n (Nat.lt_of_succ_lt h))

/-- The first block of keys starts afresh. -/
theorem pointOf_first (v1 v3 : BitVec 32) (Q K : S1x16x128x512.Idx → Elt Ideal .bf16) (V : S1x16x80x512.Idx → Elt Ideal .bf16)
    (h : isFirst v3) (st st' : St Ideal) : pointOf v1 v3 Q K V st = pointOf v1 v3 Q K V st' := by
  unfold pointOf; simp only [if_pos h]

/-- The state after a point is the point's of any state the point before may have left. -/
theorem traj_next (c : Dev nD) (t : Fin cfgA.N) (st : St Ideal)
    (h : ∀ h0 : t.val ≠ 0, st = traj m c (t.val - 1) (by omega)) : next m c t st = traj m c t.val t.isLt := by
  obtain ⟨n, hn⟩ := t
  cases n with
  | zero =>
    refine pointOf_first _ _ _ _ _ ?_ _ _
    have := (acts ⟨0, hn⟩)
    refine this.1.mpr ?_
    have e := this.2.2.2.2.2.2.2.2.2.2
    simp only at e
    omega
  | succ n => rw [h (by simp)]; rfl

/-- The columns written do not depend on what the buffer held. -/
theorem emitOf_congr (A : S16x80x512.Idx → Elt Ideal .f32) (j : S1x512x1024.Idx) : ∀ (l : List (Fin 8)) (O O' : S1x512x1024.Idx → Elt Ideal .bf16),
    (O j = O' j ∨ ∃ p ∈ l, j ∈ (rOut p).set) → emitOf A l O j = emitOf A l O' j
  | [], O, O', h => by
    rcases h with h | ⟨p, hp, -⟩
    · exact h
    · exact absurd hp (by simp)
  | p :: r, O, O', h => by
    unfold emitOf
    refine emitOf_congr A j r _ _ ?_
    by_cases hj : j ∈ (rOut p).set
    · left
      rw [← (rOut p).map_emb_univ, Finset.mem_map] at hj
      obtain ⟨i, -, rfl⟩ := hj
      exact ((rOut p).overlay_emb O _ i).trans ((rOut p).overlay_emb O' _ i).symm
    · rcases h with h | ⟨p', hp', hj'⟩
      · left
        rw [Rect.overlay_of_not_mem _ _ _ hj, Rect.overlay_of_not_mem _ _ _ hj, h]
      · rcases List.mem_cons.mp hp' with rfl | hp'
        · exact absurd hj' hj
        · exact .inr ⟨p', hp', hj'⟩

/-- Every output index lies in a pair's columns. -/
theorem out_cover (j : S1x512x1024.Idx) : j ∈ (rOut ⟨(j 2).val / 128, by have := (j 2).isLt; simp at this; omega⟩).set := by
  rw [← Rect.map_emb_univ, Finset.mem_map]
  have h0 : (j 0).val < 1 := (j 0).isLt
  have h1 : (j 1).val < 512 := (j 1).isLt
  have h2 : (j 2).val < 1024 := (j 2).isLt
  refine ⟨(fun | ⟨0, _⟩ => ⟨(j 0).val, h0⟩ | ⟨1, _⟩ => ⟨(j 1).val, h1⟩ | ⟨2, _⟩ => ⟨(j 2).val % 128, Nat.mod_lt _ (by decide)⟩ : S1x512x128.Idx), Finset.mem_univ _, ?_⟩
  refine Rect.emb_eq_of_coords _ _ _ fun a => ?_
  match a with
  | ⟨0, _⟩ => simp [Rect.unit]
  | ⟨1, _⟩ => simp [Rect.unit]
  | ⟨2, _⟩ => simp [Rect.unit]; omega

/-- The output block a state of the accumulator gives. -/
def outOf (A : S16x80x512.Idx → Elt Ideal .f32) : S1x512x1024.Idx → Elt Ideal .bf16 := emitOf A (List.finRange 8) default

theorem emitOf_eq (A : S16x80x512.Idx → Elt Ideal .f32) (O : S1x512x1024.Idx → Elt Ideal .bf16) : emitOf A (List.finRange 8) O = outOf A :=
  funext fun j => emitOf_congr A j _ _ _ (.inr ⟨_, List.mem_finRange _, out_cover j⟩)

/-! ## The pipeline's proof data -/

abbrev ms0_0 (t : Fin cfgA.N) : Memref sig .tc .vmem S1x16x128x512 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S1x16x128x512 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S1x16x80x512 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S1x512x1024 .bf16 := spec0_3.stage (cfgA.slots t (3 : Fin 4))
abbrev hs0_3 (t : Fin cfgA.N) : (ms0_3 t).IsWhole := hstage0_3 ((cfgA.slots t (3 : Fin 4)).cast nbuf0_3)

/-- Between the points: the accumulator and the running maximum as the point before left them, and the tables. -/
def Phi (c : Dev nD) (t : Fin (cfgA.N + 1)) : sProp 𝕄 :=
  iprop((∃ st : St Ideal, ⌜∀ h0 : t.val ≠ 0, st = traj m c (t.val - 1) (by omega)⌝ ∗ state c (Memref.whole cc0_scratch0) (Memref.whole cc0_scratch1) st)
    ∗ owns (c : Thread nD τ) (Memref.whole main_c) fullShare tabQ ∗ owns (c : Thread nD τ) (Memref.whole main_c_0) fullShare tabK)

/-- The proof data: the arrays as launched, the inputs' blocks as fetched, the output's block as the accumulator gives it. -/
def dats (_ : Fin 1) (c : Dev nD) : Dat τ (Elt Ideal) Unit ℕ (UR sig nD τ) ℕ cfgA c where
  A w := m ((cfgA.win w).arr.view.loc (c : Thread nD τ))
  after w t := match w with
    | ⟨0, _⟩ => iblk m c (0 : Fin 4) t
    | ⟨1, _⟩ => iblk m c (1 : Fin 4) t
    | ⟨2, _⟩ => iblk m c (2 : Fin 4) t
    | ⟨3, _⟩ => outOf (traj m c t.val t.isLt).1
  Φ t := Phi m c t
  q _ := fullShare
  owed _ := 0

theorem after_0 (c : Dev nD) (t : Fin cfgA.N) : (dats m 0 c).after (0 : Fin 4) t = iblk m c (0 : Fin 4) t := rfl
theorem after_1 (c : Dev nD) (t : Fin cfgA.N) : (dats m 0 c).after (1 : Fin 4) t = iblk m c (1 : Fin 4) t := rfl
theorem after_2 (c : Dev nD) (t : Fin cfgA.N) : (dats m 0 c).after (2 : Fin 4) t = iblk m c (2 : Fin 4) t := rfl
theorem after_3 (c : Dev nD) (t : Fin cfgA.N) : (dats m 0 c).after (3 : Fin 4) t = outOf (traj m c t.val t.isLt).1 := rfl

theorem before_0 (c : Dev nD) (t : Fin cfgA.N) (d) : (dats m 0 c).before (0 : Fin 4) t d = iQ m c t :=
  ((dats m 0 c).before_in_eq_fetched (0 : Fin 4) rfl (fun _ => rfl) (fun _ _ _ => rfl) (fun t => by rw [after_0]; unfold Dat.blockOf iblk; rfl) t d).trans
    (by unfold Dat.fetched Dat.blockOf iQ iblk; rfl)
theorem before_1 (c : Dev nD) (t : Fin cfgA.N) (d) : (dats m 0 c).before (1 : Fin 4) t d = iK m c t :=
  ((dats m 0 c).before_in_eq_fetched (1 : Fin 4) rfl (fun _ => rfl) (fun _ _ _ => rfl) (fun t => by rw [after_1]; unfold Dat.blockOf iblk; rfl) t d).trans
    (by unfold Dat.fetched Dat.blockOf iK iblk; rfl)
theorem before_2 (c : Dev nD) (t : Fin cfgA.N) (d) : (dats m 0 c).before (2 : Fin 4) t d = iV m c t :=
  ((dats m 0 c).before_in_eq_fetched (2 : Fin 4) rfl (fun _ => rfl) (fun _ _ _ => rfl) (fun t => by rw [after_2]; unfold Dat.blockOf iblk; rfl) t d).trans
    (by unfold Dat.fetched Dat.blockOf iV iblk; rfl)

/-- The output's buffer is always fresh: it is written back by the point that writes it. -/
theorem fresh_3 (t : Fin cfgA.N) : cfgA.fresh (3 : Fin 4) t.val = true :=
  Pipeline.Cfg.fresh_tab cfgA (3 : Fin 4) (fun _ => true) rfl (fun t => by
    have h := acts t
    rw [h.2.2.2.2.1, h.2.2.2.1]
    by_cases hk : kN t = qN t <;> simp [hk]) t.val (Nat.le_of_lt t.isLt)

theorem before_3 (c : Dev nD) (t : Fin cfgA.N) (d) : (dats m 0 c).before (3 : Fin 4) t d = d := by
  rw [(dats m 0 c).before_out_traj (3 : Fin 4) rfl (fun _ _ => rfl)
    (fun t _ _ hf => absurd (hf.symm.trans (fresh_3 t)) Bool.false_ne_true) t.val t rfl d, if_pos (fresh_3 t)]

/-! ## The body's obligation -/

/-- The body at a point, as the pipeline calls it. -/
abbrev bodyAt (t : Fin cfgA.N) : Prog (TpuEff nD τ sig (Elt Ideal) Λ₀ .tc) PUnit :=
  cc0_flash_prompt (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (Memref.whole cc0_scratch0) (Memref.isWhole_whole _) (Memref.whole cc0_scratch1) (Memref.isWhole_whole _)

set_option maxHeartbeats 4000000 in
theorem sound_body (c : Dev nD) (t : Fin cfgA.N) :
    iprop((dats m 0 c).Φ t.castSucc ∗ (dats m 0 c).owesAt () t.castSucc
        ∗ (∃ d, owns (c : Thread nD τ) (ms0_0 t) fullShare ((dats m 0 c).before (0 : Fin 4) t d))
        ∗ (∃ d, owns (c : Thread nD τ) (ms0_1 t) fullShare ((dats m 0 c).before (1 : Fin 4) t d))
        ∗ (∃ d, owns (c : Thread nD τ) (ms0_2 t) fullShare ((dats m 0 c).before (2 : Fin 4) t d))
        ∗ (∃ d, owns (c : Thread nD τ) (ms0_3 t) fullShare ((dats m 0 c).before (3 : Fin 4) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  have hA := acts t
  rewrite [hA.2.2.2.1, hA.2.2.2.2.1]
  simp only [before_0, before_1, before_2, before_3, after_0, after_1, after_2, after_3]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold bodyAt
  rewrite [body_eq]
  unfold Phi
  iintro ⟨⟨⟨%st, %hst, HS⟩, HT0, HT1⟩, Ho, ⟨%d0, H0⟩, ⟨%d1, H1⟩, ⟨%d2, H2⟩, ⟨%d3, H3⟩⟩
  iapply (body_spec c (Memref.whole main_c) (Memref.whole main_c_0) (ms0_0 t) (ms0_1 t) (ms0_2 t) (ms0_3 t) (hs0_3 t) (Memref.whole cc0_scratch0) (Memref.whole cc0_scratch1)
    (iQ m c t) (iK m c t) (iV m c t) (crd t) fullShare fullShare tabQ tabK d3 st) $$ [HS HT0 HT1 H0 H1 H2 H3]
  · isplitl [HT0]; · iexact HT0
    isplitl [HT1]; · iexact HT1
    isplitr [H3]
    · unfold held
      isplitl [H0 H1]
      · isplitl [H0]; · iexact H0
        iexact H1
      isplitl [H2]; · iexact H2
      iexact HS
    iexact H3
  unfold held
  iintro ⟨HT0, HT1, ⟨⟨H0, H1⟩, H2, HS⟩, H3⟩
  isplitl [HS HT0 HT1]
  · isplitl [HS]
    · iexists (next m c t st)
      isplitr
      · ipureintro
        intro _
        exact traj_next m c t st hst
      iexact HS
    isplitl [HT0]; · iexact HT0
    iexact HT1
  isplitl [Ho]; · iexact Ho
  isplitl [H0]; · iexact H0
  isplitl [H1]; · iexact H1
  isplitl [H2]; · iexact H2
  have ht : (pointOf (word tabQ (crd t)) (word tabK (crd t)) (iQ m c t) (iK m c t) (iV m c t) st) = traj m c t.val t.isLt := traj_next m c t st hst
  have h3 := hA.2.2.1
  by_cases hk : kN t = qN t
  · have e : (if k0_cond3 (word tabQ (crd t)) (word tabK (crd t)) = 1#1 then emitOf (pointOf (word tabQ (crd t)) (word tabK (crd t)) (iQ m c t) (iK m c t) (iV m c t) st).1 (List.finRange 8) d3 else d3)
        = outOf (traj m c t.val t.isLt).1 := by rw [if_pos (h3.mpr hk), ht, emitOf_eq]
    rw [e]
    simp only [hk, decide_true, Bool.not_true]
    iexact H3
  · have e : (if k0_cond3 (word tabQ (crd t)) (word tabK (crd t)) = 1#1 then emitOf (pointOf (word tabQ (crd t)) (word tabK (crd t)) (iQ m c t) (iK m c t) (iV m c t) st).1 (List.finRange 8) d3 else d3)
        = d3 := by rw [if_neg fun h => hk (h3.mp h)]
    rw [e]
    simp only [hk, decide_false, Bool.not_false]
    iexists d3
    iexact H3

theorem body_obligation (c : Dev nD) : BodyObligation (dats m 0 c) (defs₀ (F := Ideal)) Variants.none () Set.univ := fun t => by
  rw [bigSep_W0]
  exact sound_body m c t

end Cert.KernelIdeal.Flash

end
-- ==== Proof.Ideal.Launch.lean ====
/- The launch: the two tables written by host operations, then the kernel. -/
module

public import proofs.«01_k».proof.Proof.Ideal.Run
public import Idealize.ShloMosaic.Lib.Pipeline.Frame

@[expose] public section

set_option maxRecDepth 16384
set_option Elab.async false

noncomputable section

namespace Cert.KernelIdeal.Flash

open Cert.KernelIdeal Cert.KernelIdeal.Gen Cert.Flash
open Idealize.ShloMosaic Idealize.ShloMosaic.TcCoe
open Idealize.SL Idealize.SL.RA Idealize.SL.BI Idealize.SL.Sem Idealize.SL.ProofMode
open scoped Idealize.SL.BI
open Idealize.SL.BI.BIBase Idealize.SL.BI.Laws
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A core's buffers as launched. -/
abbrev V₀ (c : Dev nD) : Valuation τ sig (Elt Ideal) := fun b => m ((c : Dev nD), b)
/-- A core's buffers when the kernel is entered: the tables are written. -/
def V (c : Dev nD) (b : Ref sig .tc) : Buf (Elt Ideal) ((c : Thread nD τ).loc b) := StableHlo.after hostOps0 (V₀ m c) b

/-- The host writes the tables alone. -/
theorem V_of_ne (c : Dev nD) (b : Ref sig .tc) (h0 : b ≠ main_c) (h1 : b ≠ main_c_0) : V m c b = m ((c : Thread nD τ).loc b) := by
  unfold V
  refine StableHlo.after_of_forall_not_mem (b := Proc.devRef .tc b) hostOps0 (V₀ m c) ?_
  intro op hop
  simp only [List.mem_cons, List.mem_nil_iff, or_false] at hop
  rcases hop with rfl | rfl <;>
    simp only [StableHlo.nullary_writes, Finset.mem_singleton] <;>
    exact StableHlo.devRef_ne_of_ne ‹_›

theorem V_tabQ (c : Dev nD) : V m c main_c = tabQ := rfl
theorem V_tabK (c : Dev nD) : V m c main_c_0 = tabK := rfl

theorem A_eq (c : Dev nD) (w : Fin 4) : (dats m 0 c).A w = V m c (Pipeline.arrRef spec0 w) := by
  match w with
  | 0 => exact (V_of_ne m c main_arg0 (by decide) (by decide)).symm
  | 1 => exact (V_of_ne m c main_arg1 (by decide) (by decide)).symm
  | 2 => exact (V_of_ne m c main_arg2 (by decide) (by decide)).symm
  | 3 => exact (V_of_ne m c main_v0 (by decide) (by decide)).symm

theorem share_eq (c : Dev nD) (w : Fin cfgA.W) : (dats m 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- A whole buffer held is its reference's. -/
theorem owns_intro (c : Dev nD) (b : Ref sig .tc) (q : PosShare TreeShare) (X : b.ty.Contents (Elt Ideal)) :
    (((c : Thread nD τ).loc b ↦{q} X) : sProp 𝕄) ⊢ owns (c : Thread nD τ) (Memref.whole b) q X := by
  rw [owns_whole_eq]
  iintro H; iexists X; isplitr; · ipureintro; rfl
  iexact H

theorem owns_elim (c : Dev nD) (b : Ref sig .tc) (q : PosShare TreeShare) (X : b.ty.Contents (Elt Ideal)) :
    (owns (c : Thread nD τ) (Memref.whole b) q X : sProp 𝕄) ⊢ ∃ f : Buf (Elt Ideal) ((c : Thread nD τ).loc b), ((c : Thread nD τ).loc b ↦{q} f) := by
  rw [owns_whole_eq]
  iintro ⟨%f, -, H⟩; iexists f; iexact H

/-- Before the first point: the tables, and the scratch at something. -/
theorem phi_first (c : Dev nD) :
    iprop(BI.emp ∗ Pipeline.prefHeld pre0 c (fun _ => fullShare) adm0.1 ∗ Pipeline.scopedRest spec0 c) ⊢ (dats m 0 c).Φ 0 := by
  rw [prefHeld_eq, scopedRest0_eq, show (dats m 0 c).Φ 0 = Phi m c 0 from rfl]
  unfold Phi state
  iintro ⟨-, ⟨HT0, HT1⟩, ⟨%a0, HS0⟩, ⟨%a1, HS1⟩⟩
  isplitl [HS0 HS1]
  · iexists ((a0, a1) : St Ideal); isplitr
    · ipureintro; intro h0; exact absurd rfl h0
    isplitl [HS0]
    · iapply (owns_intro c cc0_scratch0 fullShare a0); iexact HS0
    iapply (owns_intro c cc0_scratch1 fullShare a1); iexact HS1
  isplitl [HT0]
  · iapply (owns_intro c main_c fullShare tabQ); iexact HT0
  iapply (owns_intro c main_c_0 fullShare tabK); iexact HT1

/-- After the last point: the scratch at something. -/
theorem phi_last (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi state
  iintro ⟨⟨%st, -, HS0, HS1⟩, -, -⟩
  isplitr; · iempintro
  isplitl [HS0]
  · iapply (owns_elim c cc0_scratch0 fullShare st.1); iexact HS0
  iapply (owns_elim c cc0_scratch1 fullShare st.2); iexact HS1

/-! ## The launch -/

abbrev L : GSem nD τ sig → Finset Unit := fun _ => ∅
abbrev lv : GSem nD τ sig → Unit → ℕ := fun _ _ => 0
abbrev adms : (p : Fin 1) → (pcfgs (F := Ideal) p).Adm := fun _ => adm0
abbrev rest (c : Dev nD) : sProp 𝕄 := iprop(∃ W, owes (c : Thread nD τ) (0 : CellTallies nD τ sig Unit) W)

/-- The launch's element of the rounds algebra. -/
def u₀ : UR sig nD τ := initOf (Pipeline.cells pcs (cellOf_inj adms)) (Pipeline.launchToks pcs (cellOf_inj adms))

theorem own_u₀ : (ownU u₀ : sProp 𝕄) ⊢ own (EP.toFun u₀) := .rfl

/-- The kernel has no semaphore of its own. -/
abbrev noSem : Fin 0 → SemLoc sig := fun k => k.elim0
theorem noSem_facts : Pipeline.OwnSemFacts spec0 noSem := by decide
theorem noSem_eq (c : Dev nD) : (Pipeline.ownSems0 (Ix := Unit) (Name := ℕ) (U := UR sig nD τ) (Lvl := ℕ) (Val := Elt Ideal) (τ := τ) noSem c : sProp 𝕄) = BI.emp := by
  unfold Pipeline.ownSems0
  rw [show (Finset.univ : Finset (Fin 0)) = ∅ from rfl, BI.bigSep_empty]

/-- The host's operations. -/
def hostSeg : Pipeline.HostSeg (Name := ℕ) (U := UR sig nD τ) (pcfgs (F := Ideal)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) rest

/-- The arrays at the end. -/
abbrev ends (c : Dev nD) : sProp 𝕄 := (dats m 0 c).arrays ((dats m 0 c).arrAt · cfgA.N)

set_option backward.isDefEq.respectTransparency.types false in
/-- The kernel's region: entered from what the host leaves, left with the arrays at their final contents. -/
def region : Pipeline.RegionSeg (pcfgs (F := Ideal)) adms (dats m) () defs₀ Variants.none L lv 0 where
  win := winFacts0.to₀
  block_pos := block_pos0
  stage_whole := stage_whole0
  K := Fin 0
  osem := noSem
  ho := noSem_facts
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ rest c)
  post c := iprop(ends m c ∗ rest c)
  X _ := BI.emp
  Y _ := BI.emp
  Z _ := BI.emp
  hentry c := by
    rw [show StableHlo.held (c : Thread nD τ) (Pipeline.ucRefs τ sig) (StableHlo.after hostOps0 (V₀ m c)) = unscopedBufs c (V m c) from (Pipeline.unscopedBufs_held c _).symm]
    have hsplit := (Pipeline.arrays_of_unscopedBufs (pcfgs (F := Ideal)) adms (dats m) winFacts0 arr_whole0 c
      (share_eq m c) (V m c) (A_eq m c)).trans (sep_mono .rfl (Entails.of_eq (Pipeline.unscopedRest_split preFacts0 c (V m c))))
    rw [unscopedRestP0_eq, prefHeld_eq] at hsplit
    rw [show Pipeline.prefHeld (Ix := Unit) (Name := ℕ) (U := UR sig nD τ) (Lvl := ℕ) (pcfgs (F := Ideal) 0).pre c (fun _ => fullShare) (adms 0).1 = _ from prefHeld_eq c _ _]
    iintro ⟨⟨Hub, HO⟩, -, -⟩
    ihave H := hsplit $$ Hub
    icases H with ⟨Ha, ⟨HT0, HT1⟩, -⟩
    imodintro
    isplitl [Ha]; · iexact Ha
    isplitl [HT0 HT1]
    · isplitl [HT0]; · iexact HT0
      iexact HT1
    isplitl [HO]
    · unfold Pipeline.Dat.owesAt Pipeline.owesWithin
      icases HO with ⟨%W, HO⟩; iexists W; isplitr; · ipureintro; exact fun _ _ => Or.inl trivial
      iexact HO
    isplitr <;> iempintro
  hin c := phi_first m c
  hout c := by
    rw [noSem_eq]
    have h := phi_last m c
    iintro H
    ihave H := h $$ H
    icases H with ⟨-, H⟩
    isplitr; · iempintro
    isplitr; · iempintro
    iexact H
  hexit c := by
    iintro ⟨Ha, HO, -, -⟩
    imodintro
    isplitl [Ha]; · iexact Ha
    unfold Pipeline.Dat.owesAt Pipeline.owesWithin
    icases HO with ⟨%W, -, HO⟩; iexists W; iexact HO

abbrev segs : List (Pipeline.Seg (pcfgs (F := Ideal)) adms (dats m) () defs₀ Variants.none L lv) := [.host (hostSeg m), .region (region m)]

set_option backward.isDefEq.respectTransparency.types false in
/-- Every execution ends with each array at the contents the points leave it and every counter at zero. -/
theorem run_main : θ_run (defs (F := Ideal)) (onTc (τ := τ) (main (F := Ideal))) ⟨m, fun _ => 0, ρ⟩
    (fun r => (∀ c : Dev nD, ∀ w : Fin 4, r.2.mem ((cfgA.win w).arr.view.loc (c : Thread nD τ)) = (dats m 0 c).arrAt w cfgA.N) ∧ r.2.sem = fun _ => 0) :=
  Pipeline.θ_run_regions_kit_sems (pcfgs (F := Ideal)) adms (dats m) () (cellOf_inj adms) EP defs₀ Variants.none L lv m ρ main (segs m)
    (fun c Q => by rw [main_segs adms (dats m) () Variants.none L lv (hostSeg m) (region m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      iintro HP
      ihave HP := own_u₀ $$ HP
      unfold u₀
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ rest c)) (Tₙ := ends m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ w : Fin 4, s.mem ((cfgA.win w).arr.view.loc (c : Thread nD τ)) = (dats m 0 c).arrAt w cfgA.N)
    (hfin := fun c s' => by
      iintro ⟨Ha, HSI⟩
      ihave Hr := (Pipeline.arrays_read (pcfgs (F := Ideal)) adms (dats m) arr_whole0 c (share_eq m c) _ s') $$ [Ha HSI]
      · isplitl [Ha] <;> iassumption
      icases Hr with ⟨%ha, HSI⟩
      imodintro
      isplitr; · ipureintro; exact ha
      iexact HSI)
    (hQ := fun _ h hz => ⟨h, funext fun g => hz g (.inr (by revert g; decide))⟩)

/-- The frame: the arguments end as they began and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c 0).trans ((dats m 0 c).arrAt_in (0 : Fin 4) rfl _), (h.1 c 1).trans ((dats m 0 c).arrAt_in (1 : Fin 4) rfl _),
      (h.1 c 2).trans ((dats m 0 c).arrAt_in (2 : Fin 4) rfl _)⟩, h.2⟩) (run_main m ρ)

end Cert.KernelIdeal.Flash

end
-- ==== Proof.Ideal.Values.lean ====
/- The body's values read at an index, over the extended reals. -/
module

public import proofs.«01_k».proof.Proof.Ideal.Steps
public import Idealize.ShloMosaic.Lib.Pointwise

@[expose] public section

set_option maxRecDepth 16384
set_option Elab.async false

noncomputable section

namespace Cert.KernelIdeal.Flash

open Cert.KernelIdeal Cert.Flash
open Idealize.ShloMosaic

/-- The mask's stand-in is minus infinity. -/
theorem neg_eq : neg (F := Ideal) = (⊥ : EReal) := rfl

/-- A score is a sum of 128 products. -/
theorem score_apply (x y : Vec Ideal S1x1x128x256 .bf16) (j i : Fin 256) :
    score x y (ix2 j i) = ∑ r : Fin 128, (x (ix4 0 0 r j) : EReal) * y (ix4 0 0 r i) := by
  pointwise [score]

/-- A masked score: minus infinity for the keys after the query. -/
theorem masked_apply (o : BitVec 32) (ho : o.toNat < 1024) (s : FVec Ideal S256x256 .f32) (j i : Fin 256) :
    masked o s (ix2 j i) = if j.val ≤ i.val then (s (ix2 j i) : EReal) else ⊥ := by
  pointwise [masked]
  have h : (BitVec.ofNat 32 j.val + o).sle (BitVec.ofNat 32 i.val + o) = decide (j.val ≤ i.val) := by
    have hj : (BitVec.ofNat 32 j.val + o).toNat = j.val + o.toNat := by
      rw [BitVec.toNat_add, BitVec.toNat_ofNat]; omega
    have hi : (BitVec.ofNat 32 i.val + o).toNat = i.val + o.toNat := by
      rw [BitVec.toNat_add, BitVec.toNat_ofNat]; omega
    rw [BitVec.sle_eq_decide, BitVec.toInt_eq_toNat_of_lt (by omega), BitVec.toInt_eq_toNat_of_lt (by omega), hj, hi]
    congr 1
    exact propext (by omega)
  show Scalar.select (BitVec.ofBool ((BitVec.ofNat 32 j.val + o).sle (BitVec.ofNat 32 i.val + o))) (s (ix2 j i)) neg = _
  rw [h, neg_eq]
  by_cases hl : j.val ≤ i.val
  · rw [if_pos hl, decide_eq_true hl]; rfl
  · rw [if_neg hl, decide_eq_false hl]; rfl

theorem negInf : Ideal.ofBits FTy.f32 0xFF800000#32 = (⊥ : EReal) := by
  simp [Ideal.ofBits, Ideal.ieee]

theorem mNew_apply (s : FVec Ideal S256x256 .f32) (m : Vec Ideal S1x8x256 .f32) (r : Fin 8) (i : Fin 256) :
    mNew s m (ix2 r i) = max (m (ix3 0 r i) : EReal) (Finset.univ.fold max (⊥ : EReal) fun j : Fin 256 => s (ix2 j i)) := by
  pointwise [mNew]
  rw [negInf]

theorem weights_apply (s : FVec Ideal S256x256 .f32) (m : Vec Ideal S1x8x256 .f32) (j i : Fin 256) :
    weights s m (ix2 j i) = FloatOps.exp2 (F := Ideal) (φ := .f32) ((s (ix2 j i) : EReal) - mNew s m (ix2 0 i)) := by
  pointwise [weights]

theorem rescale_apply (s : FVec Ideal S256x256 .f32) (m : Vec Ideal S1x8x256 .f32) (i : Fin 256) :
    rescale s m (ix2 0 i) = FloatOps.exp2 (F := Ideal) (φ := .f32) ((m (ix3 0 0 i) : EReal) - mNew s m (ix2 0 i)) := by
  pointwise [rescale]

theorem aNew_apply (s : FVec Ideal S256x256 .f32) (m : Vec Ideal S1x8x256 .f32) (a : Vec Ideal S1x80x256 .f32) (v : Vec Ideal S1x1x80x256 .bf16)
    (d : Fin 80) (i : Fin 256) :
    aNew s m a v (ix3 0 d i) = (rescale s m (ix2 0 i) : EReal) * a (ix3 0 d i) + ∑ j : Fin 256, (v (ix4 0 0 d j) : EReal) * weights s m (ix2 j i) := by
  pointwise [aNew]

theorem mOut_apply (s : FVec Ideal S256x256 .f32) (m : Vec Ideal S1x8x256 .f32) (r : Fin 8) (i : Fin 256) :
    mOut s m (ix3 0 r i) = mNew s m (ix2 r i) := by
  pointwise [mOut]

theorem pairOut_apply (a b : Vec Ideal S1x80x512 .f32) (i : Fin 512) (x : Fin 128) :
    pairOut a b (ix3 0 i x) =
      if h : x.val < 64 then Ideal.div (a (ix3 0 ⟨x.val, by omega⟩ i)) (a (ix3 0 64 i))
      else Ideal.div (b (ix3 0 ⟨x.val - 64, by omega⟩ i)) (b (ix3 0 64 i)) := by
  pointwise [pairOut, quot]

end Cert.KernelIdeal.Flash

end
-- ==== Proof.Softmax.lean ====
/- The running softmax over the extended reals: one step over a chunk of keys, what is held after some of the keys,
   and the quotient at the end. No program here. -/
module

public import Idealize.ShloMosaic.PureOps.Ideal
public import Idealize.ShloMosaic.Lib.Pointwise

@[expose] public section

set_option Elab.async false

noncomputable section

namespace Cert.Softmax

open Idealize.ShloMosaic

/-- The maximum of a family, from minus infinity. -/
abbrev top {n : ℕ} (σ : Fin n → EReal) : EReal := Finset.univ.fold max ⊥ σ

theorem fold_max_eq_sup {ι : Type} (s : Finset ι) (σ : ι → EReal) : s.fold max ⊥ σ = s.sup σ := rfl

/-- A finite maximum of numbers below plus infinity, one of them above minus infinity, is a real number. -/
theorem sup_real {ι : Type} (s : Finset ι) (σ : ι → EReal) (ht : ∀ j ∈ s, σ j ≠ ⊤) (j : ι) (hj : j ∈ s) (hb : σ j ≠ ⊥) :
    ∃ M : ℝ, s.sup σ = (M : EReal) := by
  have h1 : s.sup σ ≠ ⊥ := fun h => hb (by
    have := Finset.le_sup (f := σ) hj
    rw [h] at this
    exact le_bot_iff.mp this)
  have h2 : s.sup σ ≠ ⊤ := by
    have : s.sup σ < ⊤ := (Finset.sup_lt_iff (by simp)).mpr fun j hj => lt_of_le_of_ne le_top (ht j hj)
    exact this.ne
  exact ⟨(s.sup σ).toReal, (EReal.coe_toReal h2 h1).symm⟩

/-- One column's running maximum and accumulator after a chunk of keys with scores `σ` and values `w`. -/
def colStep {D n : ℕ} (σ : Fin n → EReal) (w : Fin D → Fin n → EReal) (c : EReal × (Fin D → EReal)) : EReal × (Fin D → EReal) :=
  (max c.1 (top σ),
   fun d => Ideal.exp2 (c.1 - max c.1 (top σ)) * c.2 d + ∑ j, w d j * Ideal.exp2 (σ j - max c.1 (top σ)))

/-- What a column holds after the keys of `J`, of real scores `S` and values `W`: nothing if there are none, else the
    values' sum with weights `2 ^ (score - M)` for some real `M`. -/
def Held {D : ℕ} (S : ℕ → ℝ) (W : Fin D → ℕ → ℝ) (J : Finset ℕ) (c : EReal × (Fin D → EReal)) : Prop :=
  (J = ∅ ∧ c.1 = ⊥ ∧ ∀ d, c.2 d = 0) ∨
    ∃ M : ℝ, c.1 = (M : EReal) ∧ ∀ d, c.2 d = ((∑ j ∈ J, W d j * (2 : ℝ) ^ (S j - M) : ℝ) : EReal)

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem exp2_sub (a b : ℝ) : Ideal.exp2 ((a : EReal) - (b : EReal)) = (((2 : ℝ) ^ (a - b) : ℝ) : EReal) := by
  rw [← EReal.coe_sub]; rfl

theorem exp2_bot_sub (b : ℝ) : Ideal.exp2 ((⊥ : EReal) - (b : EReal)) = 0 := by
  rw [EReal.bot_sub]; rfl

/-- The keys up to the query `i` among the first `n`. -/
def keys (n i : ℕ) : Finset ℕ := (Finset.range n).filter (· ≤ i)

theorem mem_keys (n i j : ℕ) : j ∈ keys n i ↔ j < n ∧ j ≤ i := by simp [keys]

theorem keys_zero (i : ℕ) : keys 0 i = ∅ := by simp [keys]

theorem keys_full (n i : ℕ) (h : i < n) : keys n i = Finset.range (i + 1) := by
  ext j; rw [mem_keys, Finset.mem_range]; omega

/-- A sum over the keys of the next chunk. -/
theorem sum_keys_add (n i k : ℕ) (f : ℕ → ℝ) :
    ∑ j ∈ keys (n + k) i, f j = ∑ j ∈ keys n i, f j + ∑ y : Fin k, if n + y.val ≤ i then f (n + y.val) else 0 := by
  unfold keys
  rw [Finset.sum_filter, Finset.sum_filter, Finset.sum_range_add]
  congr 1
  rw [Finset.sum_range]

/-- A chunk of `k` keys from `n` on, those after the query `i` masked. -/
theorem held_step {D k : ℕ} (S : ℕ → ℝ) (W : Fin D → ℕ → ℝ) (n i : ℕ) (hk : 0 < k) (hn : n ≤ i) (σ : Fin k → EReal) (w : Fin D → Fin k → EReal)
    (hσ : ∀ y : Fin k, σ y = if n + y.val ≤ i then ((S (n + y.val) : ℝ) : EReal) else ⊥)
    (hw : ∀ d (y : Fin k), w d y = ((W d (n + y.val) : ℝ) : EReal)) (c : EReal × (Fin D → EReal)) (h : Held S W (keys n i) c) :
    Held S W (keys (n + k) i) (colStep σ w c) := by
  obtain ⟨T, hT⟩ : ∃ T : ℝ, top σ = (T : EReal) := by
    unfold top
    rw [fold_max_eq_sup]
    refine sup_real _ σ (fun j _ => ?_) ⟨0, hk⟩ (Finset.mem_univ _) ?_
    · rw [hσ]; split
      · exact EReal.coe_ne_top _
      · exact bot_ne_top
    · rw [hσ, if_pos (by simpa using hn)]; exact EReal.coe_ne_bot _
  obtain ⟨M, hM⟩ : ∃ M : ℝ, max c.1 (top σ) = (M : EReal) := by
    rcases h with ⟨_, hc, _⟩ | ⟨M₀, hc, _⟩
    · exact ⟨T, by rw [hc, hT]; exact bot_sup_eq _⟩
    · exact ⟨max M₀ T, by rw [hc, hT]; exact (EReal.coe_strictMono.monotone.map_max).symm⟩
  have hs : ∀ d, ∑ y : Fin k, w d y * Ideal.exp2 (σ y - (M : EReal))
      = ((∑ y : Fin k, if n + y.val ≤ i then W d (n + y.val) * (2 : ℝ) ^ (S (n + y.val) - M) else 0 : ℝ) : EReal) := by
    intro d
    rw [coe_sum]
    refine Finset.sum_congr rfl fun y _ => ?_
    rw [hσ, hw]
    split
    · rw [exp2_sub, EReal.coe_mul]
    · rw [exp2_bot_sub, mul_zero, EReal.coe_zero]
  refine Or.inr ⟨M, hM, fun d => ?_⟩
  show Ideal.exp2 (c.1 - max c.1 (top σ)) * c.2 d + ∑ j, w d j * Ideal.exp2 (σ j - max c.1 (top σ)) = _
  rw [hM, hs, sum_keys_add, EReal.coe_add]
  congr 1
  rcases h with ⟨hJ, hc, hz⟩ | ⟨M₀, hc, hz⟩
  · rw [hz, mul_zero, hJ]; simp
  · rw [hc, hz, exp2_sub, ← EReal.coe_mul, Finset.mul_sum]
    congr 1
    refine Finset.sum_congr rfl fun j _ => ?_
    rw [show S j - M = (M₀ - M) + (S j - M₀) by ring, Real.rpow_add (by norm_num)]
    ring

/-- The attention of the query `i`: the values' mean with weights `2 ^ score` over the keys up to it. -/
def attend (S : ℕ → ℝ) (W : ℕ → ℝ) (i : ℕ) : ℝ :=
  (∑ j ∈ Finset.range (i + 1), W j * (2 : ℝ) ^ S j) / ∑ j ∈ Finset.range (i + 1), (2 : ℝ) ^ S j

theorem weight_pos (S : ℕ → ℝ) (i : ℕ) : 0 < ∑ j ∈ Finset.range (i + 1), (2 : ℝ) ^ S j :=
  Finset.sum_pos (fun _ _ => Real.rpow_pos_of_pos (by norm_num) _) ⟨0, by simp⟩

theorem shift_sum (S : ℕ → ℝ) (W : ℕ → ℝ) (M : ℝ) (J : Finset ℕ) :
    ∑ j ∈ J, W j * (2 : ℝ) ^ (S j - M) = (2 : ℝ) ^ (-M) * ∑ j ∈ J, W j * (2 : ℝ) ^ S j := by
  rw [Finset.mul_sum]
  refine Finset.sum_congr rfl fun j _ => ?_
  rw [show S j - M = (-M) + S j by ring, Real.rpow_add (by norm_num)]
  ring

/-- The quotient of two rows of the accumulator, the second of ones, is the attention. -/
theorem held_div {D : ℕ} (S : ℕ → ℝ) (W : Fin D → ℕ → ℝ) (i : ℕ) (c : EReal × (Fin D → EReal)) (d l : Fin D)
    (h : Held S W (Finset.range (i + 1)) c) (hl : ∀ j, W l j = 1) :
    Ideal.div (c.2 d) (c.2 l) = ((attend S (W d) i : ℝ) : EReal) := by
  rcases h with ⟨hJ, _, _⟩ | ⟨M, _, hz⟩
  · exact absurd hJ (by simp)
  · rw [hz, hz, shift_sum, shift_sum]
    simp only [hl, one_mul]
    have hp := weight_pos S i
    have h2 : (0 : ℝ) < (2 : ℝ) ^ (-M) := Real.rpow_pos_of_pos (by norm_num) _
    rw [Ideal.div_coe (mul_pos h2 hp).ne', ← EReal.coe_mul]
    congr 1
    unfold attend
    field_simp

/-- Weights `e ^ (score - T)` over all keys, the masked ones' scores minus infinity, with the scores turned from units of
    log 2 to those of the natural logarithm and moved by a number of the query's own: the same attention. -/
theorem soft_sum (S : ℕ → ℝ) (W : ℕ → ℝ) (i n : ℕ) (hi : i < n) (a T : ℝ) (t w : Fin n → EReal)
    (ht : ∀ j : Fin n, t j = if j.val ≤ i then (((S j.val + a) * Real.log 2 : ℝ) : EReal) else ⊥)
    (hw : ∀ j : Fin n, w j = ((W j.val : ℝ) : EReal)) :
    ∑ j, w j * Ideal.div (Ideal.exp (t j - (T : EReal))) (∑ k, Ideal.exp (t k - (T : EReal))) = ((attend S W i : ℝ) : EReal) := by
  have he : ∀ j : Fin n, Ideal.exp (t j - (T : EReal)) = ((if j.val ≤ i then Real.exp (a * Real.log 2 - T) * (2 : ℝ) ^ S j.val else 0 : ℝ) : EReal) := by
    intro j
    rw [ht]
    split
    · rw [← EReal.coe_sub, Ideal.exp_coe, Real.rpow_def_of_pos (by norm_num), ← Real.exp_add]
      congr 2; ring
    · rw [EReal.bot_sub]; rfl
  have hsum : ∀ V : ℕ → ℝ, ∑ j : Fin n, (if j.val ≤ i then V j.val else 0) = ∑ j ∈ Finset.range (i + 1), V j := by
    intro V
    rw [Finset.sum_range (n := i + 1), ← Finset.sum_range (n := n) (fun j => if j ≤ i then V j else 0),
      ← Finset.sum_range (n := i + 1), ← Finset.sum_filter]
    refine Finset.sum_congr ?_ fun _ _ => rfl
    ext j; simp only [Finset.mem_filter, Finset.mem_range]; omega
  have hp := weight_pos S i
  have h2 := Real.exp_pos (a * Real.log 2 - T)
  have hZ : ∑ k : Fin n, Ideal.exp (t k - (T : EReal)) = ((Real.exp (a * Real.log 2 - T) * ∑ j ∈ Finset.range (i + 1), (2 : ℝ) ^ S j : ℝ) : EReal) := by
    simp only [he]
    rw [← coe_sum, hsum (fun j => Real.exp (a * Real.log 2 - T) * (2 : ℝ) ^ S j), Finset.mul_sum]
  rw [hZ]
  simp only [he, hw, Ideal.div_coe (mul_pos h2 hp).ne', ← EReal.coe_mul]
  rw [← coe_sum]
  congr 1
  have : ∀ j : Fin n, W j.val * ((if j.val ≤ i then Real.exp (a * Real.log 2 - T) * (2 : ℝ) ^ S j.val else 0)
      * (1 / (Real.exp (a * Real.log 2 - T) * ∑ j ∈ Finset.range (i + 1), (2 : ℝ) ^ S j)))
      = if j.val ≤ i then (W j.val * (2 : ℝ) ^ S j.val) / ∑ j ∈ Finset.range (i + 1), (2 : ℝ) ^ S j else 0 := by
    intro j
    split
    · field_simp
    · simp
  simp only [this]
  rw [hsum (fun j => (W j * (2 : ℝ) ^ S j) / ∑ j ∈ Finset.range (i + 1), (2 : ℝ) ^ S j), ← Finset.sum_div]
  rfl

end Cert.Softmax

end
-- ==== Proof.Ideal.Columns.lean ====
/- The body's sweeps one query column at a time: what a step, a chunk, a block below the diagonal and the block at the
   diagonal make of the running maximum and the accumulator of one head and one query. -/
module

public import proofs.«01_k».proof.Proof.Ideal.Values
public import proofs.«01_k».proof.Proof.Softmax

@[expose] public section

set_option maxRecDepth 16384
set_option Elab.async false

noncomputable section

namespace Cert.KernelIdeal.Flash

open Cert.KernelIdeal Cert.Flash Cert.Softmax
open Idealize.ShloMosaic

/-- The running maximum and the accumulator of head `h` and the query `x` of the block. -/
def col (st : St Ideal) (h : Fin 16) (x : Fin 512) : EReal × (Fin 80 → EReal) :=
  (st.2 (ix3 h 0 x), fun d => st.1 (ix3 h d x))

/-- A query's half of the block. -/
def half (x : Fin 512) : Fin 2 := ⟨x.val / 256, by omega⟩
/-- A query's place in its half. -/
def lane (x : Fin 512) : Fin 256 := ⟨x.val % 256, Nat.mod_lt _ (by decide)⟩
/-- A key's place in the block. -/
def keyAt (k : Fin 2) (y : Fin 256) : Fin 512 := ⟨256 * k.val + y.val, by omega⟩

theorem rA_at (h : Fin 16) (x : Fin 512) (d : Fin 80) :
    (rA h (half x)).emb (ix3 0 d (lane x) : S1x80x256.Idx) = (ix3 h d x : S16x80x512.Idx) := by
  refine Rect.emb_eq_of_coords _ _ _ fun a => ?_
  match a with
  | ⟨0, _⟩ => simp [Rect.unit, ix3]
  | ⟨1, _⟩ => simp [Rect.unit, ix3]
  | ⟨2, _⟩ => simp [Rect.unit, ix3, half, lane]; omega

theorem rM_at (h : Fin 16) (x : Fin 512) (r : Fin 8) :
    (rM h (half x)).emb (ix3 0 r (lane x) : S1x8x256.Idx) = (ix3 h r x : S16x8x512.Idx) := by
  refine Rect.emb_eq_of_coords _ _ _ fun a => ?_
  match a with
  | ⟨0, _⟩ => simp [Rect.unit, ix3]
  | ⟨1, _⟩ => simp [Rect.unit, ix3]
  | ⟨2, _⟩ => simp [Rect.unit, ix3, half, lane]; omega

theorem rQK_at (h : Fin 16) (k : Fin 2) (r : Fin 128) (y : Fin 256) :
    (rQK h k).emb (ix4 0 0 r y : S1x1x128x256.Idx) = (ix4 0 h r (keyAt k y) : S1x16x128x512.Idx) := by
  refine Rect.emb_eq_of_coords _ _ _ fun a => ?_
  match a with
  | ⟨0, _⟩ => simp [Rect.unit, ix4]
  | ⟨1, _⟩ => simp [Rect.unit, ix4]
  | ⟨2, _⟩ => simp [Rect.unit, ix4]
  | ⟨3, _⟩ => simp [Rect.unit, ix4, keyAt]

theorem rV_at (h : Fin 16) (k : Fin 2) (d : Fin 80) (y : Fin 256) :
    (rV h k).emb (ix4 0 0 d y : S1x1x80x256.Idx) = (ix4 0 h d (keyAt k y) : S1x16x80x512.Idx) := by
  refine Rect.emb_eq_of_coords _ _ _ fun a => ?_
  match a with
  | ⟨0, _⟩ => simp [Rect.unit, ix4]
  | ⟨1, _⟩ => simp [Rect.unit, ix4]
  | ⟨2, _⟩ => simp [Rect.unit, ix4]
  | ⟨3, _⟩ => simp [Rect.unit, ix4, keyAt]

theorem keyAt_half (x : Fin 512) : keyAt (half x) (lane x) = x := Fin.ext (by show 256 * (x.val / 256) + x.val % 256 = x.val; omega)

/-- What a rectangle's overlay holds inside it. -/
theorem overlay_at {s : Shape} {α : Type} (r : Rect s) (X : s.Idx → α) (G : r.shape.Idx → α) (j : s.Idx) (y : r.shape.Idx) (h : r.emb y = j) :
    r.overlay X G j = G y := by
  rw [← h]; exact r.overlay_emb X G y

/-- Where a chain's part of the accumulator lies. -/
theorem mem_rA (ch : Chain) (h : Fin 16) (x : Fin 512) (d : Fin 80) (hj : (ix3 h d x : S16x80x512.Idx) ∈ (rA ch.1 ch.2).set) : ch = (h, half x) := by
  rw [← (rA ch.1 ch.2).map_emb_univ, Finset.mem_map] at hj
  obtain ⟨y, -, hy⟩ := hj
  have h0 : ch.1.val + 1 * (y 0).val = h.val := congrArg (fun j : S16x80x512.Idx => (j 0).val) hy
  have h2 : 256 * ch.2.val + 1 * (y 2).val = x.val := congrArg (fun j : S16x80x512.Idx => (j 2).val) hy
  have y0 : (y 0).val < 1 := (y 0).isLt
  have y2 : (y 2).val < 256 := (y 2).isLt
  refine Prod.ext (Fin.ext ?_) (Fin.ext ?_)
  · show ch.1.val = h.val
    omega
  · show ch.2.val = x.val / 256
    omega

theorem mem_rM (ch : Chain) (h : Fin 16) (x : Fin 512) (d : Fin 8) (hj : (ix3 h d x : S16x8x512.Idx) ∈ (rM ch.1 ch.2).set) : ch = (h, half x) := by
  rw [← (rM ch.1 ch.2).map_emb_univ, Finset.mem_map] at hj
  obtain ⟨y, -, hy⟩ := hj
  have h0 : ch.1.val + 1 * (y 0).val = h.val := congrArg (fun j : S16x8x512.Idx => (j 0).val) hy
  have h2 : 256 * ch.2.val + 1 * (y 2).val = x.val := congrArg (fun j : S16x8x512.Idx => (j 2).val) hy
  have y0 : (y 0).val < 1 := (y 0).isLt
  have y2 : (y 2).val < 256 := (y 2).isLt
  refine Prod.ext (Fin.ext ?_) (Fin.ext ?_)
  · show ch.1.val = h.val
    omega
  · show ch.2.val = x.val / 256
    omega

attribute [local irreducible] aNew mOut mNew weights rescale score masked

variable (Q K : S1x16x128x512.Idx → Elt Ideal .bf16) (V : S1x16x80x512.Idx → Elt Ideal .bf16)

/-- A chain's step on its own columns is the step of the running softmax. -/
theorem step_col_self (k : Fin 2) (s : FVec Ideal S256x256 .f32) (st : St Ideal) (h : Fin 16) (x : Fin 512) :
    col (stepOf V k (h, half x) s st) h x
      = colStep (fun y => s (ix2 y (lane x))) (fun d y => V (ix4 0 h d (keyAt k y))) (col st h x) := by
  have hm : ∀ r, (stepOf V k (h, half x) s st).2 (ix3 h r x) = mNew s (fun x' => st.2 ((rM h (half x)).emb x')) (ix2 r (lane x)) := by
    intro r
    unfold stepOf
    dsimp only
    rw [overlay_at (rM h (half x)) st.2 _ _ _ (rM_at h x r), mOut_apply]
  have ha : ∀ d, (stepOf V k (h, half x) s st).1 (ix3 h d x) =
      aNew s (fun x' => st.2 ((rM h (half x)).emb x')) (fun x' => st.1 ((rA h (half x)).emb x')) (fun x' => V ((rV h k).emb x')) (ix3 0 d (lane x)) := by
    intro d
    unfold stepOf
    dsimp only
    rw [overlay_at (rA h (half x)) st.1 _ _ _ (rA_at h x d)]
  have hn : mNew s (fun x' => st.2 ((rM h (half x)).emb x')) (ix2 0 (lane x)) = max (st.2 (ix3 h 0 x) : EReal) (top fun y => s (ix2 y (lane x))) := by
    rw [mNew_apply, rM_at]
  unfold col colStep
  refine Prod.ext ?_ (funext fun d => ?_)
  · dsimp only
    rw [hm, hn]
  · dsimp only
    rw [ha, aNew_apply, rescale_apply, hn, rM_at, rA_at]
    simp only [weights_apply, hn, rV_at]
    rfl

/-- A chain's step leaves the other columns. -/
theorem step_col_other (k : Fin 2) (ch : Chain) (s : FVec Ideal S256x256 .f32) (st : St Ideal) (h : Fin 16) (x : Fin 512) (hc : ch ≠ (h, half x)) :
    col (stepOf V k ch s st) h x = col st h x := by
  unfold stepOf col
  dsimp only
  rw [Rect.overlay_of_not_mem (rM ch.1 ch.2) _ _ fun hj => hc (mem_rM ch h x 0 hj)]
  refine Prod.ext rfl (funext fun d => ?_)
  dsimp only
  rw [Rect.overlay_of_not_mem (rA ch.1 ch.2) _ _ fun hj => hc (mem_rA ch h x d hj)]

theorem steps_col_other (k : Fin 2) (f : Chain → FVec Ideal S256x256 .f32 → FVec Ideal S256x256 .f32) (h : Fin 16) (x : Fin 512) :
    ∀ (l : List (Chain × FVec Ideal S256x256 .f32)) (st : St Ideal), (∀ p ∈ l, p.1 ≠ (h, half x)) → col (stepsOf V k f l st) h x = col st h x
  | [], _, _ => rfl
  | p :: r, st, hl => by
    unfold stepsOf
    rw [steps_col_other k f h x r _ fun p' hp' => hl p' (List.mem_cons_of_mem _ hp'), step_col_other V k p.1 _ st h x (hl p List.mem_cons_self)]

/-- A chunk leaves the columns of the chains it does not list. -/
theorem chunk_col_other (k : Fin 2) (f : Chain → FVec Ideal S256x256 .f32 → FVec Ideal S256x256 .f32) (l : List Chain) (st : St Ideal)
    (h : Fin 16) (x : Fin 512) (hl : (h, half x) ∉ l) : col (chunkOf Q K V k f l st) h x = col st h x := by
  refine steps_col_other V k f h x _ st fun p hp e => hl ?_
  obtain ⟨ch, hch, rfl⟩ := List.mem_map.mp hp
  exact e ▸ hch

/-- A chunk is one step of the running softmax on each column of the chains it lists. -/
theorem chunk_col_self (k : Fin 2) (f : Chain → FVec Ideal S256x256 .f32 → FVec Ideal S256x256 .f32) (h : Fin 16) (x : Fin 512) :
    ∀ (l : List Chain) (st : St Ideal), l.Nodup → (h, half x) ∈ l →
    col (chunkOf Q K V k f l st) h x
      = colStep (fun y => f (h, half x) (scoreOf Q K k (h, half x)) (ix2 y (lane x))) (fun d y => V (ix4 0 h d (keyAt k y))) (col st h x)
  | [], _, _, hm => absurd hm (by simp)
  | ch :: r, st, hn, hm => by
    have hn' := List.nodup_cons.mp hn
    show col (chunkOf Q K V k f r (stepOf V k ch (f ch (scoreOf Q K k ch)) st)) h x = _
    by_cases hc : ch = (h, half x)
    · subst hc
      rw [chunk_col_other Q K V k f r _ h x hn'.1, step_col_self]
    · rw [chunk_col_self k f h x r _ hn'.2 ((List.mem_cons.mp hm).resolve_left (Ne.symm hc)), step_col_other V k ch _ st h x hc]

theorem all_nodup : allChains.Nodup := by decide
theorem late_nodup : lateChains.Nodup := by decide
theorem mem_all : ∀ ch : Chain, ch ∈ allChains := by decide
theorem mem_late : ∀ ch : Chain, ch ∈ lateChains ↔ ch.2 = 1 := by decide

/-- The score of the key `y` of chunk `k` for the query `x`. -/
theorem scoreOf_apply (k : Fin 2) (h : Fin 16) (x : Fin 512) (y : Fin 256) :
    scoreOf Q K k (h, half x) (ix2 y (lane x)) = ∑ r : Fin 128, (K (ix4 0 h r (keyAt k y)) : EReal) * Q (ix4 0 h r x) := by
  unfold scoreOf
  rw [score_apply]
  refine Finset.sum_congr rfl fun r _ => ?_
  rw [rQK_at, rQK_at, keyAt_half]

/-! ## What a column holds -/

variable (S : ℕ → ℝ) (W : Fin 80 → ℕ → ℝ) (h : Fin 16) (x : Fin 512) (n i : ℕ)
  (hS : ∀ z : Fin 512, ∑ r : Fin 128, (K (ix4 0 h r z) : EReal) * Q (ix4 0 h r x) = ((S (n + z.val) : ℝ) : EReal))
  (hW : ∀ d (z : Fin 512), (V (ix4 0 h d z) : EReal) = ((W d (n + z.val) : ℝ) : EReal))

include hS hW

theorem held_below (st : St Ideal) (hi : n + 512 ≤ i) (H : Held S W (keys n i) (col st h x)) :
    Held S W (keys (n + 512) i) (col (belowOf Q K V st) h x) := by
  unfold belowOf
  rw [chunk_col_self Q K V 1 _ h x _ _ all_nodup (mem_all _), chunk_col_self Q K V 0 _ h x _ _ all_nodup (mem_all _)]
  have h1 := held_step S W n i (by decide : 0 < 256) (by omega) (fun y => scoreOf Q K 0 (h, half x) (ix2 y (lane x)))
    (fun d y => V (ix4 0 h d (keyAt 0 y)))
    (fun y => by rw [scoreOf_apply, hS, if_pos (by omega)]; simp [keyAt]) (fun d y => by rw [hW]; simp [keyAt]) _ H
  exact held_step S W (n + 256) i (by decide : 0 < 256) (by omega) (fun y => scoreOf Q K 1 (h, half x) (ix2 y (lane x)))
    (fun d y => V (ix4 0 h d (keyAt 1 y)))
    (fun y => by rw [scoreOf_apply, hS, if_pos (by omega)]; simp [keyAt, Nat.add_assoc]) (fun d y => by rw [hW]; simp [keyAt, Nat.add_assoc]) _ h1

theorem held_diag (st : St Ideal) (hi : i = n + x.val) (H : Held S W (keys n i) (col st h x)) :
    Held S W (keys (n + 512) i) (col (diagOf Q K V st) h x) := by
  unfold diagOf
  have hx := x.isLt
  have hr : (lane x).val = x.val % 256 := rfl
  by_cases hh : half x = 0
  · have hv : x.val / 256 = 0 := congrArg Fin.val hh
    rw [chunk_col_other Q K V 1 _ _ _ h x (fun hm => by rw [mem_late] at hm; exact absurd (hh.symm.trans hm) (by decide)),
      chunk_col_self Q K V 0 _ h x _ _ all_nodup (mem_all _)]
    have h1 := held_step S W n i (by decide : 0 < 256) (by omega)
      (fun y => (if (h, half x).2 = 0 then masked 0#32 (scoreOf Q K 0 (h, half x)) else scoreOf Q K 0 (h, half x)) (ix2 y (lane x)))
      (fun d y => V (ix4 0 h d (keyAt 0 y)))
      (fun y => by
        rw [if_pos hh, masked_apply _ (by decide), scoreOf_apply, hS]
        by_cases hy : y.val ≤ (lane x).val
        · rw [if_pos hy, if_pos (by omega)]; simp [keyAt]
        · rw [if_neg hy, if_neg (by omega)])
      (fun d y => by rw [hW]; simp [keyAt]) _ H
    have e : keys (n + 512) i = keys (n + 256) i := by
      rw [keys_full _ _ (by omega), keys_full _ _ (by omega)]
    rw [e]; exact h1
  · have hv : x.val / 256 = 1 := by
      have : x.val / 256 ≠ 0 := fun e => hh (Fin.ext e)
      omega
    have h1' : half x = 1 := Fin.ext hv
    rw [chunk_col_self Q K V 1 _ h x _ _ late_nodup ((mem_late _).mpr h1'), chunk_col_self Q K V 0 _ h x _ _ all_nodup (mem_all _)]
    have h1 := held_step S W n i (by decide : 0 < 256) (by omega)
      (fun y => (if (h, half x).2 = 0 then masked 0#32 (scoreOf Q K 0 (h, half x)) else scoreOf Q K 0 (h, half x)) (ix2 y (lane x)))
      (fun d y => V (ix4 0 h d (keyAt 0 y)))
      (fun y => by
        rw [if_neg hh, scoreOf_apply, hS, if_pos (by omega)]; simp [keyAt])
      (fun d y => by rw [hW]; simp [keyAt]) _ H
    exact held_step S W (n + 256) i (by decide : 0 < 256) (by omega)
      (fun y => masked 256#32 (scoreOf Q K 1 (h, half x)) (ix2 y (lane x)))
      (fun d y => V (ix4 0 h d (keyAt 1 y)))
      (fun y => by
        rw [masked_apply _ (by decide), scoreOf_apply, hS]
        by_cases hy : y.val ≤ (lane x).val
        · rw [if_pos hy, if_pos (by omega)]; simp [keyAt, Nat.add_assoc]
        · rw [if_neg hy, if_neg (by omega)])
      (fun d y => by rw [hW]; simp [keyAt, Nat.add_assoc]) _ h1

omit hS hW in
theorem held_start : Held S W (keys 0 i) (col startOf h x) := by
  rw [keys_zero]
  refine Or.inl ⟨rfl, rfl, fun d => ?_⟩
  show Ideal.ofBits .f32 0x00000000#32 = 0
  exact Ideal.ofBits_zero_f32

end Cert.KernelIdeal.Flash

end
-- ==== Proof.Ideal.Result.lean ====
/- What the kernel's program leaves in its result: the attention of every head and query. -/
module

public import proofs.«01_k».proof.Proof.Ideal.Columns
public import proofs.«01_k».proof.Proof.Ideal.Launch
public import Idealize.ShloMosaic.Lib.Pipeline.ValueKit

@[expose] public section

set_option maxRecDepth 16384
set_option Elab.async false

noncomputable section

namespace Cert.KernelIdeal.Flash

open Cert.KernelIdeal Cert.KernelIdeal.Gen Cert.Flash Cert.Softmax
open Idealize.ShloMosaic Idealize.ShloMosaic.TcCoe
open Idealize.ShloMosaic.Pipeline (Dat Cfg Window)

/-! ## The output block -/

/-- The column of a head's row in the result. -/
def outCol (h : Fin 16) (d : Fin 64) : Fin 1024 := ⟨h.val * 64 + d.val, by omega⟩

/-- A row of the accumulator over its row of weights. -/
def quotAt (A : S16x80x512.Idx → Elt Ideal .f32) (h : Fin 16) (d : Fin 64) (x : Fin 512) : EReal :=
  Ideal.div (A (ix3 h ⟨d.val, by omega⟩ x)) (A (ix3 h 64 x))

theorem rO_at (h : Fin 16) (d : Fin 80) (x : Fin 512) : (rO h).emb (ix3 0 d x : S1x80x512.Idx) = (ix3 h d x : S16x80x512.Idx) := by
  refine Rect.emb_eq_of_coords _ _ _ fun a => ?_
  match a with
  | ⟨0, _⟩ => simp [Rect.unit, ix3]
  | ⟨1, _⟩ => simp [Rect.unit, ix3]
  | ⟨2, _⟩ => simp [Rect.unit, ix3]

/-- The pair a head belongs to. -/
def pairOf (h : Fin 16) : Fin 8 := ⟨h.val / 2, by omega⟩
/-- A head's row among its pair's columns. -/
def colIn (h : Fin 16) (d : Fin 64) : Fin 128 := ⟨h.val % 2 * 64 + d.val, by omega⟩

theorem rOut_at (h : Fin 16) (d : Fin 64) (x : Fin 512) :
    (rOut (pairOf h)).emb (ix3 0 x (colIn h d) : S1x512x128.Idx) = (ix3 0 x (outCol h d) : S1x512x1024.Idx) := by
  refine Rect.emb_eq_of_coords _ _ _ fun a => ?_
  match a with
  | ⟨0, _⟩ => simp [Rect.unit, ix3]
  | ⟨1, _⟩ => simp [Rect.unit, ix3]
  | ⟨2, _⟩ => simp [Rect.unit, ix3, pairOf, colIn, outCol]; omega

theorem mem_rOut (p : Fin 8) (h : Fin 16) (d : Fin 64) (x : Fin 512) (hj : (ix3 0 x (outCol h d) : S1x512x1024.Idx) ∈ (rOut p).set) : p = pairOf h := by
  rw [← (rOut p).map_emb_univ, Finset.mem_map] at hj
  obtain ⟨y, -, hy⟩ := hj
  have h2 : 128 * p.val + 1 * (y 2).val = h.val * 64 + d.val := congrArg (fun j : S1x512x1024.Idx => (j 2).val) hy
  have y2 : (y 2).val < 128 := (y 2).isLt
  have hd := d.isLt
  refine Fin.ext ?_
  show p.val = h.val / 2
  omega

theorem pair_quot (A : S16x80x512.Idx → Elt Ideal .f32) (h : Fin 16) (d : Fin 64) (x : Fin 512) :
    pairOut (fun y => A ((rO (ev (pairOf h))).emb y)) (fun y => A ((rO (od (pairOf h))).emb y)) (ix3 0 x (colIn h d)) = quotAt A h d x := by
  rw [pairOut_apply]
  have hc : (colIn h d).val = h.val % 2 * 64 + d.val := rfl
  have hd := d.isLt
  unfold quotAt
  split
  · rename_i hlt
    have e : ev (pairOf h) = h := Fin.ext (by show 2 * (h.val / 2) = h.val; omega)
    rw [rO_at, rO_at, e]
    congr 3
    exact Fin.ext (by show (colIn h d).val = d.val; omega)
  · rename_i hlt
    have e : od (pairOf h) = h := Fin.ext (by show 2 * (h.val / 2) + 1 = h.val; omega)
    rw [rO_at, rO_at, e]
    congr 3
    exact Fin.ext (by show (colIn h d).val - 64 = d.val; omega)

theorem emit_quot (A : S16x80x512.Idx → Elt Ideal .f32) (h : Fin 16) (d : Fin 64) (x : Fin 512) :
    ∀ (l : List (Fin 8)) (O : S1x512x1024.Idx → Elt Ideal .bf16), (pairOf h ∈ l ∨ O (ix3 0 x (outCol h d)) = quotAt A h d x) →
    emitOf A l O (ix3 0 x (outCol h d)) = quotAt A h d x
  | [], O, hO => by
    rcases hO with hO | hO
    · exact absurd hO (by simp)
    · exact hO
  | p :: r, O, hO => by
    unfold emitOf
    refine emit_quot A h d x r _ ?_
    by_cases hp : p = pairOf h
    · subst hp
      right
      rw [overlay_at (rOut (pairOf h)) O _ _ _ (rOut_at h d x), pair_quot]
    · rcases hO with hO | hO
      · left
        exact (List.mem_cons.mp hO).resolve_left (Ne.symm hp)
      · right
        rw [Rect.overlay_of_not_mem (rOut p) _ _ fun hj => hp (mem_rOut p h d x hj), hO]

/-- The output block at an index. -/
theorem outOf_apply (A : S16x80x512.Idx → Elt Ideal .f32) (h : Fin 16) (d : Fin 64) (x : Fin 512) :
    outOf A (ix3 0 x (outCol h d)) = quotAt A h d x :=
  emit_quot A h d x _ _ (.inl (List.mem_finRange _))

/-! ## The points -/

/-- A point's place in the grid determines its batch and its blocks. -/
theorem place_inj (b q k b' q' k' : ℕ) (hk : k ≤ q) (hq : q < 16) (hk' : k' ≤ q') (hq' : q' < 16)
    (h : b * 136 + q * (q + 1) / 2 + k = b' * 136 + q' * (q' + 1) / 2 + k') : b = b' ∧ q = q' ∧ k = k' := by
  interval_cases q <;> interval_cases q' <;> omega

theorem point_k (t : Fin cfgA.N) : kN t ≤ qN t := (acts t).2.2.2.2.2.1.1
theorem point_q (t : Fin cfgA.N) : qN t < 16 := (acts t).2.2.2.2.2.1.2
theorem point_b (t : Fin cfgA.N) : bN t < 2 := (acts t).2.2.2.2.2.2.2.2.2.2.2
theorem point_val (t : Fin cfgA.N) : t.val = bN t * 136 + qN t * (qN t + 1) / 2 + kN t := (acts t).2.2.2.2.2.2.2.2.2.2.1

/-- The point before one that is not the first of its block of queries. -/
theorem point_pred (t t' : Fin cfgA.N) (h : t'.val + 1 = t.val) (hk : kN t ≠ 0) : bN t' = bN t ∧ qN t' = qN t ∧ kN t' + 1 = kN t := by
  have h1 := point_val t
  have h2 := point_val t'
  have := place_inj (bN t') (qN t') (kN t') (bN t) (qN t) (kN t - 1) (point_k t') (point_q t')
    (by have := point_k t; omega) (point_q t) (by omega)
  omega

theorem index_0 (t : Fin cfgA.N) : (cfgA.win (0 : Fin 4)).index t = ![bN t, 0, 0, qN t] := (acts t).2.2.2.2.2.2.1
theorem index_1 (t : Fin cfgA.N) : (cfgA.win (1 : Fin 4)).index t = ![bN t, 0, 0, kN t] := (acts t).2.2.2.2.2.2.2.1
theorem index_2 (t : Fin cfgA.N) : (cfgA.win (2 : Fin 4)).index t = ![bN t, 0, 0, kN t] := (acts t).2.2.2.2.2.2.2.2.1
theorem index_3 (t : Fin cfgA.N) : (cfgA.win (3 : Fin 4)).index t = ![bN t, qN t, 0] := (acts t).2.2.2.2.2.2.2.2.2.1

/-- A point's batch. -/
def bat (t : Fin cfgA.N) : Fin 2 := ⟨bN t, point_b t⟩
/-- A place in a point's block of queries. -/
def qPos (t : Fin cfgA.N) (x : Fin 512) : Fin 8192 := ⟨512 * qN t + x.val, by have := point_q t; omega⟩
/-- A place in a point's block of keys. -/
def kPos (t : Fin cfgA.N) (x : Fin 512) : Fin 8192 := ⟨512 * kN t + x.val, by have := point_q t; have := point_k t; omega⟩

variable (m : (ℓ : Loc nD τ sig) → Buf (Elt Ideal) ℓ) (c : Dev nD)

/-- The arguments as arrays of extended reals. -/
abbrev argQ : S2x16x128x8192.Idx → EReal := m ((c : Thread nD τ).loc main_arg0)
abbrev argK : S2x16x128x8192.Idx → EReal := m ((c : Thread nD τ).loc main_arg1)
abbrev argV : S2x16x80x8192.Idx → EReal := m ((c : Thread nD τ).loc main_arg2)

theorem iQ_apply (t : Fin cfgA.N) (h : Fin 16) (r : Fin 128) (x : Fin 512) :
    iQ m c t (ix4 0 h r x) = argQ m c (ix4 (bat t) h r (qPos t x)) := by
  show argQ m c (((cfgA.win (0 : Fin 4)).blk t).view.emb (ix4 0 h r x : S1x16x128x512.Idx)) = _
  refine congrArg _ (funext fun a => Fin.ext ?_)
  have e := congrFun (index_0 t) a
  refine (Window.rect_emb_val (cfgA.win (0 : Fin 4)) t (ix4 0 h r x : S1x16x128x512.Idx) a).trans ?_
  rw [e]
  match a with
  | ⟨0, _⟩ => exact Nat.add_zero _ |>.trans (Nat.mul_one _)
  | ⟨1, _⟩ => simp [ix4]
  | ⟨2, _⟩ => simp [ix4]
  | ⟨3, _⟩ => show qN t * 512 + x.val = 512 * qN t + x.val; omega

theorem iK_apply (t : Fin cfgA.N) (h : Fin 16) (r : Fin 128) (x : Fin 512) :
    iK m c t (ix4 0 h r x) = argK m c (ix4 (bat t) h r (kPos t x)) := by
  show argK m c (((cfgA.win (1 : Fin 4)).blk t).view.emb (ix4 0 h r x : S1x16x128x512.Idx)) = _
  refine congrArg _ (funext fun a => Fin.ext ?_)
  have e := congrFun (index_1 t) a
  refine (Window.rect_emb_val (cfgA.win (1 : Fin 4)) t (ix4 0 h r x : S1x16x128x512.Idx) a).trans ?_
  rw [e]
  match a with
  | ⟨0, _⟩ => exact Nat.add_zero _ |>.trans (Nat.mul_one _)
  | ⟨1, _⟩ => simp [ix4]
  | ⟨2, _⟩ => simp [ix4]
  | ⟨3, _⟩ => show kN t * 512 + x.val = 512 * kN t + x.val; omega

theorem iV_apply (t : Fin cfgA.N) (h : Fin 16) (r : Fin 80) (x : Fin 512) :
    iV m c t (ix4 0 h r x) = argV m c (ix4 (bat t) h r (kPos t x)) := by
  show argV m c (((cfgA.win (2 : Fin 4)).blk t).view.emb (ix4 0 h r x : S1x16x80x512.Idx)) = _
  refine congrArg _ (funext fun a => Fin.ext ?_)
  have e := congrFun (index_2 t) a
  refine (Window.rect_emb_val (cfgA.win (2 : Fin 4)) t (ix4 0 h r x : S1x16x80x512.Idx) a).trans ?_
  rw [e]
  match a with
  | ⟨0, _⟩ => exact Nat.add_zero _ |>.trans (Nat.mul_one _)
  | ⟨1, _⟩ => simp [ix4]
  | ⟨2, _⟩ => simp [ix4]
  | ⟨3, _⟩ => show kN t * 512 + x.val = 512 * kN t + x.val; omega

/-- The output's block in the result. -/
theorem out_emb (t : Fin cfgA.N) (y : S1x512x1024.Idx) :
    ((cfgA.win (3 : Fin 4)).blk t).view.emb y = (ix3 (bat t) (qPos t (y 1)) (y 2) : S2x8192x1024.Idx) := by
  refine funext fun a => Fin.ext ?_
  have e := congrFun (index_3 t) a
  refine (Window.rect_emb_val (cfgA.win (3 : Fin 4)) t y a).trans ?_
  rw [e]
  have y0 : (y 0).val < 1 := (y 0).isLt
  match a with
  | ⟨0, _⟩ => show bN t * 1 + (y 0).val = bN t; omega
  | ⟨1, _⟩ => show qN t * 512 + (y 1).val = 512 * qN t + (y 1).val; omega
  | ⟨2, _⟩ => show 0 * 1024 + (y 2).val = (y 2).val; omega

/-! ## The states -/

/-- The arguments are real numbers: the scores `S` and the values `W`. -/
structure Reals (S : Fin 2 → Fin 16 → ℕ → ℕ → ℝ) (W : Fin 2 → Fin 16 → Fin 80 → ℕ → ℝ) : Prop where
  score : ∀ b h (i j : Fin 8192), ∑ r : Fin 128, argK m c (ix4 b h r j) * argQ m c (ix4 b h r i) = ((S b h i.val j.val : ℝ) : EReal)
  value : ∀ b h d (j : Fin 8192), argV m c (ix4 b h d j) = ((W b h d j.val : ℝ) : EReal)
  ones : ∀ b h j, W b h 64 j = 1

variable {m c} {S : Fin 2 → Fin 16 → ℕ → ℕ → ℝ} {W : Fin 2 → Fin 16 → Fin 80 → ℕ → ℝ} (R : Reals m c S W)

include R

/-- A point takes a column over its block of keys. -/
theorem next_held (t : Fin cfgA.N) (st : St Ideal) (h : Fin 16) (x : Fin 512)
    (H : kN t ≠ 0 → Held (S (bat t) h (qPos t x).val) (W (bat t) h) (keys (512 * kN t) (qPos t x).val) (col st h x)) :
    Held (S (bat t) h (qPos t x).val) (W (bat t) h) (keys (512 * kN t + 512) (qPos t x).val) (col (next m c t st) h x) := by
  have hS : ∀ z : Fin 512, ∑ r : Fin 128, (iK m c t (ix4 0 h r z) : EReal) * iQ m c t (ix4 0 h r x)
      = ((S (bat t) h (qPos t x).val (512 * kN t + z.val) : ℝ) : EReal) := fun z => by
    simp only [iK_apply, iQ_apply]; exact R.score _ _ _ _
  have hW : ∀ d (z : Fin 512), (iV m c t (ix4 0 h d z) : EReal) = ((W (bat t) h d (512 * kN t + z.val) : ℝ) : EReal) := fun d z => by
    rw [iV_apply]; exact R.value _ _ _ _
  have hk := point_k t
  have ha := acts t
  have hi : (qPos t x).val = 512 * qN t + x.val := rfl
  unfold next pointOf
  dsimp only
  have H' : Held (S (bat t) h (qPos t x).val) (W (bat t) h) (keys (512 * kN t) (qPos t x).val)
      (col (if isFirst (word tabK (crd t)) then startOf else st) h x) := by
    by_cases h0 : kN t = 0
    · rw [if_pos (ha.1.mpr h0), h0]; exact held_start _ _ _ _ _
    · rw [if_neg fun hf => h0 (ha.1.mp hf)]; exact H h0
  generalize (if isFirst (word tabK (crd t)) then startOf else st) = st' at H' ⊢
  by_cases hb : kN t < qN t
  · rw [if_pos (ha.2.1.mpr hb), if_neg fun hf => absurd (ha.2.2.1.mp hf) (by omega)]
    exact held_below _ _ _ _ _ h x _ _ hS hW st' (by omega) H'
  · rw [if_neg fun hf => hb (ha.2.1.mp hf), if_pos (ha.2.2.1.mpr (by omega))]
    exact held_diag _ _ _ _ _ h x _ _ hS hW st' (by omega) H'

/-- What the columns hold after every point. -/
theorem traj_held (h : Fin 16) (x : Fin 512) : ∀ (n : ℕ) (hn : n < cfgA.N),
    Held (S (bat ⟨n, hn⟩) h (qPos ⟨n, hn⟩ x).val) (W (bat ⟨n, hn⟩) h) (keys (512 * kN ⟨n, hn⟩ + 512) (qPos ⟨n, hn⟩ x).val) (col (traj m c n hn) h x)
  | 0, hn => next_held R ⟨0, hn⟩ startOf h x fun h0 => by
      have := point_val ⟨0, hn⟩
      simp only at this
      omega
  | n + 1, hn => next_held R ⟨n + 1, hn⟩ _ h x fun h0 => by
      have hp := point_pred ⟨n + 1, hn⟩ ⟨n, Nat.lt_of_succ_lt hn⟩ rfl h0
      have ih := traj_held h x n (Nat.lt_of_succ_lt hn)
      have e1 : bat ⟨n, Nat.lt_of_succ_lt hn⟩ = bat ⟨n + 1, hn⟩ := Fin.ext hp.1
      have e2 : qPos ⟨n, Nat.lt_of_succ_lt hn⟩ x = qPos ⟨n + 1, hn⟩ x := Fin.ext (by show 512 * _ + _ = 512 * _ + _; rw [hp.2.1])
      have e3 : 512 * kN ⟨n, Nat.lt_of_succ_lt hn⟩ + 512 = 512 * kN ⟨n + 1, hn⟩ := by omega
      rw [e1, e2, e3] at ih
      exact ih

/-- The output block of a point on the diagonal. -/
theorem out_attend (t : Fin cfgA.N) (ht : kN t = qN t) (h : Fin 16) (d : Fin 64) (x : Fin 512) :
    outOf (traj m c t.val t.isLt).1 (ix3 0 x (outCol h d))
      = ((attend (S (bat t) h (qPos t x).val) (W (bat t) h ⟨d.val, by omega⟩) (qPos t x).val : ℝ) : EReal) := by
  rw [outOf_apply]
  have H := traj_held R h x t.val t.isLt
  have hi : (qPos t x).val = 512 * qN t + x.val := rfl
  rw [keys_full _ _ (by show (qPos t x).val < 512 * kN t + 512; omega)] at H
  exact held_div _ _ _ (col (traj m c t.val t.isLt) h x) ⟨d.val, by omega⟩ 64 H (R.ones _ _)

omit R in
/-- Every place of the result is written by a point on the diagonal. -/
theorem covered (i : S2x8192x1024.Idx) : ∃ t : Fin cfgA.N, (cfgA.win (3 : Fin 4)).flush t = true ∧ i ∈ ((cfgA.win (3 : Fin 4)).blk t).view.set := by
  have i0 : (i 0).val < 2 := (i 0).isLt
  have i1 : (i 1).val < 8192 := (i 1).isLt
  obtain ⟨q, hq, hq16⟩ : ∃ q, q = (i 1).val / 512 ∧ q < 16 := ⟨_, rfl, by omega⟩
  have hT : q * (q + 1) / 2 + q < 136 := by interval_cases q <;> omega
  have hN : cfgA.N = 272 := N_0
  let t : Fin cfgA.N := ⟨(i 0).val * 136 + q * (q + 1) / 2 + q, by omega⟩
  have hv := place_inj (i 0).val q q (bN t) (qN t) (kN t) le_rfl hq16 (point_k t) (point_q t) (point_val t)
  refine ⟨t, ?_, ?_⟩
  · rw [(acts t).2.2.2.2.1, decide_eq_true (by omega)]
  · have e : i = ((cfgA.win (3 : Fin 4)).blk t).view.emb (ix3 0 ⟨(i 1).val % 512, Nat.mod_lt _ (by decide)⟩ ⟨(i 2).val, (i 2).isLt⟩ : S1x512x1024.Idx) := by
      rw [out_emb]
      refine funext fun a => Fin.ext ?_
      match a with
      | ⟨0, _⟩ => exact hv.1
      | ⟨1, _⟩ => show (i 1).val = 512 * qN t + (i 1).val % 512; omega
      | ⟨2, _⟩ => rfl
    rw [e]
    exact View.emb_mem_set _ _

/-- The result's head and row of a column. -/
def headOf (j : Fin 1024) : Fin 16 := ⟨j.val / 64, by omega⟩
def rowOf (j : Fin 1024) : Fin 64 := ⟨j.val % 64, Nat.mod_lt _ (by decide)⟩

/-- The attention of every batch, query, head and row. -/
def attended (S : Fin 2 → Fin 16 → ℕ → ℕ → ℝ) (W : Fin 2 → Fin 16 → Fin 80 → ℕ → ℝ) : S2x8192x1024.Idx → EReal := fun i =>
  ((attend (S (i 0) (headOf (i 2)) (i 1).val) (W (i 0) (headOf (i 2)) ⟨(rowOf (i 2)).val, by omega⟩) (i 1).val : ℝ) : EReal)

/-- The result after the run. -/
theorem result_eq : (dats m 0 c).arrAt (3 : Fin 4) cfgA.N = attended S W := by
  refine (dats m 0 c).arrAt_eq_of_emb (3 : Fin 4) _ (fun t hf y => ?_) covered
  have hk : kN t = qN t := by
    rw [(acts t).2.2.2.2.1] at hf
    exact of_decide_eq_true hf
  have y0 : (y 0).val < 1 := (y 0).isLt
  have y2 : (y 2).val < 1024 := (y 2).isLt
  have e := out_emb t y
  refine Eq.trans ?_ (congrArg (attended S W) e).symm
  have ey : (y : S1x512x1024.Idx) = ix3 0 (y 1) (outCol (headOf (y 2)) (rowOf (y 2))) := by
    refine funext fun a => Fin.ext ?_
    match a with
    | ⟨0, _⟩ => show (y 0).val = 0; omega
    | ⟨1, _⟩ => rfl
    | ⟨2, _⟩ => show (y 2).val = (y 2).val / 64 * 64 + (y 2).val % 64; omega
  exact (congrArg (outOf (traj m c t.val t.isLt).1) ey).trans (out_attend R t hk (headOf (y 2)) (rowOf (y 2)) (y 1))

end Cert.KernelIdeal.Flash

end
-- ==== Proof.Reference.lean ====
/- What the reference computes, at an index: the masked scores in units of the natural logarithm, their softmax, and the
   values' mean under it. -/
module

public import proofs.«01_k».proof.Proof.Gen.ReferenceIdeal
public import proofs.«01_k».proof.Proof.Gen.ReferenceIdeal.Run
public import proofs.«01_k».proof.Proof.Softmax

@[expose] public section

set_option maxRecDepth 16384
set_option Elab.async false

noncomputable section

namespace Cert.ReferenceIdeal.Attention

open Cert.ReferenceIdeal Cert.ReferenceIdeal.Gen Cert.Softmax
open Idealize.ShloMosaic Idealize.ShloMosaic.TcCoe

/-! ## The program's values -/

/-- The sum of the three rows of the cumulative log forget. -/
def gate (k : FVec Ideal S2x16x128x8192 .bf16) : FVec Ideal S2x16x8192 .f32 :=
  Host.reduceAdd (extf .f32 (extractStridedSlice S2x16x3x8192 ![0, 0, 64, 0] k slices_S2x16x128x8192_S2x16x3x8192_0_0_64_0) bitsLt_bf16_f32)
    (constant S_ .f32 0x00000000#32) reducesTo_S2x16x3x8192_S2x16x8192_d2 h_S_

/-- The scores. -/
def scores (q k : FVec Ideal S2x16x128x8192 .bf16) : FVec Ideal S2x16x8192x8192 .f32 :=
  mulf (subf (addf (Host.dotGeneral dot_S2x16x64x8192_S2x16x64x8192_S2x16x8192x8192_2_2_3_3_01_01 none
      (extractStridedSlice S2x16x64x8192 ![0, 0, 0, 0] q slices_S2x16x128x8192_S2x16x64x8192_0_0_0_0)
      (extractStridedSlice S2x16x64x8192 ![0, 0, 0, 0] k slices_S2x16x128x8192_S2x16x64x8192_0_0_0_0))
    (broadcastInDim S2x16x8192x8192 ![0, 1, 2, 3] bcast_S2x16x8192x1_S2x16x8192x8192_0_1_2_3 (broadcastInDim S2x16x8192x1 ![0, 1, 2] bcast_S2x16x8192_S2x16x8192x1_0_1_2 (gate k))))
    (broadcastInDim S2x16x8192x8192 ![0, 1, 2, 3] bcast_S2x16x1x8192_S2x16x8192x8192_0_1_2_3 (broadcastInDim S2x16x1x8192 ![0, 1, 3] bcast_S2x16x8192_S2x16x1x8192_0_1_3 (gate k))))
    (broadcastInDim S2x16x8192x8192 ![] bcast_S_S2x16x8192x8192 (Host.log (constant S_ .f32 0x40000000#32)))

/-- The scores with the keys after the query masked. -/
def causal (s : FVec Ideal S2x16x8192x8192 .f32) : FVec Ideal S2x16x8192x8192 .f32 :=
  select (broadcastInDim S2x16x8192x8192 ![2, 3] bcast_S8192x8192_S2x16x8192x8192_2_3
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))
    s (broadcastInDim S2x16x8192x8192 ![] bcast_S_S2x16x8192x8192 (id (constant S_ .f32 0xFF800000#32)))

/-- Every query's largest score. -/
def largest (s : FVec Ideal S2x16x8192x8192 .f32) : FVec Ideal S2x16x8192 .f32 :=
  maximumf (broadcastInDim S2x16x8192 ![] bcast_S_S2x16x8192 (constant S_ .f32 0xFF800000#32))
    (Host.reduce FloatOps.maximumf s (constant S_ .f32 0xFF800000#32) reducesTo_S2x16x8192x8192_S2x16x8192_d3 h_S_)

/-- The exponentials. -/
def exps (s : FVec Ideal S2x16x8192x8192 .f32) : FVec Ideal S2x16x8192x8192 .f32 :=
  Host.exp (subf s (broadcastInDim S2x16x8192x8192 ![0, 1, 2, 3] bcast_S2x16x8192x1_S2x16x8192x8192_0_1_2_3
    (broadcastInDim S2x16x8192x1 ![0, 1, 2] bcast_S2x16x8192_S2x16x8192x1_0_1_2 (largest s))))

/-- The probabilities. -/
def probs (e : FVec Ideal S2x16x8192x8192 .f32) : FVec Ideal S2x16x8192x8192 .bf16 :=
  truncf .bf16 (Host.divf e (broadcastInDim S2x16x8192x8192 ![0, 1, 2, 3] bcast_S2x16x8192x1_S2x16x8192x8192_0_1_2_3
    (broadcastInDim S2x16x8192x1 ![0, 1, 2] bcast_S2x16x8192_S2x16x8192x1_0_1_2
      (Host.reduceAdd e (constant S_ .f32 0x00000000#32) reducesTo_S2x16x8192x8192_S2x16x8192_d3 h_S_)))) bitsLt_bf16_f32

/-- The values' means. -/
def means (v : FVec Ideal S2x16x80x8192 .bf16) (p : FVec Ideal S2x16x8192x8192 .bf16) : FVec Ideal S2x8192x1024 .bf16 :=
  shapeCast S2x8192x1024 (truncf .bf16 (transpose S2x8192x16x64 [0, 3, 1, 2]
    (Host.dotGeneral dot_S2x16x64x8192_S2x16x8192x8192_S2x16x64x8192_3_3_2_2_01_01 none
      (extractStridedSlice S2x16x64x8192 ![0, 0, 0, 0] v slices_S2x16x80x8192_S2x16x64x8192_0_0_0_0) p)
    transposes_S2x16x64x8192_S2x8192x16x64_0_3_1_2) bitsLt_bf16_f32) shapeCasts_S2x8192x16x64_S2x8192x1024

/-- The reference's result. -/
def attention (q k : FVec Ideal S2x16x128x8192 .bf16) (v : FVec Ideal S2x16x80x8192 .bf16) : FVec Ideal S2x8192x1024 .bf16 :=
  means v (probs (exps (causal (scores q k))))

theorem result_eq (m : (ℓ : Loc nD τ sig) → Buf (Elt Ideal) ℓ) (c : Dev nD) :
    Value.res_main_v38 m c = attention (m ((c.tc : Thread nD τ).loc main_arg0)) (m ((c.tc : Thread nD τ).loc main_arg1)) (m ((c.tc : Thread nD τ).loc main_arg2)) := rfl

/-! ## At an index -/

theorem gate_apply (k : FVec Ideal S2x16x128x8192 .bf16) (b : Fin 2) (h : Fin 16) (j : Fin 8192) :
    gate k (ix3 b h j) = ∑ r : Fin 3, (k (ix4 b h ⟨64 + r.val, by omega⟩ j) : EReal) := by
  pointwise [gate]

theorem scores_apply (q k : FVec Ideal S2x16x128x8192 .bf16) (b : Fin 2) (h : Fin 16) (i j : Fin 8192) :
    scores q k (ix4 b h i j) = (((∑ r : Fin 64, (q (ix4 b h ⟨r.val, by omega⟩ i) : EReal) * k (ix4 b h ⟨r.val, by omega⟩ j)) + gate k (ix3 b h i))
      - gate k (ix3 b h j)) * Ideal.log (Ideal.ofBits .f32 0x40000000#32) := by
  pointwise [scores]

theorem negInf : Ideal.ofBits FTy.f32 0xFF800000#32 = (⊥ : EReal) := by
  simp [Ideal.ofBits, Ideal.ieee]

theorem two_bits : Ideal.ofBits FTy.f32 0x40000000#32 = ((2 : ℝ) : EReal) := by
  simp [Ideal.ofBits, Ideal.ieee]
  rw [← EReal.coe_mul]
  norm_num

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem causal_apply (s : FVec Ideal S2x16x8192x8192 .f32) (b : Fin 2) (h : Fin 16) (i j : Fin 8192) :
    causal s (ix4 b h i j) = if j.val ≤ i.val then (s (ix4 b h i j) : EReal) else ⊥ := by
  pointwise [causal]
  have e : (BitVec.ofNat 32 j.val).sle (BitVec.ofNat 32 i.val) = decide (j.val ≤ i.val) := by
    have hj : (BitVec.ofNat 32 j.val).toNat = j.val := by rw [BitVec.toNat_ofNat]; omega
    have hi : (BitVec.ofNat 32 i.val).toNat = i.val := by rw [BitVec.toNat_ofNat]; omega
    rw [BitVec.sle_eq_decide, BitVec.toInt_eq_toNat_of_lt (by omega), BitVec.toInt_eq_toNat_of_lt (by omega), hj, hi]
    congr 1
    exact propext (by omega)
  show Scalar.select (BitVec.ofBool ((BitVec.ofNat 32 j.val).sle (BitVec.ofNat 32 i.val))) (s (ix4 b h i j)) (Ideal.ofBits .f32 0xFF800000#32) = _
  rw [e, negInf]
  by_cases hl : j.val ≤ i.val
  · rw [if_pos hl, decide_eq_true hl]; rfl
  · rw [if_neg hl, decide_eq_false hl]; rfl

/-- A maximum of entries below ⊤, one of them above ⊥, is real. -/
theorem reduce_real {s t u : Shape} {axes : List (Fin s.rank)} (h : s.ReducesTo axes t) (x : FVec Ideal s .f32) (init : FVec Ideal u .f32)
    (hu : 0 < u.numel) (j : t.Idx) (hi : init (Shape.Idx.first hu) = (⊥ : EReal)) (ht : ∀ i, (x i : EReal) ≠ ⊤)
    (i : s.Idx) (hd : h.drop i = j) (hb : (x i : EReal) ≠ ⊥) :
    ∃ T : ℝ, Host.reduce FloatOps.maximumf x init h hu j = ((T : ℝ) : EReal) := by
  rw [Host.reduce_eq_fold, hi]
  exact sup_real (Finset.univ.filter fun i => h.drop i = j) x (fun k _ => ht k) i (Finset.mem_filter.2 ⟨Finset.mem_univ _, hd⟩) hb

/-- Dropping the last of four axes keeps the first three coordinates. -/
theorem drop_last {n0 n1 n2 n3 : ℕ} (h : (⟨4, ![n0, n1, n2, n3]⟩ : Shape).ReducesTo [3] (⟨3, ![n0, n1, n2]⟩ : Shape))
    (b : Fin n0) (c : Fin n1) (d : Fin n2) (e : Fin n3) : h.drop (ix4 b c d e) = ix3 b c d :=
  (h.fiber_r4_a3 (ix3 b c d) (ix4 b c d e)).2 ⟨e, rfl⟩

/-- Every query's largest score is real where no score is ⊤ and its own is not ⊥. -/
theorem largest_real (s : FVec Ideal S2x16x8192x8192 .f32) (ht : ∀ i, (s i : EReal) ≠ ⊤) (b : Fin 2) (h : Fin 16) (i j : Fin 8192)
    (hb : (s (ix4 b h i j) : EReal) ≠ ⊥) : ∃ T : ℝ, largest s (ix3 b h i) = ((T : ℝ) : EReal) := by
  obtain ⟨T, hT⟩ := reduce_real reducesTo_S2x16x8192x8192_S2x16x8192_d3 s (constant S_ .f32 0xFF800000#32) h_S_ (ix3 b h i) negInf ht
    (ix4 b h i j) (drop_last _ b h i j) hb
  refine ⟨T, ?_⟩
  unfold largest
  rw [maximumf_apply, hT, Ideal.maximumf_eq_max]
  exact (congrArg (fun z : EReal => max z ((T : ℝ) : EReal)) negInf).trans (max_eq_right bot_le)

theorem exps_apply (s : FVec Ideal S2x16x8192x8192 .f32) (b : Fin 2) (h : Fin 16) (i j : Fin 8192) :
    exps s (ix4 b h i j) = Ideal.exp ((s (ix4 b h i j) : EReal) - largest s (ix3 b h i)) := by
  pointwise [exps]

theorem probs_apply (e : FVec Ideal S2x16x8192x8192 .f32) (b : Fin 2) (h : Fin 16) (i j : Fin 8192) :
    probs e (ix4 b h i j) = Ideal.div (e (ix4 b h i j)) (∑ k : Fin 8192, (e (ix4 b h i k) : EReal)) := by
  pointwise [probs]

theorem means_apply (v : FVec Ideal S2x16x80x8192 .bf16) (p : FVec Ideal S2x16x8192x8192 .bf16) (b : Fin 2) (i : Fin 8192) (o : Fin 1024) :
    means v p (ix3 b i o) = ∑ j : Fin 8192, (v (ix4 b ⟨o.val / 64, by omega⟩ ⟨o.val % 64, by omega⟩ j) : EReal) * p (ix4 b ⟨o.val / 64, by omega⟩ i j) := by
  pointwise [means]

/-! ## On real arrays -/

/-- A score, where the products and the gates are real. -/
theorem score_real (q k : FVec Ideal S2x16x128x8192 .bf16) (b : Fin 2) (h : Fin 16) (i j : Fin 8192) (p a g : ℝ)
    (hp : ∑ r : Fin 64, (q (ix4 b h ⟨r.val, by omega⟩ i) : EReal) * k (ix4 b h ⟨r.val, by omega⟩ j) = ((p : ℝ) : EReal))
    (ha : gate k (ix3 b h i) = ((a : ℝ) : EReal)) (hg : gate k (ix3 b h j) = ((g : ℝ) : EReal)) :
    scores q k (ix4 b h i j) = ((((p - g) + a) * Real.log 2 : ℝ) : EReal) := by
  rw [scores_apply, hp, ha, hg, two_bits, log_two, ← EReal.coe_add, ← EReal.coe_sub, ← EReal.coe_mul]
  congr 1
  ring

/-- The reference at an index: the softmax in base two of the scores `S`, at and before the query, weighting the values `W`. -/
theorem attention_real (q k : FVec Ideal S2x16x128x8192 .bf16) (v : FVec Ideal S2x16x80x8192 .bf16)
    (A : Fin 2 → Fin 16 → Fin 8192 → ℝ) (S : Fin 2 → Fin 16 → ℕ → ℕ → ℝ) (W : Fin 2 → Fin 16 → Fin 80 → ℕ → ℝ)
    (hs : ∀ b h (i j : Fin 8192), scores q k (ix4 b h i j) = (((S b h i.val j.val + A b h i) * Real.log 2 : ℝ) : EReal))
    (hv : ∀ b h d (j : Fin 8192), (v (ix4 b h d j) : EReal) = ((W b h d j.val : ℝ) : EReal))
    (b : Fin 2) (i : Fin 8192) (o : Fin 1024) :
    attention q k v (ix3 b i o)
      = ((attend (S b ⟨o.val / 64, by omega⟩ i.val) (W b ⟨o.val / 64, by omega⟩ ⟨o.val % 64, by omega⟩) i.val : ℝ) : EReal) := by
  have hc : ∀ (b : Fin 2) (h : Fin 16) (i j : Fin 8192), causal (scores q k) (ix4 b h i j)
      = if j.val ≤ i.val then (((S b h i.val j.val + A b h i) * Real.log 2 : ℝ) : EReal) else ⊥ := by
    intro b h i j
    rw [causal_apply, hs]
  have ht : ∀ x, (causal (scores q k) x : EReal) ≠ ⊤ := by
    intro x
    rw [eq_ix4 x]
    refine (hc _ _ _ _).trans_ne ?_
    split
    · exact EReal.coe_ne_top _
    · exact bot_ne_top
  obtain ⟨T, hT⟩ := largest_real (causal (scores q k)) ht b ⟨o.val / 64, by omega⟩ i i (by
    refine (hc _ _ _ _).trans_ne ?_
    rw [if_pos (le_refl _)]
    exact EReal.coe_ne_bot _)
  refine (means_apply v _ b i o).trans ?_
  have he : ∀ j : Fin 8192, exps (causal (scores q k)) (ix4 b ⟨o.val / 64, by omega⟩ i j)
      = Ideal.exp ((causal (scores q k) (ix4 b ⟨o.val / 64, by omega⟩ i j) : EReal) - ((T : ℝ) : EReal)) := by
    intro j
    rw [exps_apply, hT]
  have hp : ∀ j : Fin 8192, probs (exps (causal (scores q k))) (ix4 b ⟨o.val / 64, by omega⟩ i j)
      = Ideal.div (Ideal.exp ((causal (scores q k) (ix4 b ⟨o.val / 64, by omega⟩ i j) : EReal) - ((T : ℝ) : EReal)))
        (∑ l : Fin 8192, Ideal.exp ((causal (scores q k) (ix4 b ⟨o.val / 64, by omega⟩ i l) : EReal) - ((T : ℝ) : EReal))) := by
    intro j
    rw [probs_apply, he]
    exact congrArg (Ideal.div _) (Finset.sum_congr rfl fun l _ => he l)
  refine (Finset.sum_congr rfl fun j _ => congrArg (fun z : EReal => (v _ : EReal) * z) (hp j)).trans ?_
  exact soft_sum (S b ⟨o.val / 64, by omega⟩ i.val) (W b ⟨o.val / 64, by omega⟩ ⟨o.val % 64, by omega⟩) i.val 8192 i.isLt (A b ⟨o.val / 64, by omega⟩ i) T
    (fun j => causal (scores q k) (ix4 b ⟨o.val / 64, by omega⟩ i j)) (fun j => v (ix4 b ⟨o.val / 64, by omega⟩ ⟨o.val % 64, by omega⟩ j))
    (fun j => hc _ _ _ _) (fun j => hv _ _ _ _)

end Cert.ReferenceIdeal.Attention

end
-- ==== Proof.Inputs.lean ====
/- What the precondition says of the slabs, and the real scores and values that it gives. -/
module

public import proofs.«01_k».proof.Proof.Gen.Pre_slabs
public import proofs.«01_k».proof.Proof.Reference
public import Idealize.ShloMosaic.Lib.ReduceAll

@[expose] public section

set_option maxRecDepth 16384
set_option Elab.async false

noncomputable section

namespace Cert.Inputs

open Cert.Softmax Cert.ReferenceIdeal.Attention
open Idealize.ShloMosaic Idealize.ShloMosaic.TcCoe
open Cert.Pre_slabs (S2x16x128x8192 S2x16x80x8192 S_ S2x16x3x8192 S2x16x61x8192 S2x16x1x8192 S2x16x8192)

instance : Subsingleton S_.Idx := ⟨fun a b => funext fun x => x.elim0⟩

/-! ## Comparisons -/

theorem ofBool_one {p : Prop} [Decidable p] (e : BitVec.ofBool (decide p) = 1#1) : p := by
  by_contra hp
  rw [decide_eq_false hp] at e
  exact absurd e (by decide)

theorem infinity : Ideal.ofBits FTy.f32 0x7F800000#32 = (⊤ : EReal) := by
  simp [Ideal.ofBits, Ideal.ieee]

theorem minus_one : Ideal.ofBits FTy.f32 0xBF800000#32 = ((-1 : ℝ) : EReal) := by
  simp [Ideal.ofBits, Ideal.ieee]
  rw [← EReal.coe_mul]
  norm_num

theorem zero_bits : Ideal.ofBits FTy.f32 0x00000000#32 = ((0 : ℝ) : EReal) := by
  simp [Ideal.ofBits, Ideal.ieee]

theorem one_bits : Ideal.ofBits FTy.f32 0x3F800000#32 = ((1 : ℝ) : EReal) := by
  simp [Ideal.ofBits, Ideal.ieee]
  rw [← EReal.coe_mul]
  norm_num

/-- An entry below infinity in absolute value is real. -/
theorem real_of_abs {x : EReal} (e : Ideal.cmp .olt (max x (-x)) (Ideal.ofBits FTy.f32 0x7F800000#32) = 1#1) : x ≠ ⊤ ∧ x ≠ ⊥ := by
  have h : max x (-x) < ⊤ := by
    rw [infinity] at e
    exact ofBool_one e
  constructor
  · rintro rfl
    simp at h
  · rintro rfl
    simp at h

theorem eq_of_cmp {x y : EReal} (e : Ideal.cmp .oeq x y = 1#1) : x = y := ofBool_one e

/-! ## The precondition -/

/-- What the precondition says, entry by entry. -/
structure Good (q k : FVec Ideal S2x16x128x8192 .bf16) (v : FVec Ideal S2x16x80x8192 .bf16) : Prop where
  queries : ∀ i, (q i : EReal) ≠ ⊤ ∧ (q i : EReal) ≠ ⊥
  keys : ∀ i, (k i : EReal) ≠ ⊤ ∧ (k i : EReal) ≠ ⊥
  values : ∀ i, (v i : EReal) ≠ ⊤ ∧ (v i : EReal) ≠ ⊥
  minus : ∀ b h (r : Fin 3) j, (q (ix4 b h ⟨64 + r.val, by omega⟩ j) : EReal) = ((-1 : ℝ) : EReal)
  rest : ∀ b h (r : Fin 61) j, (q (ix4 b h ⟨67 + r.val, by omega⟩ j) : EReal) = ((0 : ℝ) : EReal)
  ones : ∀ b h j, (v (ix4 b h 64 j) : EReal) = ((1 : ℝ) : EReal)

theorem minus_rows (q : FVec Ideal S2x16x128x8192 .bf16) (h : S2x16x128x8192.Slices ![0, 0, 64, 0] S2x16x3x8192) (b : Fin 2) (c : Fin 16) (r : Fin 3) (j : Fin 8192) :
    extractStridedSlice S2x16x3x8192 ![0, 0, 64, 0] q h (ix4 b c r j) = q (ix4 b c ⟨64 + r.val, by omega⟩ j) := by
  pointwise []

theorem rest_rows (q : FVec Ideal S2x16x128x8192 .bf16) (h : S2x16x128x8192.Slices ![0, 0, 67, 0] S2x16x61x8192) (b : Fin 2) (c : Fin 16) (r : Fin 61) (j : Fin 8192) :
    extractStridedSlice S2x16x61x8192 ![0, 0, 67, 0] q h (ix4 b c r j) = q (ix4 b c ⟨67 + r.val, by omega⟩ j) := by
  pointwise []

theorem ones_row (v : FVec Ideal S2x16x80x8192 .bf16) (h : S2x16x80x8192.Slices ![0, 0, 64, 0] S2x16x1x8192) (h' : S2x16x1x8192.ShapeCasts S2x16x8192)
    (b : Fin 2) (c : Fin 16) (j : Fin 8192) :
    shapeCast S2x16x8192 (extractStridedSlice S2x16x1x8192 ![0, 0, 64, 0] v h) h' (ix3 b c j) = v (ix4 b c 64 j) := by
  pointwise []

theorem good (q k : FVec Ideal S2x16x128x8192 .bf16) (v : FVec Ideal S2x16x80x8192 .bf16)
    (e : Cert.Pre_slabs.fn (F := Ideal) q k v = fun _ => 1#1) : Good q k v := by
  have e0 := congrFun e (fun x => x.elim0)
  unfold Cert.Pre_slabs.fn Cert.Pre_slabs.fn_part1 at e0
  dsimp only at e0
  obtain ⟨e1, ho⟩ := IntOp.andi_eq_one.1 e0
  obtain ⟨e2, hr⟩ := IntOp.andi_eq_one.1 e1
  obtain ⟨e3, hm⟩ := IntOp.andi_eq_one.1 e2
  obtain ⟨e4, hv⟩ := IntOp.andi_eq_one.1 e3
  obtain ⟨hq, hk⟩ := IntOp.andi_eq_one.1 e4
  refine ⟨fun i => real_of_abs (Host.reduce_andi_all _ _ _ _ _ hq i), fun i => real_of_abs (Host.reduce_andi_all _ _ _ _ _ hk i),
    fun i => real_of_abs (Host.reduce_andi_all _ _ _ _ _ hv i), fun b h r j => ?_, fun b h r j => ?_, fun b h j => ?_⟩
  · exact (minus_rows q Cert.Pre_slabs.Gen.slices_S2x16x128x8192_S2x16x3x8192_0_0_64_0 b h r j).symm.trans
      ((eq_of_cmp (Host.reduce_andi_all _ _ _ _ _ hm (ix4 b h r j))).trans minus_one)
  · exact (rest_rows q Cert.Pre_slabs.Gen.slices_S2x16x128x8192_S2x16x61x8192_0_0_67_0 b h r j).symm.trans
      ((eq_of_cmp (Host.reduce_andi_all _ _ _ _ _ hr (ix4 b h r j))).trans zero_bits)
  · exact (ones_row v Cert.Pre_slabs.Gen.slices_S2x16x80x8192_S2x16x1x8192_0_0_64_0 Cert.Pre_slabs.Gen.shapeCasts_S2x16x1x8192_S2x16x8192 b h j).symm.trans
      ((eq_of_cmp (Host.reduce_andi_all _ _ _ _ _ ho (ix3 b h j))).trans one_bits)

/-! ## The real scores and values -/

/-- An entry of a slab of queries or keys. -/
def entry (x : FVec Ideal S2x16x128x8192 .bf16) (b : Fin 2) (h : Fin 16) (r : Fin 128) (j : Fin 8192) : ℝ := EReal.toReal (x (ix4 b h r j))

/-- The sum of three rows of a slab of keys. -/
def total (k : FVec Ideal S2x16x128x8192 .bf16) (b : Fin 2) (h : Fin 16) (j : Fin 8192) : ℝ :=
  ∑ r : Fin 3, entry k b h ⟨64 + r.val, by omega⟩ j

/-- The product of a query with a key. -/
def product (q k : FVec Ideal S2x16x128x8192 .bf16) (b : Fin 2) (h : Fin 16) (i j : Fin 8192) : ℝ :=
  ∑ r : Fin 64, entry q b h ⟨r.val, by omega⟩ i * entry k b h ⟨r.val, by omega⟩ j

/-- The score of a query and a key: their product less the key's cumulative log forget. -/
def scoreOf (q k : FVec Ideal S2x16x128x8192 .bf16) (b : Fin 2) (h : Fin 16) (i j : ℕ) : ℝ :=
  if hij : i < 8192 ∧ j < 8192 then product q k b h ⟨i, hij.1⟩ ⟨j, hij.2⟩ - total k b h ⟨j, hij.2⟩ else 0

/-- An entry of the slab of values, one outside it. -/
def valueOf (v : FVec Ideal S2x16x80x8192 .bf16) (b : Fin 2) (h : Fin 16) (d : Fin 80) (j : ℕ) : ℝ :=
  if hj : j < 8192 then EReal.toReal (v (ix4 b h d ⟨j, hj⟩)) else 1

variable {q k : FVec Ideal S2x16x128x8192 .bf16} {v : FVec Ideal S2x16x80x8192 .bf16} (G : Good q k v)

include G

theorem q_entry (b : Fin 2) (h : Fin 16) (r : Fin 128) (j : Fin 8192) : (q (ix4 b h r j) : EReal) = ((entry q b h r j : ℝ) : EReal) :=
  (EReal.coe_toReal (G.queries _).1 (G.queries _).2).symm

theorem k_entry (b : Fin 2) (h : Fin 16) (r : Fin 128) (j : Fin 8192) : (k (ix4 b h r j) : EReal) = ((entry k b h r j : ℝ) : EReal) :=
  (EReal.coe_toReal (G.keys _).1 (G.keys _).2).symm

theorem scoreOf_at (b : Fin 2) (h : Fin 16) (i j : Fin 8192) : scoreOf q k b h i.val j.val = product q k b h i j - total k b h j := by
  unfold scoreOf
  rw [dif_pos ⟨i.isLt, j.isLt⟩]

theorem value_real (b : Fin 2) (h : Fin 16) (d : Fin 80) (j : Fin 8192) : (v (ix4 b h d j) : EReal) = ((valueOf v b h d j.val : ℝ) : EReal) := by
  unfold valueOf
  rw [dif_pos j.isLt]
  exact (EReal.coe_toReal (G.values _).1 (G.values _).2).symm

theorem value_one (b : Fin 2) (h : Fin 16) (j : ℕ) : valueOf v b h 64 j = 1 := by
  unfold valueOf
  split
  · rename_i hj
    rw [G.ones b h ⟨j, hj⟩, EReal.toReal_coe]
  · rfl

theorem gate_real (b : Fin 2) (h : Fin 16) (j : Fin 8192) : gate k (ix3 b h j) = ((total k b h j : ℝ) : EReal) := by
  rw [gate_apply]
  unfold total
  rw [coe_sum]
  exact Finset.sum_congr rfl fun r _ => k_entry G b h _ j

theorem product_real (b : Fin 2) (h : Fin 16) (i j : Fin 8192) :
    ∑ r : Fin 64, (q (ix4 b h ⟨r.val, by omega⟩ i) : EReal) * k (ix4 b h ⟨r.val, by omega⟩ j) = ((product q k b h i j : ℝ) : EReal) := by
  unfold product
  rw [coe_sum]
  refine Finset.sum_congr rfl fun r _ => ?_
  rw [q_entry G, k_entry G, EReal.coe_mul]

/-- The reference's scores, in units of the natural logarithm. -/
theorem reference_score (b : Fin 2) (h : Fin 16) (i j : Fin 8192) :
    scores q k (ix4 b h i j) = (((scoreOf q k b h i.val j.val + total k b h i) * Real.log 2 : ℝ) : EReal) := by
  rw [scoreOf_at G]
  exact score_real q k b h i j _ _ _ (product_real G b h i j) (gate_real G b h i) (gate_real G b h j)

/-- The kernel's scores: its products over all 128 rows. -/
theorem kernel_score (b : Fin 2) (h : Fin 16) (i j : Fin 8192) :
    ∑ r : Fin 128, (k (ix4 b h r j) : EReal) * q (ix4 b h r i) = ((scoreOf q k b h i.val j.val : ℝ) : EReal) := by
  have hm : ∀ r : Fin 3, entry q b h ⟨64 + r.val, by omega⟩ i = -1 := fun r => by
    unfold entry
    rw [G.minus b h r i, EReal.toReal_coe]
  have hr : ∀ r : Fin 61, entry q b h ⟨67 + r.val, by omega⟩ i = 0 := fun r => by
    unfold entry
    rw [G.rest b h r i, EReal.toReal_coe]
  have hs : ∑ r : Fin 128, entry k b h r j * entry q b h r i = product q k b h i j - total k b h j := by
    have h1 : ∑ r : Fin 128, entry k b h r j * entry q b h r i
        = (∑ r : Fin 64, entry k b h ⟨r.val, by omega⟩ j * entry q b h ⟨r.val, by omega⟩ i)
          + ∑ r : Fin 64, entry k b h ⟨64 + r.val, by omega⟩ j * entry q b h ⟨64 + r.val, by omega⟩ i :=
      Fin.sum_univ_add (a := 64) (b := 64) fun r => entry k b h r j * entry q b h r i
    have h2 : ∑ r : Fin 64, entry k b h ⟨64 + r.val, by omega⟩ j * entry q b h ⟨64 + r.val, by omega⟩ i
        = (∑ r : Fin 3, entry k b h ⟨64 + r.val, by omega⟩ j * entry q b h ⟨64 + r.val, by omega⟩ i)
          + ∑ r : Fin 61, entry k b h ⟨64 + (3 + r.val), by omega⟩ j * entry q b h ⟨64 + (3 + r.val), by omega⟩ i :=
      Fin.sum_univ_add (a := 3) (b := 61) fun r : Fin 64 => entry k b h ⟨64 + r.val, by omega⟩ j * entry q b h ⟨64 + r.val, by omega⟩ i
    have h3 : ∑ r : Fin 61, entry k b h ⟨64 + (3 + r.val), by omega⟩ j * entry q b h ⟨64 + (3 + r.val), by omega⟩ i = 0 := by
      refine Finset.sum_eq_zero fun r _ => ?_
      have e : (⟨64 + (3 + r.val), by omega⟩ : Fin 128) = ⟨67 + r.val, by omega⟩ := Fin.ext (by show 64 + (3 + r.val) = 67 + r.val; omega)
      rw [e, hr, mul_zero]
    rw [h1, h2, h3, add_zero, sub_eq_add_neg]
    unfold product total
    rw [← Finset.sum_neg_distrib]
    congr 1
    · exact Finset.sum_congr rfl fun r _ => mul_comm _ _
    · exact Finset.sum_congr rfl fun r _ => by rw [hm]; ring
  rw [scoreOf_at G, ← hs, coe_sum]
  refine Finset.sum_congr rfl fun r _ => ?_
  rw [q_entry G, k_entry G, EReal.coe_mul]

end Cert.Inputs

end
-- ==== Proof.Ffn.Rows.lean ====
/- The feed-forward layers a row at a time: the root-mean-square norm, the layer norm, silu, the product of a row with a
   matrix, and the gated feed-forward with its residual. -/
module

public import Idealize.ShloMosaic.Lib.Pipeline.ValueKit
public import Idealize.ShloMosaic.Lib.Pointwise

@[expose] public section

noncomputable section

namespace Cert.Rows

open Idealize.ShloMosaic

/-- A row times a matrix. -/
def times {n k : ℕ} (x : Fin n → EReal) (w : Fin n → Fin k → EReal) (j : Fin k) : EReal := ∑ i, x i * w i j

/-- The mean of a row of 1024. -/
def mean (x : Fin 1024 → EReal) : EReal := Ideal.div (∑ i, x i) (Ideal.ofBits .f32 0x44800000#32)

/-- The root-mean-square norm, with the gain `g`. -/
def rms (g x : Fin 1024 → EReal) (l : Fin 1024) : EReal :=
  x l * Ideal.rsqrt (mean (fun i => x i * x i) + Ideal.ofBits .f32 0x358637BD#32) * g l

/-- The layer norm, with the gain `g` and the offset `b`. -/
def layer (g b x : Fin 1024 → EReal) (l : Fin 1024) : EReal :=
  (x l - mean x) * Ideal.rsqrt (mean (fun i => (x i - mean x) * (x i - mean x)) + Ideal.ofBits .f32 0x358637BD#32) * g l + b l

/-- silu: a number times its logistic. -/
def silu (z : EReal) : EReal :=
  z * Ideal.div (Ideal.ofBits .f32 0x3F800000#32) (Ideal.ofBits .f32 0x3F800000#32 + Ideal.exp (-z))

/-- The gated product of a normed row. -/
def gated (wg wu : Fin 1024 → Fin 2816 → EReal) (n : Fin 1024 → EReal) (j : Fin 2816) : EReal :=
  silu (times n wg j) * times n wu j

/-- The gated feed-forward of a row, added to the row. -/
def feed (g : Fin 1024 → EReal) (wg wu : Fin 1024 → Fin 2816 → EReal) (wd : Fin 2816 → Fin 1024 → EReal)
    (x : Fin 1024 → EReal) (l : Fin 1024) : EReal :=
  x l + times (gated wg wu (rms g x)) wd l

/-- Equal entries feed forward alike. -/
theorem feed_congr {g g' : Fin 1024 → EReal} {wg wg' wu wu' : Fin 1024 → Fin 2816 → EReal} {wd wd' : Fin 2816 → Fin 1024 → EReal} {x x' : Fin 1024 → EReal}
    (hg : ∀ l, g l = g' l) (hwg : ∀ k j, wg k j = wg' k j) (hwu : ∀ k j, wu k j = wu' k j) (hwd : ∀ j l, wd j l = wd' j l) (hx : ∀ l, x l = x' l)
    (l : Fin 1024) : feed g wg wu wd x l = feed g' wg' wu' wd' x' l := by
  rw [funext hg, funext fun k => funext (hwg k), funext fun k => funext (hwu k), funext fun j => funext (hwd j), funext hx]

/-- Equal entries have equal norms. -/
theorem rms_congr {g g' x x' : Fin 1024 → EReal} (hg : ∀ l, g l = g' l) (hx : ∀ l, x l = x' l) (l : Fin 1024) : rms g x l = rms g' x' l := by
  rw [funext hg, funext hx]

/-- Equal entries have equal layer norms. -/
theorem layer_congr {g g' b b' x x' : Fin 1024 → EReal} (hg : ∀ l, g l = g' l) (hb : ∀ l, b l = b' l) (hx : ∀ l, x l = x' l) (l : Fin 1024) :
    layer g b x l = layer g' b' x' l := by
  rw [funext hg, funext hb, funext hx]

/-- Equal entries have equal products. -/
theorem times_congr {n k : ℕ} {x x' : Fin n → EReal} {w w' : Fin n → Fin k → EReal} (hx : ∀ i, x i = x' i) (hw : ∀ i j, w i j = w' i j) (j : Fin k) :
    times x w j = times x' w' j := by
  rw [funext hx, funext fun i => funext (hw i)]

/-- The first layer's result: the residual `h` with silu of the layer norm of the convolution's output `z`, projected by `w`, `b`, and fed forward. -/
def first (h z : FVec Ideal ⟨2, ![16384, 1024]⟩ .f32) (lg lb : FVec Ideal ⟨2, ![1, 1024]⟩ .f32) (w : FVec Ideal ⟨3, ![1, 1024, 1024]⟩ .f32)
    (b : FVec Ideal ⟨2, ![1, 1024]⟩ .f32) (g : FVec Ideal ⟨2, ![2, 1024]⟩ .f32) (wu : FVec Ideal ⟨3, ![2, 1024, 5632]⟩ .f32)
    (wd : FVec Ideal ⟨3, ![2, 2816, 1024]⟩ .f32) (r : Fin 16384) (l : Fin 1024) : EReal :=
  feed (fun l => g (ix2 (0 : Fin 2) l)) (fun k j => wu (ix3 (0 : Fin 2) k ⟨j.val, by omega⟩))
    (fun k j => wu (ix3 (0 : Fin 2) k ⟨2816 + j.val, by omega⟩)) (fun j l => wd (ix3 (0 : Fin 2) j l))
    (fun l => (h (ix2 r l) : EReal) + (times (fun k : Fin 1024 => silu (layer (fun l => lg (ix2 (0 : Fin 1) l)) (fun l => lb (ix2 (0 : Fin 1) l)) (fun l => z (ix2 r l)) k))
      (fun k l => (w (ix3 (0 : Fin 1) k l) : EReal)) l + b (ix2 (0 : Fin 1) l))) l

/-- The second layer's result: the residual `h` with the attention's output `o` projected by `w`, fed forward, normed. -/
def second (h : FVec Ideal ⟨2, ![16384, 1024]⟩ .f32) (o : FVec Ideal ⟨2, ![16384, 1024]⟩ .bf16) (w : FVec Ideal ⟨3, ![1, 1024, 1024]⟩ .f32)
    (g : FVec Ideal ⟨2, ![2, 1024]⟩ .f32) (wu : FVec Ideal ⟨3, ![2, 1024, 5632]⟩ .f32) (wd : FVec Ideal ⟨3, ![2, 2816, 1024]⟩ .f32)
    (f : FVec Ideal ⟨1, ![1024]⟩ .f32) (r : Fin 16384) (l : Fin 1024) : EReal :=
  rms (fun l => f (ix1 l)) (feed (fun l => g (ix2 (1 : Fin 2) l)) (fun k j => wu (ix3 (1 : Fin 2) k ⟨j.val, by omega⟩))
    (fun k j => wu (ix3 (1 : Fin 2) k ⟨2816 + j.val, by omega⟩)) (fun j l => wd (ix3 (1 : Fin 2) j l))
    (fun l => (h (ix2 r l) : EReal) + times (fun k : Fin 1024 => (o (ix2 r k) : EReal)) (fun k l => (w (ix3 (0 : Fin 1) k l) : EReal)) l)) l

/-- Of the sampled steps, the second layer's result: the residual `h` with the attention's output `o` projected by `w`, fed forward, normed. -/
def sampled (h : FVec Ideal ⟨2, ![128, 1024]⟩ .f32) (o : FVec Ideal ⟨2, ![128, 1024]⟩ .f32) (w : FVec Ideal ⟨3, ![1, 1024, 1024]⟩ .f32)
    (g : FVec Ideal ⟨2, ![2, 1024]⟩ .f32) (wu : FVec Ideal ⟨3, ![2, 1024, 5632]⟩ .f32) (wd : FVec Ideal ⟨3, ![2, 2816, 1024]⟩ .f32)
    (f : FVec Ideal ⟨1, ![1024]⟩ .f32) (r : Fin 128) (l : Fin 1024) : EReal :=
  rms (fun l => f (ix1 l)) (feed (fun l => g (ix2 (1 : Fin 2) l)) (fun k j => wu (ix3 (1 : Fin 2) k ⟨j.val, by omega⟩))
    (fun k j => wu (ix3 (1 : Fin 2) k ⟨2816 + j.val, by omega⟩)) (fun j l => wd (ix3 (1 : Fin 2) j l))
    (fun l => (h (ix2 r l) : EReal) + times (fun k : Fin 1024 => (o (ix2 r k) : EReal)) (fun k l => (w (ix3 (0 : Fin 1) k l) : EReal)) l)) l

end Cert.Rows
-- ==== Proof.Ffn.Blocks1.lean ====
/- The blocks of the second feed-forward layer's arguments that a grid point sees: 512 rows of the arrays of rows, the whole of
   every weight. -/
module

public import proofs.«01_k».proof.Proof.Gen.Ffn1Ideal.Value
public import proofs.«01_k».proof.Proof.Ffn.Rows

@[expose] public section

set_option maxRecDepth 16384
set_option Elab.async false

noncomputable section

namespace Cert.Ffn1Ideal.Rows

open Cert.Ffn1Ideal Cert.Ffn1Ideal.Gen Cert.Rows
open Idealize.ShloMosaic Idealize.ShloMosaic.TcCoe
open Idealize.ShloMosaic.Pipeline (Dat)

/-! ## The blocks -/

variable (m : (ℓ : Loc nD τ sig) → Buf (Elt Ideal) ℓ)

/-- Every window's block, at every grid point. -/
theorem index_eq : ∀ t : Fin cfg0.N, win0_0.index t = ![t.val, 0] ∧ win0_1.index t = ![t.val, 0] ∧ win0_2.index t = ![0, 0]
    ∧ win0_3.index t = ![0, 0] ∧ win0_4.index t = ![1, 0, 0] ∧ win0_5.index t = ![1, 0, 0] ∧ win0_6.index t = ![0, 0] ∧ win0_7.index t = ![t.val, 0] :=
  (by decide +kernel : ∀ t : Fin grid0.N, _)

theorem block0 (c : Dev nD) (t : Fin cfg0.N) (r : Fin 512) (l : Fin 1024) (h : t.val < 32) :
    iblk m c 0 t (ix2 r l) = m ((c : Thread nD τ).loc main_arg0) (ix2 ⟨t.val * 512 + r.val, by omega⟩ l) := by
  blk_ext [iblk, V, index_eq t]

theorem block1 (c : Dev nD) (t : Fin cfg0.N) (r : Fin 512) (l : Fin 1024) (h : t.val < 32) :
    iblk m c 1 t (ix2 r l) = m ((c : Thread nD τ).loc main_arg1) (ix2 ⟨t.val * 512 + r.val, by omega⟩ l) := by
  blk_ext [iblk, V, index_eq t]

theorem block2 (c : Dev nD) (t : Fin cfg0.N) (k l : Fin 1024) :
    iblk m c 2 t (ix2 k l) = m ((c : Thread nD τ).loc main_arg2) (ix3 (0 : Fin 1) k l) := by
  blk_simp [iblk, index_eq t]
  entry_read
  pointwise []
  blk_ext [index_eq t]

theorem block3 (c : Dev nD) (t : Fin cfg0.N) (l : Fin 1024) :
    iblk m c 3 t (ix2 (0 : Fin 1) l) = m ((c : Thread nD τ).loc main_arg3) (ix2 (1 : Fin 2) l) := by
  blk_simp [iblk, index_eq t]
  entry_read
  pointwise []
  blk_ext [index_eq t]

theorem block4 (c : Dev nD) (t : Fin cfg0.N) (k : Fin 1024) (j : Fin 5632) :
    iblk m c 4 t (ix3 (0 : Fin 1) k j) = m ((c : Thread nD τ).loc main_arg4) (ix3 (1 : Fin 2) k j) := by
  blk_simp [iblk, index_eq t]
  entry_read
  pointwise []
  blk_ext [index_eq t]

theorem block5 (c : Dev nD) (t : Fin cfg0.N) (j : Fin 2816) (l : Fin 1024) :
    iblk m c 5 t (ix3 (0 : Fin 1) j l) = m ((c : Thread nD τ).loc main_arg5) (ix3 (1 : Fin 2) j l) := by
  blk_simp [iblk, index_eq t]
  entry_read
  pointwise []
  blk_ext [index_eq t]

theorem block6 (c : Dev nD) (t : Fin cfg0.N) (l : Fin 1024) :
    iblk m c 6 t (ix2 (0 : Fin 1) l) = m ((c : Thread nD τ).loc main_arg6) (ix1 l) := by
  blk_simp [iblk, index_eq t]
  entry_read
  pointwise []
  blk_ext [index_eq t]

theorem gate_load (x : FVec Ideal S1x1024x5632 .bf16) (k : Fin 1024) (j : Fin 2816) :
    View.ld (Val := Elt Ideal) (e' := .bf16) x r0_3 (ix3 (0 : Fin 1) k j) = x (ix3 (0 : Fin 1) k ⟨j.val, by omega⟩) := by
  refine View.ld_unit_apply_of (Val := Elt Ideal) (S := S1x1024x5632) (e := .bf16) x ![0, 0, 0] S1x1024x2816.size inb_S1x1024x5632_S1x1024x2816_0_0_0 (ix3 (0 : Fin 1) k j) _ fun a => ?_
  fin_cases a
  · rfl
  · exact (Nat.zero_add k.val).symm
  · exact (Nat.zero_add j.val).symm

theorem up_load (x : FVec Ideal S1x1024x5632 .bf16) (k : Fin 1024) (j : Fin 2816) :
    View.ld (Val := Elt Ideal) (e' := .bf16) x r0_4 (ix3 (0 : Fin 1) k j) = x (ix3 (0 : Fin 1) k ⟨2816 + j.val, by omega⟩) := by
  refine View.ld_unit_apply_of (Val := Elt Ideal) (S := S1x1024x5632) (e := .bf16) x ![0, 0, 2816] S1x1024x2816.size inb_S1x1024x5632_S1x1024x2816_0_0_2816 (ix3 (0 : Fin 1) k j) _ fun a => ?_
  fin_cases a
  · rfl
  · exact (Nat.zero_add k.val).symm
  · rfl

/-- Where an output block's entry lies. -/
theorem place (t : Fin cfg0.N) (r : Fin 512) (l : Fin 1024) (h : t.val < 32) :
    (((cfg0.win 7).blk t).view.emb (ix2 r l) : S16384x1024.Idx) = ix2 ⟨t.val * 512 + r.val, by omega⟩ l := by
  blk_ext [index_eq t]

end Cert.Ffn1Ideal.Rows
-- ==== Proof.Ffn.Kernel1.lean ====
/- What the kernel of the second feed-forward layer computes: every row of its result from that row of its arguments. -/
module

public import proofs.«01_k».proof.Proof.Gen.Ffn1Ideal.Value
public import proofs.«01_k».proof.Proof.Ffn.Blocks1

@[expose] public section

set_option maxRecDepth 16384
set_option Elab.async false

noncomputable section

namespace Cert.Ffn1Ideal.Rows

open Cert.Ffn1Ideal Cert.Ffn1Ideal.Gen Cert.Rows
open Idealize.ShloMosaic Idealize.ShloMosaic.TcCoe
open Idealize.ShloMosaic.Pipeline (Dat)

/-! ## The body on a block of rows -/

/-- The residual with the attention's output projected. -/
theorem projected_apply (o : FVec Ideal S512x1024 .bf16) (h : FVec Ideal S512x1024 .f32) (w : FVec Ideal S1024x1024 .bf16) (r : Fin 512) (l : Fin 1024) :
    k0_pay2 o h w (ix2 r l) = (h (ix2 r l) : EReal) + times (fun k : Fin 1024 => (o (ix2 r k) : EReal)) (fun k l => (w (ix2 k l) : EReal)) l := by
  unfold times
  pointwise [k0_pay2]

/-- The gated products of the normed rows. -/
theorem gated_apply (o : FVec Ideal S512x1024 .bf16) (h : FVec Ideal S512x1024 .f32) (w : FVec Ideal S1024x1024 .bf16) (g : FVec Ideal S1x1024 .f32)
    (wg wu : FVec Ideal S1x1024x2816 .bf16) (r : Fin 512) (j : Fin 2816) :
    k0_pay3 (F := Ideal) o h w g wg wu (ix2 r j) = gated (fun k j => wg (ix3 (0 : Fin 1) k j)) (fun k j => wu (ix3 (0 : Fin 1) k j))
      (rms (fun l => g (ix2 (0 : Fin 1) l)) (fun l => k0_pay2 (F := Ideal) o h w (ix2 r l))) j := by
  unfold gated silu times rms mean
  unfold k0_pay3
  generalize k0_pay2 (F := Ideal) o h w = x
  pointwise []
  rw [zero_sub]

/-- The last norm of the residual with the feed-forward's result. -/
theorem last_apply (x : FVec Ideal S512x1024 .f32) (p : FVec Ideal S512x2816 .f32) (w : FVec Ideal S1x2816x1024 .bf16) (g : FVec Ideal S1x1024 .f32)
    (r : Fin 512) (l : Fin 1024) :
    k0_pay1 x p w g (ix2 r l) = rms (fun l => g (ix2 (0 : Fin 1) l))
      (fun l => (x (ix2 r l) : EReal) + times (fun j : Fin 2816 => (p (ix2 r j) : EReal)) (fun j l => (w (ix3 (0 : Fin 1) j l) : EReal)) l) l := by
  unfold times rms mean
  pointwise [k0_pay1]

/-- The whole body. -/
theorem body_apply (o : FVec Ideal S512x1024 .bf16) (h : FVec Ideal S512x1024 .f32) (w : FVec Ideal S1024x1024 .bf16) (g : FVec Ideal S1x1024 .f32)
    (wg wu : FVec Ideal S1x1024x2816 .bf16) (wd : FVec Ideal S1x2816x1024 .bf16) (f : FVec Ideal S1x1024 .f32) (r : Fin 512) (l : Fin 1024) :
    k0_pay1 (F := Ideal) (k0_pay2 (F := Ideal) o h w) (k0_pay3 (F := Ideal) o h w g wg wu) wd f (ix2 r l)
      = rms (fun l => f (ix2 (0 : Fin 1) l)) (feed (fun l => g (ix2 (0 : Fin 1) l)) (fun k j => wg (ix3 (0 : Fin 1) k j)) (fun k j => wu (ix3 (0 : Fin 1) k j))
        (fun j l => wd (ix3 (0 : Fin 1) j l))
        (fun l => (h (ix2 r l) : EReal) + times (fun k : Fin 1024 => (o (ix2 r k) : EReal)) (fun k l => (w (ix2 k l) : EReal)) l)) l := by
  have e : ∀ l, k0_pay2 (F := Ideal) o h w (ix2 r l) = (h (ix2 r l) : EReal) + times (fun k : Fin 1024 => (o (ix2 r k) : EReal)) (fun k l => (w (ix2 k l) : EReal)) l :=
    fun l => projected_apply o h w r l
  refine (last_apply _ _ _ _ r l).trans (rms_congr (fun _ => rfl) (fun l => ?_) l)
  unfold feed
  refine congrArg₂ (fun a b : EReal => a + b) (e l) (times_congr (fun j => ?_) (fun _ _ => rfl) l)
  exact (gated_apply o h w g wg wu r j).trans (congrArg (fun x => gated _ _ (rms _ x) j) (funext e))

/-! ## The array -/

variable (m : (ℓ : Loc nD τ sig) → Buf (Elt Ideal) ℓ)

/-- Every row of the result from that row of the arguments. -/
def rows (c : Dev nD) : FVec Ideal S16384x1024 .f32 := fun i => second (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1)

theorem rows_apply (c : Dev nD) (r : Fin 16384) (l : Fin 1024) : rows m c (ix2 r l) = second (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) r l := rfl

/-- A block's entry. -/
theorem entry (c : Dev nD) (t : Fin cfg0.N) (r : Fin 512) (l : Fin 1024) (ht : t.val < 32) :
    k0_pay1 (F := Ideal) (k0_pay2 (F := Ideal) (iblk m c 1 t) (iblk m c 0 t) (iblk m c 2 t))
      (k0_pay3 (F := Ideal) (iblk m c 1 t) (iblk m c 0 t) (iblk m c 2 t) (iblk m c 3 t) (View.ld (iblk m c 4 t) r0_3) (View.ld (iblk m c 4 t) r0_4))
      (iblk m c 5 t) (iblk m c 6 t) (ix2 r l)
      = rows m c (ix2 ⟨t.val * 512 + r.val, by omega⟩ l) := by
  refine (body_apply _ _ _ _ _ _ _ _ r l).trans ?_
  rw [rows_apply]
  unfold second
  exact rms_congr (block6 m c t) (feed_congr (block3 m c t) (fun k j => (gate_load _ k j).trans (block4 m c t k _)) (fun k j => (up_load _ k j).trans (block4 m c t k _))
    (block5 m c t) (fun l => congrArg₂ (fun a b : EReal => a + b) (block0 m c t r l ht) (times_congr (fun k => block1 m c t r k ht) (block2 m c t) l))) l

/-- The array after the run. -/
theorem final (c : Dev nD) : (dats m 0 c).arrAt 7 cfg0.N = rows m c := by
  refine (dats m 0 c).arrAt_eq_of_covers 7 _ (by decide +kernel) fun t _ y => ?_
  blk_simp
  rw [after0_7]
  frame_out
  obtain ⟨r, l, rfl⟩ : ∃ (r : Fin 512) (l : Fin 1024), y = ix2 r l := ⟨y 0, y 1, eq_ix2 y⟩
  exact (entry m c t r l t.isLt).trans (congrArg (rows m c) (place t r l t.isLt)).symm

end Cert.Ffn1Ideal.Rows
-- ==== Proof.Ffn.Reference1.lean ====
/- What the reference of the second feed-forward layer computes: every row of its result from that row of its arguments. -/
module

public import proofs.«01_k».proof.Proof.Gen.RefFfn1Ideal
public import proofs.«01_k».proof.Proof.Gen.RefFfn1Ideal.Run
public import proofs.«01_k».proof.Proof.Ffn.Rows

@[expose] public section

set_option maxRecDepth 16384
set_option Elab.async false

noncomputable section

namespace Cert.RefFfn1Ideal.Rows

open Cert.RefFfn1Ideal Cert.RefFfn1Ideal.Gen Cert.Rows
open Idealize.ShloMosaic Idealize.ShloMosaic.TcCoe

/-! ## The program's values -/

/-- The residual with the attention's output projected. -/
def projected (h : FVec Ideal S16384x1024 .f32) (o : FVec Ideal S16384x1024 .bf16) (w : FVec Ideal S1x1024x1024 .f32) : FVec Ideal S16384x1024 .f32 :=
  addf h (Host.dotGeneral dot_S16384x1024_S1024x1024_S16384x1024_1_0_0_1_n_n none (extf .f32 o bitsLt_bf16_f32)
    (shapeCast _ w shapeCasts_S1x1024x1024_S1024x1024))

/-- The root-mean-square norm of every row. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
      (Host.divf (broadcastInDim S16384x1 ![0] bcast_S16384_S16384x1_0 (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The second layer's gains. -/
def gains (g : FVec Ideal S2x1024 .f32) : FVec Ideal S1024 .f32 :=
  shapeCast _ (extractStridedSlice S1x1024 ![1, 0] g slices_S2x1024_S1x1024_1_0) shapeCasts_S1x1024_S1024

/-- The normed rows times the gate's and the other factor's weights. -/
def widened (n : FVec Ideal S16384x1024 .f32) (w : FVec Ideal S2x1024x5632 .f32) : FVec Ideal S16384x5632 .f32 :=
  Host.dotGeneral dot_S16384x1024_S1024x5632_S16384x5632_1_0_0_1_n_n none n
    (shapeCast _ (extractStridedSlice S1x1024x5632 ![1, 0, 0] w slices_S2x1024x5632_S1x1024x5632_1_0_0) shapeCasts_S1x1024x5632_S1024x5632)

/-- silu of the gate times the other factor. -/
def product (y : FVec Ideal S16384x5632 .f32) : FVec Ideal S16384x2816 .f32 :=
  mulf (mulf (extractStridedSlice S16384x2816 ![0, 0] y slices_S16384x5632_S16384x2816_0_0)
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (extractStridedSlice S16384x2816 ![0, 0] y slices_S16384x5632_S16384x2816_0_0))))))
    (extractStridedSlice S16384x2816 ![0, 2816] y slices_S16384x5632_S16384x2816_0_2816)

/-- The residual with the feed-forward's result. -/
def fed (x : FVec Ideal S16384x1024 .f32) (p : FVec Ideal S16384x2816 .f32) (w : FVec Ideal S2x2816x1024 .f32) : FVec Ideal S16384x1024 .f32 :=
  addf x (Host.dotGeneral dot_S16384x2816_S2816x1024_S16384x1024_1_0_0_1_n_n none p
    (shapeCast _ (extractStridedSlice S1x2816x1024 ![1, 0, 0] w slices_S2x2816x1024_S1x2816x1024_1_0_0) shapeCasts_S1x2816x1024_S2816x1024))

/-- The layer on the rows `x`. -/
def feeding (x : FVec Ideal S16384x1024 .f32) (g : FVec Ideal S2x1024 .f32) (wu : FVec Ideal S2x1024x5632 .f32) (wd : FVec Ideal S2x2816x1024 .f32) :
    FVec Ideal S16384x1024 .f32 :=
  fed x (product (widened (normed x (gains g)) wu)) wd

theorem result_eq (m : (ℓ : Loc nD τ sig) → Buf (Elt Ideal) ℓ) (c : Dev nD) :
    Value.res_out0 m c = normed (feeding (projected (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5))) (m ((c.tc : Thread nD τ).loc main_arg6)) := rfl

/-! ## A row of each -/

theorem projected_apply (h : FVec Ideal S16384x1024 .f32) (o : FVec Ideal S16384x1024 .bf16) (w : FVec Ideal S1x1024x1024 .f32) (r : Fin 16384) (l : Fin 1024) :
    projected h o w (ix2 r l) = (h (ix2 r l) : EReal) + times (fun k : Fin 1024 => (o (ix2 r k) : EReal)) (fun k l => (w (ix3 (0 : Fin 1) k l) : EReal)) l := by
  unfold times
  pointwise [projected]

theorem normed_apply (x : FVec Ideal S16384x1024 .f32) (g : FVec Ideal S1024 .f32) (r : Fin 16384) (l : Fin 1024) :
    normed x g (ix2 r l) = rms (fun l => g (ix1 l)) (fun l => x (ix2 r l)) l := by
  unfold rms mean
  pointwise [normed]

theorem gains_apply (g : FVec Ideal S2x1024 .f32) (l : Fin 1024) : gains g (ix1 l) = g (ix2 (1 : Fin 2) l) := by
  pointwise [gains]

theorem widened_apply (n : FVec Ideal S16384x1024 .f32) (w : FVec Ideal S2x1024x5632 .f32) (r : Fin 16384) (j : Fin 5632) :
    widened n w (ix2 r j) = times (fun k : Fin 1024 => (n (ix2 r k) : EReal)) (fun k j => (w (ix3 (1 : Fin 2) k j) : EReal)) j := by
  unfold times
  pointwise [widened]

theorem product_apply (y : FVec Ideal S16384x5632 .f32) (r : Fin 16384) (j : Fin 2816) :
    product y (ix2 r j) = silu (y (ix2 r ⟨j.val, by omega⟩)) * y (ix2 r ⟨2816 + j.val, by omega⟩) := by
  unfold silu
  pointwise [product]

theorem fed_apply (x : FVec Ideal S16384x1024 .f32) (p : FVec Ideal S16384x2816 .f32) (w : FVec Ideal S2x2816x1024 .f32) (r : Fin 16384) (l : Fin 1024) :
    fed x p w (ix2 r l) = (x (ix2 r l) : EReal) + times (fun j : Fin 2816 => (p (ix2 r j) : EReal)) (fun j l => (w (ix3 (1 : Fin 2) j l) : EReal)) l := by
  unfold times
  pointwise [fed]

/-- A row of the layer's result, from that row. -/
theorem feeding_apply (x : FVec Ideal S16384x1024 .f32) (g : FVec Ideal S2x1024 .f32) (wu : FVec Ideal S2x1024x5632 .f32) (wd : FVec Ideal S2x2816x1024 .f32)
    (r : Fin 16384) (l : Fin 1024) :
    feeding x g wu wd (ix2 r l) = feed (fun l => g (ix2 (1 : Fin 2) l)) (fun k j => wu (ix3 (1 : Fin 2) k ⟨j.val, by omega⟩))
      (fun k j => wu (ix3 (1 : Fin 2) k ⟨2816 + j.val, by omega⟩)) (fun j l => wd (ix3 (1 : Fin 2) j l)) (fun l => x (ix2 r l)) l := by
  refine (fed_apply x _ wd r l).trans (congrArg (fun s : EReal => (x (ix2 r l) : EReal) + s) (congrArg (fun f => times f _ l) (funext fun j => ?_)))
  rw [product_apply, widened_apply, widened_apply]
  simp only [normed_apply, gains_apply]
  rfl

/-- A row of the result, from that row of the arguments. -/
theorem result_apply (h : FVec Ideal S16384x1024 .f32) (o : FVec Ideal S16384x1024 .bf16) (w : FVec Ideal S1x1024x1024 .f32) (g : FVec Ideal S2x1024 .f32)
    (wu : FVec Ideal S2x1024x5632 .f32) (wd : FVec Ideal S2x2816x1024 .f32) (f : FVec Ideal S1024 .f32) (r : Fin 16384) (l : Fin 1024) :
    normed (feeding (projected h o w) g wu wd) f (ix2 r l) = second h o w g wu wd f r l := by
  rw [normed_apply]
  simp only [feeding_apply, projected_apply]
  rfl

end Cert.RefFfn1Ideal.Rows
-- ==== Proof.Ffn.Equal1.lean ====
/- The second feed-forward layer: the kernel's result is the reference's, at extended reals. -/
module

public import proofs.«01_k».proof.Defs
public import proofs.«01_k».proof.Proof.Gen.Ffn1.Frame
public import proofs.«01_k».proof.Proof.Gen.Ffn1Ideal.Frame
public import proofs.«01_k».proof.Proof.Gen.Ffn1Ideal.Value
public import proofs.«01_k».proof.Proof.Gen.RefFfn1Ideal.Run
public import proofs.«01_k».proof.Proof.Ffn.Kernel1
public import proofs.«01_k».proof.Proof.Ffn.Reference1
public import Idealize.ShloMosaic.Adequacy
public import Idealize.ShloMosaic.Init

@[expose] public section

set_option Elab.async false

noncomputable section

namespace Cert.Layer1

open Idealize.ShloMosaic Idealize.SL.Sem

/-- The reference of the second layer runs to its end, returns its arguments unchanged and leaves every semaphore at zero. -/
theorem reference_frame : Cert.quiescent_RefFfn1Ideal (hRefFfn1Ideal := Cert.RefFfn1Ideal.Gen.facts) :=
  fun m ρ _ => (θ_run Cert.RefFfn1Ideal.defs _ _).mono (fun r h => ⟨fun c => (h c).2, sem_eq_zero_of_no_sems (by decide) r.2⟩)
    (Cert.RefFfn1Ideal.Value.run m ρ)

/-- From equal arguments the reference's result is the array the kernel leaves. -/
theorem same (m : (ℓ : Loc Cert.Ffn1Ideal.nD Cert.Ffn1Ideal.τ Cert.Ffn1Ideal.sig) → Buf (Elt Ideal) ℓ) (c : Dev Cert.Ffn1Ideal.nD) :
    Cert.RefFfn1Ideal.Rows.normed (Cert.RefFfn1Ideal.Rows.feeding (Cert.RefFfn1Ideal.Rows.projected (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2))) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5))) (m ((c.tc : Thread Cert.Ffn1Ideal.nD Cert.Ffn1Ideal.τ).loc Cert.Ffn1Ideal.main_arg6)) = Cert.Ffn1Ideal.Rows.rows m c := by
  refine funext fun i => ?_
  obtain ⟨r, l, rfl⟩ : ∃ (r : Fin 16384) (l : Fin 1024), i = ix2 r l := ⟨i 0, i 1, eq_ix2 i⟩
  exact (Cert.RefFfn1Ideal.Rows.result_apply _ _ _ _ _ _ _ r l).trans (Cert.Ffn1Ideal.Rows.rows_apply m c r l).symm

/-- From equal arguments the kernel of the second layer and its reference end with equal results, at extended reals. -/
theorem equal : Cert.algebraic_Ffn1Ideal_RefFfn1Ideal (hFfn1Ideal := Cert.Ffn1Ideal.Gen.facts) (hRefFfn1Ideal := Cert.RefFfn1Ideal.Gen.facts) := by
  intro m ρ m' ρ' _ ha
  refine ⟨fun c => Cert.Ffn1Ideal.Rows.rows m c, ?_, ?_⟩
  · refine (θ_run Cert.Ffn1Ideal.defs _ _).mono (fun r h c => ?_) (Cert.Ffn1Ideal.Value.run_blocks m ρ)
    exact ⟨(h c).1.trans (Cert.Ffn1Ideal.Rows.final m c), (h c).2⟩
  · refine (θ_run Cert.RefFfn1Ideal.defs _ _).mono (fun r h c => ?_) (Cert.RefFfn1Ideal.Value.run m' ρ')
    refine ⟨((h c).1.trans (Cert.RefFfn1Ideal.Rows.result_eq m' c)).trans ?_, (h c).2⟩
    obtain ⟨h0, h1, h2, h3, h4, h5, h6⟩ := ha c
    rw [h0, h1, h2, h3, h4, h5, h6]
    exact same m c

end Cert.Layer1

end
-- ==== Proof.Ffn.Blocks0.lean ====
/- The blocks of the first feed-forward layer's arguments that a grid point sees: 512 rows of the arrays of rows, the whole of
   every weight. -/
module

public import proofs.«01_k».proof.Proof.Gen.Ffn0Ideal.Value
public import proofs.«01_k».proof.Proof.Ffn.Rows

@[expose] public section

set_option maxRecDepth 16384
set_option Elab.async false

noncomputable section

namespace Cert.Ffn0Ideal.Rows

open Cert.Ffn0Ideal Cert.Ffn0Ideal.Gen Cert.Rows
open Idealize.ShloMosaic Idealize.ShloMosaic.TcCoe
open Idealize.ShloMosaic.Pipeline (Dat)

/-! ## The blocks -/

variable (m : (ℓ : Loc nD τ sig) → Buf (Elt Ideal) ℓ)

/-- Every window's block, at every grid point. -/
theorem index_eq : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0, 0] ∧ win0_9.index t = ![t.val, 0] :=
  (by decide +kernel : ∀ t : Fin grid0.N, _)

theorem block0 (c : Dev nD) (t : Fin cfg0.N) (r : Fin 512) (l : Fin 1024) (h : t.val < 32) :
    iblk m c 0 t (ix2 r l) = m ((c : Thread nD τ).loc main_arg0) (ix2 ⟨t.val * 512 + r.val, by omega⟩ l) := by
  blk_ext [iblk, V, index_eq t]

theorem block1 (c : Dev nD) (t : Fin cfg0.N) (r : Fin 512) (l : Fin 1024) (h : t.val < 32) :
    iblk m c 1 t (ix2 r l) = m ((c : Thread nD τ).loc main_arg1) (ix2 ⟨t.val * 512 + r.val, by omega⟩ l) := by
  blk_ext [iblk, V, index_eq t]

theorem block2 (c : Dev nD) (t : Fin cfg0.N) (k l : Fin 1024) :
    iblk m c 2 t (ix2 k l) = m ((c : Thread nD τ).loc main_arg4) (ix3 (0 : Fin 1) k l) := by
  blk_simp [iblk, index_eq t]
  entry_read
  pointwise []
  blk_ext [index_eq t]

theorem block3 (c : Dev nD) (t : Fin cfg0.N) (l : Fin 1024) :
    iblk m c 3 t (ix2 (0 : Fin 1) l) = m ((c : Thread nD τ).loc main_arg2) (ix2 (0 : Fin 1) l) := by
  blk_simp [iblk, index_eq t]
  entry_read
  pointwise []
  blk_ext [index_eq t]

theorem block4 (c : Dev nD) (t : Fin cfg0.N) (l : Fin 1024) :
    iblk m c 4 t (ix2 (0 : Fin 1) l) = m ((c : Thread nD τ).loc main_arg3) (ix2 (0 : Fin 1) l) := by
  blk_simp [iblk, index_eq t]
  entry_read
  pointwise []
  blk_ext [index_eq t]

theorem block5 (c : Dev nD) (t : Fin cfg0.N) (l : Fin 1024) :
    iblk m c 5 t (ix2 (0 : Fin 1) l) = m ((c : Thread nD τ).loc main_arg5) (ix2 (0 : Fin 1) l) := by
  blk_simp [iblk, index_eq t]
  entry_read
  pointwise []
  blk_ext [index_eq t]

theorem block6 (c : Dev nD) (t : Fin cfg0.N) (l : Fin 1024) :
    iblk m c 6 t (ix2 (0 : Fin 1) l) = m ((c : Thread nD τ).loc main_arg6) (ix2 (0 : Fin 2) l) := by
  blk_simp [iblk, index_eq t]
  entry_read
  pointwise []
  blk_ext [index_eq t]

theorem block7 (c : Dev nD) (t : Fin cfg0.N) (k : Fin 1024) (j : Fin 5632) :
    iblk m c 7 t (ix3 (0 : Fin 1) k j) = m ((c : Thread nD τ).loc main_arg7) (ix3 (0 : Fin 2) k j) := by
  blk_simp [iblk, index_eq t]
  entry_read
  pointwise []
  blk_ext [index_eq t]

theorem block8 (c : Dev nD) (t : Fin cfg0.N) (j : Fin 2816) (l : Fin 1024) :
    iblk m c 8 t (ix3 (0 : Fin 1) j l) = m ((c : Thread nD τ).loc main_arg8) (ix3 (0 : Fin 2) j l) := by
  blk_simp [iblk, index_eq t]
  entry_read
  pointwise []
  blk_ext [index_eq t]

theorem gate_load (x : FVec Ideal S1x1024x5632 .bf16) (k : Fin 1024) (j : Fin 2816) :
    View.ld (Val := Elt Ideal) (e' := .bf16) x r0_3 (ix3 (0 : Fin 1) k j) = x (ix3 (0 : Fin 1) k ⟨j.val, by omega⟩) := by
  refine View.ld_unit_apply_of (Val := Elt Ideal) (S := S1x1024x5632) (e := .bf16) x ![0, 0, 0] S1x1024x2816.size inb_S1x1024x5632_S1x1024x2816_0_0_0 (ix3 (0 : Fin 1) k j) _ fun a => ?_
  fin_cases a
  · rfl
  · exact (Nat.zero_add k.val).symm
  · exact (Nat.zero_add j.val).symm

theorem up_load (x : FVec Ideal S1x1024x5632 .bf16) (k : Fin 1024) (j : Fin 2816) :
    View.ld (Val := Elt Ideal) (e' := .bf16) x r0_4 (ix3 (0 : Fin 1) k j) = x (ix3 (0 : Fin 1) k ⟨2816 + j.val, by omega⟩) := by
  refine View.ld_unit_apply_of (Val := Elt Ideal) (S := S1x1024x5632) (e := .bf16) x ![0, 0, 2816] S1x1024x2816.size inb_S1x1024x5632_S1x1024x2816_0_0_2816 (ix3 (0 : Fin 1) k j) _ fun a => ?_
  fin_cases a
  · rfl
  · exact (Nat.zero_add k.val).symm
  · rfl

/-- Where an output block's entry lies. -/
theorem place (t : Fin cfg0.N) (r : Fin 512) (l : Fin 1024) (h : t.val < 32) :
    (((cfg0.win 9).blk t).view.emb (ix2 r l) : S16384x1024.Idx) = ix2 ⟨t.val * 512 + r.val, by omega⟩ l := by
  blk_ext [index_eq t]

end Cert.Ffn0Ideal.Rows
-- ==== Proof.Ffn.Kernel0.lean ====
/- What the kernel of the first feed-forward layer computes: every row of its result from that row of its arguments. -/
module

public import proofs.«01_k».proof.Proof.Gen.Ffn0Ideal.Value
public import proofs.«01_k».proof.Proof.Ffn.Blocks0

@[expose] public section

set_option maxRecDepth 16384
set_option Elab.async false

noncomputable section

namespace Cert.Ffn0Ideal.Rows

open Cert.Ffn0Ideal Cert.Ffn0Ideal.Gen Cert.Rows
open Idealize.ShloMosaic Idealize.ShloMosaic.TcCoe
open Idealize.ShloMosaic.Pipeline (Dat)

/-! ## The body on a block of rows -/

/-- The residual with silu of the layer norm projected. -/
theorem projected_apply (z : FVec Ideal S512x1024 .f32) (lg lb : FVec Ideal S1x1024 .f32) (h : FVec Ideal S512x1024 .f32) (w : FVec Ideal S1024x1024 .bf16)
    (r : Fin 512) (l : Fin 1024) :
    k0_pay1 z lg lb h w (ix2 r l) = (h (ix2 r l) : EReal)
      + times (fun k => silu (layer (fun l => lg (ix2 (0 : Fin 1) l)) (fun l => lb (ix2 (0 : Fin 1) l)) (fun l => z (ix2 r l)) k)) (fun k l => (w (ix2 k l) : EReal)) l := by
  unfold times silu layer mean
  pointwise [k0_pay1]
  simp only [zero_sub]

/-- The feed-forward of the residual with the bias. -/
theorem fed_apply (x : FVec Ideal S512x1024 .f32) (b g : FVec Ideal S1x1024 .f32) (wg wu : FVec Ideal S1x1024x2816 .bf16) (wd : FVec Ideal S1x2816x1024 .bf16)
    (r : Fin 512) (l : Fin 1024) :
    k0_pay2 x b g wg wu wd (ix2 r l) = feed (fun l => g (ix2 (0 : Fin 1) l)) (fun k j => wg (ix3 (0 : Fin 1) k j)) (fun k j => wu (ix3 (0 : Fin 1) k j))
      (fun j l => wd (ix3 (0 : Fin 1) j l)) (fun l => (x (ix2 r l) : EReal) + b (ix2 (0 : Fin 1) l)) l := by
  unfold feed gated silu times rms mean
  pointwise [k0_pay2]
  simp only [zero_sub]

/-- The whole body. -/
theorem body_apply (z : FVec Ideal S512x1024 .f32) (lg lb : FVec Ideal S1x1024 .f32) (h : FVec Ideal S512x1024 .f32) (w : FVec Ideal S1024x1024 .bf16)
    (b g : FVec Ideal S1x1024 .f32) (wg wu : FVec Ideal S1x1024x2816 .bf16) (wd : FVec Ideal S1x2816x1024 .bf16) (r : Fin 512) (l : Fin 1024) :
    k0_pay2 (F := Ideal) (k0_pay1 (F := Ideal) z lg lb h w) b g wg wu wd (ix2 r l)
      = feed (fun l => g (ix2 (0 : Fin 1) l)) (fun k j => wg (ix3 (0 : Fin 1) k j)) (fun k j => wu (ix3 (0 : Fin 1) k j)) (fun j l => wd (ix3 (0 : Fin 1) j l))
        (fun l => (h (ix2 r l) : EReal) + (times (fun k => silu (layer (fun l => lg (ix2 (0 : Fin 1) l)) (fun l => lb (ix2 (0 : Fin 1) l)) (fun l => z (ix2 r l)) k))
          (fun k l => (w (ix2 k l) : EReal)) l + b (ix2 (0 : Fin 1) l))) l :=
  (fed_apply _ b g wg wu wd r l).trans (feed_congr (fun _ => rfl) (fun _ _ => rfl) (fun _ _ => rfl) (fun _ _ => rfl)
    (fun l => (congrArg (fun a : EReal => a + b (ix2 (0 : Fin 1) l)) (projected_apply z lg lb h w r l)).trans (add_assoc _ _ _)) l)

/-! ## The array -/

variable (m : (ℓ : Loc nD τ sig) → Buf (Elt Ideal) ℓ)

/-- Every row of the result from that row of the arguments. -/
def rows (c : Dev nD) : FVec Ideal S16384x1024 .f32 := fun i => first (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (i 0) (i 1)

theorem rows_apply (c : Dev nD) (r : Fin 16384) (l : Fin 1024) : rows m c (ix2 r l) = first (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) r l := rfl

/-- A block's entry. -/
theorem entry (c : Dev nD) (t : Fin cfg0.N) (r : Fin 512) (l : Fin 1024) (ht : t.val < 32) :
    k0_pay2 (F := Ideal) (k0_pay1 (F := Ideal) (iblk m c 1 t) (iblk m c 3 t) (iblk m c 4 t) (iblk m c 0 t) (iblk m c 2 t)) (iblk m c 5 t) (iblk m c 6 t)
      (View.ld (iblk m c 7 t) r0_3) (View.ld (iblk m c 7 t) r0_4) (iblk m c 8 t) (ix2 r l)
      = rows m c (ix2 ⟨t.val * 512 + r.val, by omega⟩ l) := by
  refine (body_apply _ _ _ _ _ _ _ _ _ _ r l).trans ?_
  rw [rows_apply]
  unfold first
  exact feed_congr (block6 m c t) (fun k j => (gate_load _ k j).trans (block7 m c t k _)) (fun k j => (up_load _ k j).trans (block7 m c t k _))
    (block8 m c t) (fun l => congrArg₂ (fun a b : EReal => a + b) (block0 m c t r l ht) (congrArg₂ (fun a b : EReal => a + b)
      (times_congr (fun k => congrArg silu (layer_congr (block3 m c t) (block4 m c t) (fun l => block1 m c t r l ht) k)) (block2 m c t) l) (block5 m c t l))) l

/-- The array after the run. -/
theorem final (c : Dev nD) : (dats m 0 c).arrAt 9 cfg0.N = rows m c := by
  refine (dats m 0 c).arrAt_eq_of_covers 9 _ (by decide +kernel) fun t _ y => ?_
  blk_simp
  rw [after0_9]
  frame_out
  obtain ⟨r, l, rfl⟩ : ∃ (r : Fin 512) (l : Fin 1024), y = ix2 r l := ⟨y 0, y 1, eq_ix2 y⟩
  exact (entry m c t r l t.isLt).trans (congrArg (rows m c) (place t r l t.isLt)).symm

end Cert.Ffn0Ideal.Rows
-- ==== Proof.Ffn.Reference0.lean ====
/- What the reference of the first feed-forward layer computes: every row of its result from that row of its arguments. -/
module

public import proofs.«01_k».proof.Proof.Gen.RefFfn0Ideal
public import proofs.«01_k».proof.Proof.Gen.RefFfn0Ideal.Run
public import proofs.«01_k».proof.Proof.Ffn.Rows

@[expose] public section

set_option maxRecDepth 16384
set_option Elab.async false

noncomputable section

namespace Cert.RefFfn0Ideal.Rows

open Cert.RefFfn0Ideal Cert.RefFfn0Ideal.Gen Cert.Rows
open Idealize.ShloMosaic Idealize.ShloMosaic.TcCoe

/-! ## The program's values -/

/-- The mean of every row. -/
def means (z : FVec Ideal S16384x1024 .f32) : FVec Ideal S16384x1 .f32 :=
  Host.divf (broadcastInDim S16384x1 ![0] bcast_S16384_S16384x1_0 (Host.reduceAdd z (constant S_ .f32 0x00000000#32) reducesTo_S16384x1024_S16384_d1 h_S_))
    (broadcastInDim S16384x1 ![] bcast_S_S16384x1 (constant S_ .f32 0x44800000#32))

/-- Every row without its mean. -/
def centred (z : FVec Ideal S16384x1024 .f32) : FVec Ideal S16384x1024 .f32 :=
  subf z (broadcastInDim S16384x1024 ![0, 1] bcast_S16384x1_S16384x1024_0_1 (means z))

/-- A vector of a row's length, in every row. -/
def spread (g : FVec Ideal S1x1024 .f32) : FVec Ideal S16384x1024 .f32 :=
  broadcastInDim S16384x1024 ![0, 1] bcast_S1x1024_S16384x1024_0_1 (broadcastInDim S1x1024 ![1] bcast_S1024_S1x1024_1 (shapeCast _ g shapeCasts_S1x1024_S1024))

/-- The layer norm of every row. -/
def layered (z : FVec Ideal S16384x1024 .f32) (g b : FVec Ideal S1x1024 .f32) : FVec Ideal S16384x1024 .f32 :=
  addf (mulf (mulf (centred z) (broadcastInDim S16384x1024 ![0, 1] bcast_S16384x1_S16384x1024_0_1 (Host.rsqrt (addf (means (mulf (centred z) (centred z)))
    (broadcastInDim S16384x1 ![] bcast_S_S16384x1 (constant S_ .f32 0x358637BD#32)))))) (spread g)) (spread b)

/-- silu of every entry. -/
def silus (y : FVec Ideal S16384x1024 .f32) : FVec Ideal S16384x1024 .f32 :=
  mulf y (Host.divf (broadcastInDim S16384x1024 ![] bcast_S_S16384x1024 (constant S_ .f32 0x3F800000#32))
    (addf (broadcastInDim S16384x1024 ![] bcast_S_S16384x1024 (constant S_ .f32 0x3F800000#32)) (Host.exp (Host.negf y))))

/-- The residual with the convolution module's output projected. -/
def projected (h y : FVec Ideal S16384x1024 .f32) (w : FVec Ideal S1x1024x1024 .f32) (b : FVec Ideal S1x1024 .f32) : FVec Ideal S16384x1024 .f32 :=
  addf h (addf (Host.dotGeneral dot_S16384x1024_S1024x1024_S16384x1024_1_0_0_1_n_n none y (shapeCast _ w shapeCasts_S1x1024x1024_S1024x1024)) (spread b))

/-- The root-mean-square norm of every row. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
      (Host.divf (broadcastInDim S16384x1 ![0] bcast_S16384_S16384x1_0 (Host.reduceAdd (mulf x x) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The first layer's gains. -/
def gains (g : FVec Ideal S2x1024 .f32) : FVec Ideal S1024 .f32 :=
  shapeCast _ (extractStridedSlice S1x1024 ![0, 0] g slices_S2x1024_S1x1024_0_0) shapeCasts_S1x1024_S1024

/-- The normed rows times the gate's and the other factor's weights. -/
def widened (n : FVec Ideal S16384x1024 .f32) (w : FVec Ideal S2x1024x5632 .f32) : FVec Ideal S16384x5632 .f32 :=
  Host.dotGeneral dot_S16384x1024_S1024x5632_S16384x5632_1_0_0_1_n_n none n
    (shapeCast _ (extractStridedSlice S1x1024x5632 ![0, 0, 0] w slices_S2x1024x5632_S1x1024x5632_0_0_0) shapeCasts_S1x1024x5632_S1024x5632)

/-- silu of the gate times the other factor. -/
def product (y : FVec Ideal S16384x5632 .f32) : FVec Ideal S16384x2816 .f32 :=
  mulf (mulf (extractStridedSlice S16384x2816 ![0, 0] y slices_S16384x5632_S16384x2816_0_0)
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (extractStridedSlice S16384x2816 ![0, 0] y slices_S16384x5632_S16384x2816_0_0))))))
    (extractStridedSlice S16384x2816 ![0, 2816] y slices_S16384x5632_S16384x2816_0_2816)

/-- The residual with the feed-forward's result. -/
def fed (x : FVec Ideal S16384x1024 .f32) (p : FVec Ideal S16384x2816 .f32) (w : FVec Ideal S2x2816x1024 .f32) : FVec Ideal S16384x1024 .f32 :=
  addf x (Host.dotGeneral dot_S16384x2816_S2816x1024_S16384x1024_1_0_0_1_n_n none p
    (shapeCast _ (extractStridedSlice S1x2816x1024 ![0, 0, 0] w slices_S2x2816x1024_S1x2816x1024_0_0_0) shapeCasts_S1x2816x1024_S2816x1024))

/-- The layer on the rows `x`. -/
def feeding (x : FVec Ideal S16384x1024 .f32) (g : FVec Ideal S2x1024 .f32) (wu : FVec Ideal S2x1024x5632 .f32) (wd : FVec Ideal S2x2816x1024 .f32) :
    FVec Ideal S16384x1024 .f32 :=
  fed x (product (widened (normed x (gains g)) wu)) wd

theorem result_eq (m : (ℓ : Loc nD τ sig) → Buf (Elt Ideal) ℓ) (c : Dev nD) :
    Value.res_out0 m c = feeding (projected (m ((c.tc : Thread nD τ).loc main_arg0)) (silus (layered (m ((c.tc : Thread nD τ).loc main_arg1)) (m ((c.tc : Thread nD τ).loc main_arg2)) (m ((c.tc : Thread nD τ).loc main_arg3))))
      (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) := rfl

/-! ## A row of each -/

theorem means_apply (z : FVec Ideal S16384x1024 .f32) (r : Fin 16384) : means z (ix2 r (0 : Fin 1)) = mean (fun l => z (ix2 r l)) := by
  unfold mean
  pointwise [means]

theorem centred_apply (z : FVec Ideal S16384x1024 .f32) (r : Fin 16384) (l : Fin 1024) :
    centred z (ix2 r l) = (z (ix2 r l) : EReal) - mean (fun l => z (ix2 r l)) := by
  rw [← means_apply]
  pointwise [centred]

theorem spread_apply (g : FVec Ideal S1x1024 .f32) (r : Fin 16384) (l : Fin 1024) : spread g (ix2 r l) = g (ix2 (0 : Fin 1) l) := by
  pointwise [spread]

theorem layered_apply (z : FVec Ideal S16384x1024 .f32) (g b : FVec Ideal S1x1024 .f32) (r : Fin 16384) (l : Fin 1024) :
    layered z g b (ix2 r l) = layer (fun l => g (ix2 (0 : Fin 1) l)) (fun l => b (ix2 (0 : Fin 1) l)) (fun l => z (ix2 r l)) l := by
  have h : layered z g b (ix2 r l) = (centred z (ix2 r l) : EReal) * Ideal.rsqrt (means (mulf (centred z) (centred z)) (ix2 r (0 : Fin 1)) + Ideal.ofBits .f32 0x358637BD#32)
      * spread g (ix2 r l) + spread b (ix2 r l) := by
    pointwise [layered]
  rw [h, means_apply, spread_apply, spread_apply, centred_apply]
  have e : (fun l => mulf (centred z) (centred z) (ix2 r l)) = fun l => ((z (ix2 r l) : EReal) - mean (fun l => z (ix2 r l))) * ((z (ix2 r l) : EReal) - mean (fun l => z (ix2 r l))) := by
    funext l
    rw [← centred_apply]
    rfl
  rw [e]
  rfl

theorem silus_apply (y : FVec Ideal S16384x1024 .f32) (r : Fin 16384) (l : Fin 1024) : silus y (ix2 r l) = silu (y (ix2 r l)) := by
  unfold silu
  pointwise [silus]

theorem projected_apply (h y : FVec Ideal S16384x1024 .f32) (w : FVec Ideal S1x1024x1024 .f32) (b : FVec Ideal S1x1024 .f32) (r : Fin 16384) (l : Fin 1024) :
    projected h y w b (ix2 r l) = (h (ix2 r l) : EReal) + (times (fun k : Fin 1024 => (y (ix2 r k) : EReal)) (fun k l => (w (ix3 (0 : Fin 1) k l) : EReal)) l
      + b (ix2 (0 : Fin 1) l)) := by
  rw [← spread_apply b r l]
  unfold times
  pointwise [projected]

theorem normed_apply (x : FVec Ideal S16384x1024 .f32) (g : FVec Ideal S1024 .f32) (r : Fin 16384) (l : Fin 1024) :
    normed x g (ix2 r l) = rms (fun l => g (ix1 l)) (fun l => x (ix2 r l)) l := by
  unfold rms mean
  pointwise [normed]

theorem gains_apply (g : FVec Ideal S2x1024 .f32) (l : Fin 1024) : gains g (ix1 l) = g (ix2 (0 : Fin 2) l) := by
  pointwise [gains]

theorem widened_apply (n : FVec Ideal S16384x1024 .f32) (w : FVec Ideal S2x1024x5632 .f32) (r : Fin 16384) (j : Fin 5632) :
    widened n w (ix2 r j) = times (fun k : Fin 1024 => (n (ix2 r k) : EReal)) (fun k j => (w (ix3 (0 : Fin 2) k j) : EReal)) j := by
  unfold times
  pointwise [widened]

theorem product_apply (y : FVec Ideal S16384x5632 .f32) (r : Fin 16384) (j : Fin 2816) :
    product y (ix2 r j) = silu (y (ix2 r ⟨j.val, by omega⟩)) * y (ix2 r ⟨2816 + j.val, by omega⟩) := by
  unfold silu
  pointwise [product]

theorem fed_apply (x : FVec Ideal S16384x1024 .f32) (p : FVec Ideal S16384x2816 .f32) (w : FVec Ideal S2x2816x1024 .f32) (r : Fin 16384) (l : Fin 1024) :
    fed x p w (ix2 r l) = (x (ix2 r l) : EReal) + times (fun j : Fin 2816 => (p (ix2 r j) : EReal)) (fun j l => (w (ix3 (0 : Fin 2) j l) : EReal)) l := by
  unfold times
  pointwise [fed]

/-- A row of the layer's result, from that row. -/
theorem feeding_apply (x : FVec Ideal S16384x1024 .f32) (g : FVec Ideal S2x1024 .f32) (wu : FVec Ideal S2x1024x5632 .f32) (wd : FVec Ideal S2x2816x1024 .f32)
    (r : Fin 16384) (l : Fin 1024) :
    feeding x g wu wd (ix2 r l) = feed (fun l => g (ix2 (0 : Fin 2) l)) (fun k j => wu (ix3 (0 : Fin 2) k ⟨j.val, by omega⟩))
      (fun k j => wu (ix3 (0 : Fin 2) k ⟨2816 + j.val, by omega⟩)) (fun j l => wd (ix3 (0 : Fin 2) j l)) (fun l => x (ix2 r l)) l := by
  refine (fed_apply x _ wd r l).trans (congrArg (fun s : EReal => (x (ix2 r l) : EReal) + s) (congrArg (fun f => times f _ l) (funext fun j => ?_)))
  rw [product_apply, widened_apply, widened_apply]
  simp only [normed_apply, gains_apply]
  rfl

/-- A row of the result, from that row of the arguments. -/
theorem result_apply (h z : FVec Ideal S16384x1024 .f32) (lg lb : FVec Ideal S1x1024 .f32) (w : FVec Ideal S1x1024x1024 .f32) (b : FVec Ideal S1x1024 .f32)
    (g : FVec Ideal S2x1024 .f32) (wu : FVec Ideal S2x1024x5632 .f32) (wd : FVec Ideal S2x2816x1024 .f32) (r : Fin 16384) (l : Fin 1024) :
    feeding (projected h (silus (layered z lg lb)) w b) g wu wd (ix2 r l) = first h z lg lb w b g wu wd r l := by
  rw [feeding_apply]
  simp only [projected_apply, silus_apply, layered_apply]
  rfl

end Cert.RefFfn0Ideal.Rows
-- ==== Proof.Ffn.Equal0.lean ====
/- The first feed-forward layer: the kernel's result is the reference's, at extended reals. -/
module

public import proofs.«01_k».proof.Defs
public import proofs.«01_k».proof.Proof.Gen.Ffn0.Frame
public import proofs.«01_k».proof.Proof.Gen.Ffn0Ideal.Frame
public import proofs.«01_k».proof.Proof.Gen.Ffn0Ideal.Value
public import proofs.«01_k».proof.Proof.Gen.RefFfn0Ideal.Run
public import proofs.«01_k».proof.Proof.Ffn.Kernel0
public import proofs.«01_k».proof.Proof.Ffn.Reference0
public import Idealize.ShloMosaic.Adequacy
public import Idealize.ShloMosaic.Init

@[expose] public section

set_option Elab.async false

noncomputable section

namespace Cert.Layer0

open Idealize.ShloMosaic Idealize.SL.Sem

/-- The reference of the first layer runs to its end, returns its arguments unchanged and leaves every semaphore at zero. -/
theorem reference_frame : Cert.quiescent_RefFfn0Ideal (hRefFfn0Ideal := Cert.RefFfn0Ideal.Gen.facts) :=
  fun m ρ _ => (θ_run Cert.RefFfn0Ideal.defs _ _).mono (fun r h => ⟨fun c => (h c).2, sem_eq_zero_of_no_sems (by decide) r.2⟩)
    (Cert.RefFfn0Ideal.Value.run m ρ)

/-- From equal arguments the reference's result is the array the kernel leaves. -/
theorem same (m : (ℓ : Loc Cert.Ffn0Ideal.nD Cert.Ffn0Ideal.τ Cert.Ffn0Ideal.sig) → Buf (Elt Ideal) ℓ) (c : Dev Cert.Ffn0Ideal.nD) :
    Cert.RefFfn0Ideal.Rows.feeding (Cert.RefFfn0Ideal.Rows.projected (m ((c.tc : Thread Cert.Ffn0Ideal.nD Cert.Ffn0Ideal.τ).loc Cert.Ffn0Ideal.main_arg0)) (Cert.RefFfn0Ideal.Rows.silus (Cert.RefFfn0Ideal.Rows.layered (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)))) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5))) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) = Cert.Ffn0Ideal.Rows.rows m c := by
  refine funext fun i => ?_
  obtain ⟨r, l, rfl⟩ : ∃ (r : Fin 16384) (l : Fin 1024), i = ix2 r l := ⟨i 0, i 1, eq_ix2 i⟩
  exact (Cert.RefFfn0Ideal.Rows.result_apply _ _ _ _ _ _ _ _ _ r l).trans (Cert.Ffn0Ideal.Rows.rows_apply m c r l).symm

/-- From equal arguments the kernel of the first layer and its reference end with equal results, at extended reals. -/
theorem equal : Cert.algebraic_Ffn0Ideal_RefFfn0Ideal (hFfn0Ideal := Cert.Ffn0Ideal.Gen.facts) (hRefFfn0Ideal := Cert.RefFfn0Ideal.Gen.facts) := by
  intro m ρ m' ρ' _ ha
  refine ⟨fun c => Cert.Ffn0Ideal.Rows.rows m c, ?_, ?_⟩
  · refine (θ_run Cert.Ffn0Ideal.defs _ _).mono (fun r h c => ?_) (Cert.Ffn0Ideal.Value.run_blocks m ρ)
    exact ⟨(h c).1.trans (Cert.Ffn0Ideal.Rows.final m c), (h c).2⟩
  · refine (θ_run Cert.RefFfn0Ideal.defs _ _).mono (fun r h c => ?_) (Cert.RefFfn0Ideal.Value.run m' ρ')
    refine ⟨((h c).1.trans (Cert.RefFfn0Ideal.Rows.result_eq m' c)).trans ?_, (h c).2⟩
    obtain ⟨h0, h1, h2, h3, h4, h5, h6, h7, h8⟩ := ha c
    rw [h0, h1, h2, h3, h4, h5, h6, h7, h8]
    exact same m c

end Cert.Layer0

end
-- ==== Proof.Ffn.BlocksS.lean ====
/- The blocks of the second feed-forward layer on the sampled steps' arguments that a grid point sees: 128 rows of the arrays of rows, the whole of
   every weight. -/
module

public import proofs.«01_k».proof.Proof.Gen.FfnsIdeal.Value
public import proofs.«01_k».proof.Proof.Ffn.Rows

@[expose] public section

set_option maxRecDepth 16384
set_option Elab.async false

noncomputable section

namespace Cert.FfnsIdeal.Rows

open Cert.FfnsIdeal Cert.FfnsIdeal.Gen Cert.Rows
open Idealize.ShloMosaic Idealize.ShloMosaic.TcCoe
open Idealize.ShloMosaic.Pipeline (Dat)

/-! ## The blocks -/

variable (m : (ℓ : Loc nD τ sig) → Buf (Elt Ideal) ℓ)

/-- Every window's block, at every grid point. -/
theorem index_eq : ∀ t : Fin cfg0.N, win0_0.index t = ![t.val, 0] ∧ win0_1.index t = ![t.val, 0] ∧ win0_2.index t = ![0, 0]
    ∧ win0_3.index t = ![0, 0] ∧ win0_4.index t = ![1, 0, 0] ∧ win0_5.index t = ![1, 0, 0] ∧ win0_6.index t = ![0, 0] ∧ win0_7.index t = ![t.val, 0] :=
  (by decide +kernel : ∀ t : Fin grid0.N, _)

theorem block0 (c : Dev nD) (t : Fin cfg0.N) (r : Fin 128) (l : Fin 1024) (h : t.val < 1) :
    iblk m c 0 t (ix2 r l) = m ((c : Thread nD τ).loc main_arg0) (ix2 ⟨t.val * 128 + r.val, by omega⟩ l) := by
  blk_ext [iblk, V, index_eq t]

theorem block1 (c : Dev nD) (t : Fin cfg0.N) (r : Fin 128) (l : Fin 1024) (h : t.val < 1) :
    iblk m c 1 t (ix2 r l) = m ((c : Thread nD τ).loc main_arg1) (ix2 ⟨t.val * 128 + r.val, by omega⟩ l) := by
  blk_ext [iblk, V, index_eq t]

theorem block2 (c : Dev nD) (t : Fin cfg0.N) (k l : Fin 1024) :
    iblk m c 2 t (ix2 k l) = m ((c : Thread nD τ).loc main_arg2) (ix3 (0 : Fin 1) k l) := by
  blk_simp [iblk, index_eq t]
  entry_read
  pointwise []
  blk_ext [index_eq t]

theorem block3 (c : Dev nD) (t : Fin cfg0.N) (l : Fin 1024) :
    iblk m c 3 t (ix2 (0 : Fin 1) l) = m ((c : Thread nD τ).loc main_arg3) (ix2 (1 : Fin 2) l) := by
  blk_simp [iblk, index_eq t]
  entry_read
  pointwise []
  blk_ext [index_eq t]

theorem block4 (c : Dev nD) (t : Fin cfg0.N) (k : Fin 1024) (j : Fin 5632) :
    iblk m c 4 t (ix3 (0 : Fin 1) k j) = m ((c : Thread nD τ).loc main_arg4) (ix3 (1 : Fin 2) k j) := by
  blk_simp [iblk, index_eq t]
  entry_read
  pointwise []
  blk_ext [index_eq t]

theorem block5 (c : Dev nD) (t : Fin cfg0.N) (j : Fin 2816) (l : Fin 1024) :
    iblk m c 5 t (ix3 (0 : Fin 1) j l) = m ((c : Thread nD τ).loc main_arg5) (ix3 (1 : Fin 2) j l) := by
  blk_simp [iblk, index_eq t]
  entry_read
  pointwise []
  blk_ext [index_eq t]

theorem block6 (c : Dev nD) (t : Fin cfg0.N) (l : Fin 1024) :
    iblk m c 6 t (ix2 (0 : Fin 1) l) = m ((c : Thread nD τ).loc main_arg6) (ix1 l) := by
  blk_simp [iblk, index_eq t]
  entry_read
  pointwise []
  blk_ext [index_eq t]

theorem gate_load (x : FVec Ideal S1x1024x5632 .bf16) (k : Fin 1024) (j : Fin 2816) :
    View.ld (Val := Elt Ideal) (e' := .bf16) x r0_3 (ix3 (0 : Fin 1) k j) = x (ix3 (0 : Fin 1) k ⟨j.val, by omega⟩) := by
  refine View.ld_unit_apply_of (Val := Elt Ideal) (S := S1x1024x5632) (e := .bf16) x ![0, 0, 0] S1x1024x2816.size inb_S1x1024x5632_S1x1024x2816_0_0_0 (ix3 (0 : Fin 1) k j) _ fun a => ?_
  fin_cases a
  · rfl
  · exact (Nat.zero_add k.val).symm
  · exact (Nat.zero_add j.val).symm

theorem up_load (x : FVec Ideal S1x1024x5632 .bf16) (k : Fin 1024) (j : Fin 2816) :
    View.ld (Val := Elt Ideal) (e' := .bf16) x r0_4 (ix3 (0 : Fin 1) k j) = x (ix3 (0 : Fin 1) k ⟨2816 + j.val, by omega⟩) := by
  refine View.ld_unit_apply_of (Val := Elt Ideal) (S := S1x1024x5632) (e := .bf16) x ![0, 0, 2816] S1x1024x2816.size inb_S1x1024x5632_S1x1024x2816_0_0_2816 (ix3 (0 : Fin 1) k j) _ fun a => ?_
  fin_cases a
  · rfl
  · exact (Nat.zero_add k.val).symm
  · rfl

/-- Where an output block's entry lies. -/
theorem place (t : Fin cfg0.N) (r : Fin 128) (l : Fin 1024) (h : t.val < 1) :
    (((cfg0.win 7).blk t).view.emb (ix2 r l) : S128x1024.Idx) = ix2 ⟨t.val * 128 + r.val, by omega⟩ l := by
  blk_ext [index_eq t]

end Cert.FfnsIdeal.Rows
-- ==== Proof.Ffn.KernelS.lean ====
/- What the kernel of the second feed-forward layer on the sampled steps computes: every row of its result from that row of its arguments. -/
module

public import proofs.«01_k».proof.Proof.Gen.FfnsIdeal.Value
public import proofs.«01_k».proof.Proof.Ffn.BlocksS

@[expose] public section

set_option maxRecDepth 16384
set_option Elab.async false

noncomputable section

namespace Cert.FfnsIdeal.Rows

open Cert.FfnsIdeal Cert.FfnsIdeal.Gen Cert.Rows
open Idealize.ShloMosaic Idealize.ShloMosaic.TcCoe
open Idealize.ShloMosaic.Pipeline (Dat)

/-! ## The body on a block of rows -/

/-- The residual with the attention's output projected. -/
theorem projected_apply (o : FVec Ideal S128x1024 .f32) (h : FVec Ideal S128x1024 .f32) (w : FVec Ideal S1024x1024 .bf16) (r : Fin 128) (l : Fin 1024) :
    k0_pay2 o h w (ix2 r l) = (h (ix2 r l) : EReal) + times (fun k : Fin 1024 => (o (ix2 r k) : EReal)) (fun k l => (w (ix2 k l) : EReal)) l := by
  unfold times
  pointwise [k0_pay2]

/-- The normed rows. -/
theorem normed_apply (o h : FVec Ideal S128x1024 .f32) (w : FVec Ideal S1024x1024 .bf16) (g : FVec Ideal S1x1024 .f32) (r : Fin 128) (l : Fin 1024) :
    k0_pay3 (F := Ideal) o h w g (ix2 r l) = rms (fun l => g (ix2 (0 : Fin 1) l)) (fun l => k0_pay2 (F := Ideal) o h w (ix2 r l)) l := by
  unfold rms mean
  unfold k0_pay3
  generalize k0_pay2 (F := Ideal) o h w = x
  pointwise []

/-- The second factor of the gated product. -/
theorem up_apply (o h : FVec Ideal S128x1024 .f32) (w : FVec Ideal S1024x1024 .bf16) (g : FVec Ideal S1x1024 .f32) (wu : FVec Ideal S1x1024x2816 .bf16) (r : Fin 128) (j : Fin 2816) :
    k0_pay4 (F := Ideal) o h w g wu (ix2 r j) = times (fun k => k0_pay3 (F := Ideal) o h w g (ix2 r k)) (fun k j => wu (ix3 (0 : Fin 1) k j)) j := by
  unfold times
  unfold k0_pay4
  generalize k0_pay3 (F := Ideal) o h w g = x
  pointwise []

/-- silu of the gate. -/
theorem gate_apply (o h : FVec Ideal S128x1024 .f32) (w : FVec Ideal S1024x1024 .bf16) (g : FVec Ideal S1x1024 .f32) (wg : FVec Ideal S1x1024x2816 .bf16) (r : Fin 128) (j : Fin 2816) :
    k0_pay5 (F := Ideal) o h w g wg (ix2 r j) = silu (times (fun k => k0_pay3 (F := Ideal) o h w g (ix2 r k)) (fun k j => wg (ix3 (0 : Fin 1) k j)) j) := by
  unfold silu times
  unfold k0_pay5
  generalize k0_pay3 (F := Ideal) o h w g = x
  pointwise []
  rw [zero_sub]

/-- The last norm of the residual with the feed-forward's result. -/
theorem last_apply (x : FVec Ideal S128x1024 .f32) (u p : FVec Ideal S128x2816 .f32) (w : FVec Ideal S1x2816x1024 .bf16) (g : FVec Ideal S1x1024 .f32)
    (r : Fin 128) (l : Fin 1024) :
    k0_pay1 x u p w g (ix2 r l) = rms (fun l => g (ix2 (0 : Fin 1) l))
      (fun l => (x (ix2 r l) : EReal) + times (fun j : Fin 2816 => (p (ix2 r j) : EReal) * u (ix2 r j)) (fun j l => (w (ix3 (0 : Fin 1) j l) : EReal)) l) l := by
  unfold times rms mean
  pointwise [k0_pay1]

/-- The whole body. -/
theorem body_apply (o : FVec Ideal S128x1024 .f32) (h : FVec Ideal S128x1024 .f32) (w : FVec Ideal S1024x1024 .bf16) (g : FVec Ideal S1x1024 .f32)
    (wg wu : FVec Ideal S1x1024x2816 .bf16) (wd : FVec Ideal S1x2816x1024 .bf16) (f : FVec Ideal S1x1024 .f32) (r : Fin 128) (l : Fin 1024) :
    k0_pay1 (F := Ideal) (k0_pay2 (F := Ideal) o h w) (k0_pay4 (F := Ideal) o h w g wu) (k0_pay5 (F := Ideal) o h w g wg) wd f (ix2 r l)
      = rms (fun l => f (ix2 (0 : Fin 1) l)) (feed (fun l => g (ix2 (0 : Fin 1) l)) (fun k j => wg (ix3 (0 : Fin 1) k j)) (fun k j => wu (ix3 (0 : Fin 1) k j))
        (fun j l => wd (ix3 (0 : Fin 1) j l))
        (fun l => (h (ix2 r l) : EReal) + times (fun k : Fin 1024 => (o (ix2 r k) : EReal)) (fun k l => (w (ix2 k l) : EReal)) l)) l := by
  have e : ∀ l, k0_pay2 (F := Ideal) o h w (ix2 r l) = (h (ix2 r l) : EReal) + times (fun k : Fin 1024 => (o (ix2 r k) : EReal)) (fun k l => (w (ix2 k l) : EReal)) l :=
    fun l => projected_apply o h w r l
  refine (last_apply _ _ _ _ _ r l).trans (rms_congr (fun _ => rfl) (fun l => ?_) l)
  unfold feed
  refine congrArg₂ (fun a b : EReal => a + b) (e l) (times_congr (fun j => ?_) (fun _ _ => rfl) l)
  have n : (fun k => k0_pay3 (F := Ideal) o h w g (ix2 r k)) = rms (fun l => g (ix2 (0 : Fin 1) l)) (fun l => (h (ix2 r l) : EReal)
      + times (fun k : Fin 1024 => (o (ix2 r k) : EReal)) (fun k l => (w (ix2 k l) : EReal)) l) :=
    funext fun k => (normed_apply o h w g r k).trans (congrArg (fun x => rms _ x k) (funext e))
  unfold gated
  rw [← n]
  exact congrArg₂ (fun a b : EReal => a * b) (gate_apply o h w g wg r j) (up_apply o h w g wu r j)

/-! ## The array -/

variable (m : (ℓ : Loc nD τ sig) → Buf (Elt Ideal) ℓ)

/-- Every row of the result from that row of the arguments. -/
def rows (c : Dev nD) : FVec Ideal S128x1024 .f32 := fun i => sampled (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1)

theorem rows_apply (c : Dev nD) (r : Fin 128) (l : Fin 1024) : rows m c (ix2 r l) = sampled (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) r l := rfl

/-- A block's entry. -/
theorem entry (c : Dev nD) (t : Fin cfg0.N) (r : Fin 128) (l : Fin 1024) (ht : t.val < 1) :
    k0_pay1 (F := Ideal) (k0_pay2 (F := Ideal) (iblk m c 1 t) (iblk m c 0 t) (iblk m c 2 t))
      (k0_pay4 (F := Ideal) (iblk m c 1 t) (iblk m c 0 t) (iblk m c 2 t) (iblk m c 3 t) (View.ld (iblk m c 4 t) r0_4)) (k0_pay5 (F := Ideal) (iblk m c 1 t) (iblk m c 0 t) (iblk m c 2 t) (iblk m c 3 t) (View.ld (iblk m c 4 t) r0_3))
      (iblk m c 5 t) (iblk m c 6 t) (ix2 r l)
      = rows m c (ix2 ⟨t.val * 128 + r.val, by omega⟩ l) := by
  refine (body_apply _ _ _ _ _ _ _ _ r l).trans ?_
  rw [rows_apply]
  unfold sampled
  exact rms_congr (block6 m c t) (feed_congr (block3 m c t) (fun k j => (gate_load _ k j).trans (block4 m c t k _)) (fun k j => (up_load _ k j).trans (block4 m c t k _))
    (block5 m c t) (fun l => congrArg₂ (fun a b : EReal => a + b) (block0 m c t r l ht) (times_congr (fun k => block1 m c t r k ht) (block2 m c t) l))) l

/-- The array after the run. -/
theorem final (c : Dev nD) : (dats m 0 c).arrAt 7 cfg0.N = rows m c := by
  refine (dats m 0 c).arrAt_eq_of_covers 7 _ (by decide +kernel) fun t _ y => ?_
  blk_simp
  rw [after0_7]
  frame_out
  obtain ⟨r, l, rfl⟩ : ∃ (r : Fin 128) (l : Fin 1024), y = ix2 r l := ⟨y 0, y 1, eq_ix2 y⟩
  exact (entry m c t r l t.isLt).trans (congrArg (rows m c) (place t r l t.isLt)).symm

end Cert.FfnsIdeal.Rows
-- ==== Proof.Ffn.ReferenceS.lean ====
/- What the reference of the second feed-forward layer on the sampled steps computes: every row of its result from that row of its arguments. -/
module

public import proofs.«01_k».proof.Proof.Gen.RefFfnsIdeal
public import proofs.«01_k».proof.Proof.Gen.RefFfnsIdeal.Run
public import proofs.«01_k».proof.Proof.Ffn.Rows

@[expose] public section

set_option maxRecDepth 16384
set_option Elab.async false

noncomputable section

namespace Cert.RefFfnsIdeal.Rows

open Cert.RefFfnsIdeal Cert.RefFfnsIdeal.Gen Cert.Rows
open Idealize.ShloMosaic Idealize.ShloMosaic.TcCoe

/-! ## The program's values -/

/-- The residual with the attention's output projected. -/
def projected (h : FVec Ideal S128x1024 .f32) (o : FVec Ideal S128x1024 .f32) (w : FVec Ideal S1x1024x1024 .f32) : FVec Ideal S128x1024 .f32 :=
  addf h (Host.dotGeneral dot_S128x1024_S1024x1024_S128x1024_1_0_0_1_n_n none o
    (shapeCast _ w shapeCasts_S1x1024x1024_S1024x1024))

/-- The root-mean-square norm of every row. -/
def normed (x : FVec Ideal S128x1024 .f32) (g : FVec Ideal S1024 .f32) : FVec Ideal S128x1024 .f32 :=
  mulf (mulf x (broadcastInDim S128x1024 ![0, 1] bcast_S128x1_S128x1024_0_1 (Host.rsqrt (addf
      (Host.divf (broadcastInDim S128x1 ![0] bcast_S128_S128x1_0 (Host.reduceAdd (mulf x x) (constant S_ .f32 0x00000000#32) reducesTo_S128x1024_S128_d1 h_S_))
        (broadcastInDim S128x1 ![] bcast_S_S128x1 (constant S_ .f32 0x44800000#32)))
      (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The second layer's gains. -/
def gains (g : FVec Ideal S2x1024 .f32) : FVec Ideal S1024 .f32 :=
  shapeCast _ (extractStridedSlice S1x1024 ![1, 0] g slices_S2x1024_S1x1024_1_0) shapeCasts_S1x1024_S1024

/-- The normed rows times the gate's and the other factor's weights. -/
def widened (n : FVec Ideal S128x1024 .f32) (w : FVec Ideal S2x1024x5632 .f32) : FVec Ideal S128x5632 .f32 :=
  Host.dotGeneral dot_S128x1024_S1024x5632_S128x5632_1_0_0_1_n_n none n
    (shapeCast _ (extractStridedSlice S1x1024x5632 ![1, 0, 0] w slices_S2x1024x5632_S1x1024x5632_1_0_0) shapeCasts_S1x1024x5632_S1024x5632)

/-- silu of the gate times the other factor. -/
def product (y : FVec Ideal S128x5632 .f32) : FVec Ideal S128x2816 .f32 :=
  mulf (mulf (extractStridedSlice S128x2816 ![0, 0] y slices_S128x5632_S128x2816_0_0)
      (Host.divf (broadcastInDim S128x2816 ![] bcast_S_S128x2816 (constant S_ .f32 0x3F800000#32))
        (addf (broadcastInDim S128x2816 ![] bcast_S_S128x2816 (constant S_ .f32 0x3F800000#32))
          (Host.exp (Host.negf (extractStridedSlice S128x2816 ![0, 0] y slices_S128x5632_S128x2816_0_0))))))
    (extractStridedSlice S128x2816 ![0, 2816] y slices_S128x5632_S128x2816_0_2816)

/-- The residual with the feed-forward's result. -/
def fed (x : FVec Ideal S128x1024 .f32) (p : FVec Ideal S128x2816 .f32) (w : FVec Ideal S2x2816x1024 .f32) : FVec Ideal S128x1024 .f32 :=
  addf x (Host.dotGeneral dot_S128x2816_S2816x1024_S128x1024_1_0_0_1_n_n none p
    (shapeCast _ (extractStridedSlice S1x2816x1024 ![1, 0, 0] w slices_S2x2816x1024_S1x2816x1024_1_0_0) shapeCasts_S1x2816x1024_S2816x1024))

/-- The layer on the rows `x`. -/
def feeding (x : FVec Ideal S128x1024 .f32) (g : FVec Ideal S2x1024 .f32) (wu : FVec Ideal S2x1024x5632 .f32) (wd : FVec Ideal S2x2816x1024 .f32) :
    FVec Ideal S128x1024 .f32 :=
  fed x (product (widened (normed x (gains g)) wu)) wd

theorem result_eq (m : (ℓ : Loc nD τ sig) → Buf (Elt Ideal) ℓ) (c : Dev nD) :
    Value.res_out0 m c = normed (feeding (projected (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5))) (m ((c.tc : Thread nD τ).loc main_arg6)) := rfl

/-! ## A row of each -/

theorem projected_apply (h : FVec Ideal S128x1024 .f32) (o : FVec Ideal S128x1024 .f32) (w : FVec Ideal S1x1024x1024 .f32) (r : Fin 128) (l : Fin 1024) :
    projected h o w (ix2 r l) = (h (ix2 r l) : EReal) + times (fun k : Fin 1024 => (o (ix2 r k) : EReal)) (fun k l => (w (ix3 (0 : Fin 1) k l) : EReal)) l := by
  unfold times
  pointwise [projected]

theorem normed_apply (x : FVec Ideal S128x1024 .f32) (g : FVec Ideal S1024 .f32) (r : Fin 128) (l : Fin 1024) :
    normed x g (ix2 r l) = rms (fun l => g (ix1 l)) (fun l => x (ix2 r l)) l := by
  unfold rms mean
  pointwise [normed]

theorem gains_apply (g : FVec Ideal S2x1024 .f32) (l : Fin 1024) : gains g (ix1 l) = g (ix2 (1 : Fin 2) l) := by
  pointwise [gains]

theorem widened_apply (n : FVec Ideal S128x1024 .f32) (w : FVec Ideal S2x1024x5632 .f32) (r : Fin 128) (j : Fin 5632) :
    widened n w (ix2 r j) = times (fun k : Fin 1024 => (n (ix2 r k) : EReal)) (fun k j => (w (ix3 (1 : Fin 2) k j) : EReal)) j := by
  unfold times
  pointwise [widened]

theorem product_apply (y : FVec Ideal S128x5632 .f32) (r : Fin 128) (j : Fin 2816) :
    product y (ix2 r j) = silu (y (ix2 r ⟨j.val, by omega⟩)) * y (ix2 r ⟨2816 + j.val, by omega⟩) := by
  unfold silu
  pointwise [product]

theorem fed_apply (x : FVec Ideal S128x1024 .f32) (p : FVec Ideal S128x2816 .f32) (w : FVec Ideal S2x2816x1024 .f32) (r : Fin 128) (l : Fin 1024) :
    fed x p w (ix2 r l) = (x (ix2 r l) : EReal) + times (fun j : Fin 2816 => (p (ix2 r j) : EReal)) (fun j l => (w (ix3 (1 : Fin 2) j l) : EReal)) l := by
  unfold times
  pointwise [fed]

/-- A row of the layer's result, from that row. -/
theorem feeding_apply (x : FVec Ideal S128x1024 .f32) (g : FVec Ideal S2x1024 .f32) (wu : FVec Ideal S2x1024x5632 .f32) (wd : FVec Ideal S2x2816x1024 .f32)
    (r : Fin 128) (l : Fin 1024) :
    feeding x g wu wd (ix2 r l) = feed (fun l => g (ix2 (1 : Fin 2) l)) (fun k j => wu (ix3 (1 : Fin 2) k ⟨j.val, by omega⟩))
      (fun k j => wu (ix3 (1 : Fin 2) k ⟨2816 + j.val, by omega⟩)) (fun j l => wd (ix3 (1 : Fin 2) j l)) (fun l => x (ix2 r l)) l := by
  refine (fed_apply x _ wd r l).trans (congrArg (fun s : EReal => (x (ix2 r l) : EReal) + s) (congrArg (fun f => times f _ l) (funext fun j => ?_)))
  rw [product_apply, widened_apply, widened_apply]
  simp only [normed_apply, gains_apply]
  rfl

/-- A row of the result, from that row of the arguments. -/
theorem result_apply (h : FVec Ideal S128x1024 .f32) (o : FVec Ideal S128x1024 .f32) (w : FVec Ideal S1x1024x1024 .f32) (g : FVec Ideal S2x1024 .f32)
    (wu : FVec Ideal S2x1024x5632 .f32) (wd : FVec Ideal S2x2816x1024 .f32) (f : FVec Ideal S1024 .f32) (r : Fin 128) (l : Fin 1024) :
    normed (feeding (projected h o w) g wu wd) f (ix2 r l) = sampled h o w g wu wd f r l := by
  rw [normed_apply]
  simp only [feeding_apply, projected_apply]
  rfl

end Cert.RefFfnsIdeal.Rows
-- ==== Proof.Ffn.EqualS.lean ====
/- The second feed-forward layer on the sampled steps: the kernel's result is the reference's, at extended reals. -/
module

public import proofs.«01_k».proof.Defs
public import proofs.«01_k».proof.Proof.Gen.Ffns.Frame
public import proofs.«01_k».proof.Proof.Gen.FfnsIdeal.Frame
public import proofs.«01_k».proof.Proof.Gen.FfnsIdeal.Value
public import proofs.«01_k».proof.Proof.Gen.RefFfnsIdeal.Run
public import proofs.«01_k».proof.Proof.Ffn.KernelS
public import proofs.«01_k».proof.Proof.Ffn.ReferenceS
public import Idealize.ShloMosaic.Adequacy
public import Idealize.ShloMosaic.Init

@[expose] public section

set_option Elab.async false

noncomputable section

namespace Cert.LayerS

open Idealize.ShloMosaic Idealize.SL.Sem

/-- The reference of the second layer on the sampled steps runs to its end, returns its arguments unchanged and leaves every semaphore at zero. -/
theorem reference_frame : Cert.quiescent_RefFfnsIdeal (hRefFfnsIdeal := Cert.RefFfnsIdeal.Gen.facts) :=
  fun m ρ _ => (θ_run Cert.RefFfnsIdeal.defs _ _).mono (fun r h => ⟨fun c => (h c).2, sem_eq_zero_of_no_sems (by decide) r.2⟩)
    (Cert.RefFfnsIdeal.Value.run m ρ)

/-- From equal arguments the reference's result is the array the kernel leaves. -/
theorem same (m : (ℓ : Loc Cert.FfnsIdeal.nD Cert.FfnsIdeal.τ Cert.FfnsIdeal.sig) → Buf (Elt Ideal) ℓ) (c : Dev Cert.FfnsIdeal.nD) :
    Cert.RefFfnsIdeal.Rows.normed (Cert.RefFfnsIdeal.Rows.feeding (Cert.RefFfnsIdeal.Rows.projected (m ((c.tc : Thread Cert.FfnsIdeal.nD Cert.FfnsIdeal.τ).loc Cert.FfnsIdeal.main_arg0)) (m ((c.tc : Thread Cert.FfnsIdeal.nD Cert.FfnsIdeal.τ).loc Cert.FfnsIdeal.main_arg1)) (m ((c.tc : Thread Cert.FfnsIdeal.nD Cert.FfnsIdeal.τ).loc Cert.FfnsIdeal.main_arg2))) (m ((c.tc : Thread Cert.FfnsIdeal.nD Cert.FfnsIdeal.τ).loc Cert.FfnsIdeal.main_arg3)) (m ((c.tc : Thread Cert.FfnsIdeal.nD Cert.FfnsIdeal.τ).loc Cert.FfnsIdeal.main_arg4)) (m ((c.tc : Thread Cert.FfnsIdeal.nD Cert.FfnsIdeal.τ).loc Cert.FfnsIdeal.main_arg5))) (m ((c.tc : Thread Cert.FfnsIdeal.nD Cert.FfnsIdeal.τ).loc Cert.FfnsIdeal.main_arg6)) = Cert.FfnsIdeal.Rows.rows m c := by
  refine funext fun i => ?_
  obtain ⟨r, l, rfl⟩ : ∃ (r : Fin 128) (l : Fin 1024), i = ix2 r l := ⟨i 0, i 1, eq_ix2 i⟩
  exact (Cert.RefFfnsIdeal.Rows.result_apply _ _ _ _ _ _ _ r l).trans (Cert.FfnsIdeal.Rows.rows_apply m c r l).symm

/-- From equal arguments the kernel of the second layer on the sampled steps and its reference end with equal results, at extended reals. -/
theorem equal : Cert.algebraic_FfnsIdeal_RefFfnsIdeal (hFfnsIdeal := Cert.FfnsIdeal.Gen.facts) (hRefFfnsIdeal := Cert.RefFfnsIdeal.Gen.facts) := by
  intro m ρ m' ρ' _ ha
  refine ⟨fun c => Cert.FfnsIdeal.Rows.rows m c, ?_, ?_⟩
  · refine (θ_run Cert.FfnsIdeal.defs _ _).mono (fun r h c => ?_) (Cert.FfnsIdeal.Value.run_blocks m ρ)
    exact ⟨(h c).1.trans (Cert.FfnsIdeal.Rows.final m c), (h c).2⟩
  · refine (θ_run Cert.RefFfnsIdeal.defs _ _).mono (fun r h c => ?_) (Cert.RefFfnsIdeal.Value.run m' ρ')
    refine ⟨((h c).1.trans (Cert.RefFfnsIdeal.Rows.result_eq m' c)).trans ?_, (h c).2⟩
    obtain ⟨h0, h1, h2, h3, h4, h5, h6⟩ := ha c
    rw [h0, h1, h2, h3, h4, h5, h6]
    exact same m c

end Cert.LayerS

end
-- ==== Proof.Proj.Columns.lean ====
/- The projections of the attention layer an entry at a time: a column of the normed row times the weights, and the logarithm
   of the logistic, in the form the kernel computes and in the form of its reference. -/
module

public import proofs.«01_k».proof.Proof.Ffn.Rows

@[expose] public section

noncomputable section

namespace Cert.Rows

open Idealize.ShloMosaic

/-- The logarithm of the logistic of a number: its minimum with zero, less `log (1 + exp (-|x|))`. -/
def gate (x : EReal) : EReal := min x 0 - Ideal.log1p (Ideal.exp (-(max x (-x))))

/-- The row `r`, normed, times the column `j` of the projection's weights. -/
def column {n : ℕ} (h : FVec Ideal ⟨2, ![n, 1024]⟩ .f32) (g : FVec Ideal ⟨2, ![2, 1024]⟩ .f32) (w : FVec Ideal ⟨3, ![1, 1024, 3088]⟩ .f32)
    (r : Fin n) (j : Fin 3088) : EReal :=
  times (rms (fun l => g (ix2 (1 : Fin 2) l)) (fun l => h (ix2 r l))) (fun k j => w (ix3 (0 : Fin 1) k j)) j

/-- The key `j` of the row `r`. -/
def key {n : ℕ} (h : FVec Ideal ⟨2, ![n, 1024]⟩ .f32) (g : FVec Ideal ⟨2, ![2, 1024]⟩ .f32) (w : FVec Ideal ⟨3, ![1, 1024, 3088]⟩ .f32)
    (r : Fin n) (j : Fin 1024) : EReal := column h g w r ⟨1024 + j.val, by omega⟩

/-- The value `j` of the row `r`. -/
def value {n : ℕ} (h : FVec Ideal ⟨2, ![n, 1024]⟩ .f32) (g : FVec Ideal ⟨2, ![2, 1024]⟩ .f32) (w : FVec Ideal ⟨3, ![1, 1024, 3088]⟩ .f32)
    (r : Fin n) (j : Fin 1024) : EReal := column h g w r ⟨2048 + j.val, by omega⟩

/-- The logarithm of head `d`'s forget gate at the row `r`. -/
def forget {n : ℕ} (h : FVec Ideal ⟨2, ![n, 1024]⟩ .f32) (g : FVec Ideal ⟨2, ![2, 1024]⟩ .f32) (w : FVec Ideal ⟨3, ![1, 1024, 3088]⟩ .f32)
    (b : FVec Ideal ⟨2, ![1, 16]⟩ .f32) (r : Fin n) (d : Fin 16) : EReal :=
  gate (column h g w r ⟨3072 + d.val, by omega⟩ + b (ix2 (0 : Fin 1) d))

/-- Two products at two columns are equal when the rows and the columns are. -/
theorem times_at {n k k' : ℕ} {x x' : Fin n → EReal} {w : Fin n → Fin k → EReal} {w' : Fin n → Fin k' → EReal} {j : Fin k} {j' : Fin k'}
    (hx : ∀ i, x i = x' i) (hw : ∀ i, w i j = w' i j') : times x w j = times x' w' j' :=
  Finset.sum_congr rfl fun i _ => congrArg₂ (fun a b : EReal => a * b) (hx i) (hw i)

/-- `log (1 + exp z)` is above minus infinity. -/
theorem log1p_exp_ne_bot (z : EReal) : Ideal.log1p (Ideal.exp z) ≠ ⊥ := by
  induction z using EReal.rec with
  | bot => simp [Ideal.log1p, ← EReal.coe_one]
  | top => simp [Ideal.log1p, ← EReal.coe_one]
  | coe r =>
    have h : ¬ (1 + Real.exp r ≤ 0) := not_le.mpr (by positivity)
    rw [Ideal.log1p, Ideal.exp_coe, ← EReal.coe_one, ← EReal.coe_add, Ideal.log_coe, if_neg h]
    exact EReal.coe_ne_bot _

/-- The reference's form: minus the sum of `max (-x) 0` and `log (1 + exp (-|x|))`. -/
theorem gate_eq (x : EReal) : -(max (-x) 0 + Ideal.log1p (Ideal.exp (-(max (-x) (- -x))))) = gate x := by
  unfold gate
  rw [neg_neg, max_comm (-x) x]
  have hm : -(max (-x) 0) = min x 0 := by
    rcases le_total x 0 with h | h
    · rw [max_eq_left (EReal.le_neg_of_le_neg (by rwa [neg_zero])), neg_neg, min_eq_left h]
    · rw [max_eq_right (EReal.neg_le_of_neg_le (by rwa [neg_zero])), min_eq_right h, neg_zero]
  rw [EReal.neg_add (Or.inl (ne_of_gt (lt_of_lt_of_le EReal.bot_lt_zero (le_max_right _ _)))) (Or.inr (log1p_exp_ne_bot _)), hm]

end Cert.Rows
-- ==== Proof.Proj.KernelP.lean ====
/- What the kernel of the projections of the prompt computes: every key, value and forget gate from its row. -/
module

public import proofs.«01_k».proof.Proof.Gen.ProjIdeal.Value
public import proofs.«01_k».proof.Proof.Proj.Columns

@[expose] public section

set_option maxRecDepth 16384
set_option Elab.async false

noncomputable section

namespace Cert.ProjIdeal.Rows

open Cert.ProjIdeal Cert.ProjIdeal.Gen Cert.Rows
open Idealize.ShloMosaic Idealize.ShloMosaic.TcCoe
open Idealize.ShloMosaic.Pipeline (Dat)

/-! ## The body on its blocks -/

/-- The normed rows. -/
theorem normed_apply (x : FVec Ideal S1x512x1024 .f32) (g : FVec Ideal S1x1024 .f32) (r : Fin 512) (l : Fin 1024) :
    k0_pay1 (F := Ideal) x g (ix2 r l) = rms (fun l => g (ix2 (0 : Fin 1) l)) (fun l => x (ix3 (0 : Fin 1) r l)) l := by
  unfold rms mean
  pointwise [k0_pay1]

/-- The projection's weights times the normed rows. -/
theorem all_apply (x : FVec Ideal S1x512x1024 .f32) (g : FVec Ideal S1x1024 .f32) (w : FVec Ideal S3072x1024 .bf16) (j : Fin 3072) (r : Fin 512) :
    k0_pay2 (F := Ideal) x g w (ix2 j r) = times (fun k => k0_pay1 (F := Ideal) x g (ix2 r k)) (fun k j => w (ix2 j k)) j := by
  unfold times
  unfold k0_pay2
  generalize k0_pay1 (F := Ideal) x g = n
  pointwise []
  exact Finset.sum_congr rfl fun k _ => mul_comm _ _

/-- The same, from the rows. -/
theorem all_rows (x : FVec Ideal S1x512x1024 .f32) (g : FVec Ideal S1x1024 .f32) (w : FVec Ideal S3072x1024 .bf16) (j : Fin 3072) (r : Fin 512) :
    k0_pay2 (F := Ideal) x g w (ix2 j r)
      = times (rms (fun l => g (ix2 (0 : Fin 1) l)) (fun l => x (ix3 (0 : Fin 1) r l))) (fun k j => w (ix2 j k)) j :=
  (all_apply x g w j r).trans (times_congr (fun k => normed_apply x g r k) (fun _ _ => rfl) j)

/-- The keys' part. -/
theorem keys_apply (x : FVec Ideal S1x512x1024 .f32) (g : FVec Ideal S1x1024 .f32) (w : FVec Ideal S3072x1024 .bf16) (j : Fin 1024) (r : Fin 512) :
    k0_pay3 (F := Ideal) x g w (ix3 (0 : Fin 1) j r) = k0_pay2 (F := Ideal) x g w (ix2 ⟨1024 + j.val, by omega⟩ r) := by
  unfold k0_pay3
  generalize k0_pay2 (F := Ideal) x g w = n
  pointwise []

/-- The values' part. -/
theorem values_apply (x : FVec Ideal S1x512x1024 .f32) (g : FVec Ideal S1x1024 .f32) (w : FVec Ideal S3072x1024 .bf16) (j : Fin 1024) (r : Fin 512) :
    k0_pay4 (F := Ideal) x g w (ix3 (0 : Fin 1) j r) = k0_pay2 (F := Ideal) x g w (ix2 ⟨2048 + j.val, by omega⟩ r) := by
  unfold k0_pay4
  generalize k0_pay2 (F := Ideal) x g w = n
  pointwise []

/-- The gates' weights times the normed rows. -/
theorem products_apply (x : FVec Ideal S1x512x1024 .f32) (g : FVec Ideal S1x1024 .f32) (w : FVec Ideal S16x1024 .bf16) (d : Fin 16) (r : Fin 512) :
    k0_pay5 (F := Ideal) x g w (ix2 d r) = times (fun k => k0_pay1 (F := Ideal) x g (ix2 r k)) (fun k d => w (ix2 d k)) d := by
  unfold times
  unfold k0_pay5
  generalize k0_pay1 (F := Ideal) x g = n
  pointwise []
  exact Finset.sum_congr rfl fun k _ => mul_comm _ _

/-- The gates' offsets. -/
theorem offsets_apply (b : FVec Ideal S16x1 .f32) (d : Fin 16) (r : Fin 512) : k0_pay6 (F := Ideal) b (ix2 d r) = b (ix2 d (0 : Fin 1)) := by
  pointwise [k0_pay6]

/-- The gates. -/
theorem gates_apply (p o : FVec Ideal S16x512 .f32) (d : Fin 16) (r : Fin 512) :
    k0_pay7 (F := Ideal) p o (ix3 (0 : Fin 1) d r) = gate ((p (ix2 d r) : EReal) + o (ix2 d r)) := by
  unfold gate
  pointwise [k0_pay7]
  simp only [zero_sub]
  rfl

/-! ## The blocks -/

variable (m : (ℓ : Loc nD τ sig) → Buf (Elt Ideal) ℓ)

/-- Every window's block, at every grid point. -/
theorem index_eq : ∀ t : Fin cfg0.N, win0_0.index t = ![t.val / 16, t.val % 16, 0] ∧ win0_1.index t = ![0, 0] ∧ win0_2.index t = ![0, 0] ∧ win0_3.index t = ![0, 0]
    ∧ win0_4.index t = ![0, 0] ∧ win0_5.index t = ![t.val / 16, 0, t.val % 16] ∧ win0_6.index t = ![t.val / 16, 0, t.val % 16] ∧ win0_7.index t = ![t.val / 16, 0, t.val % 16] :=
  (by decide +kernel : ∀ t : Fin grid0.N, _)

theorem block0 (c : Dev nD) (t : Fin cfg0.N) (r : Fin 512) (l : Fin 1024) (h : t.val < 32) :
    iblk m c 0 t (ix3 (0 : Fin 1) r l) = m ((c : Thread nD τ).loc main_arg0) (ix2 ⟨t.val / 16 * 8192 + (t.val % 16 * 512 + r.val), by omega⟩ l) := by
  blk_simp [iblk, index_eq t]
  entry_read
  pointwise []
  blk_ext [index_eq t]

theorem block1 (c : Dev nD) (t : Fin cfg0.N) (l : Fin 1024) :
    iblk m c 1 t (ix2 (0 : Fin 1) l) = m ((c : Thread nD τ).loc main_arg1) (ix2 (1 : Fin 2) l) := by
  blk_simp [iblk, index_eq t]
  entry_read
  pointwise []
  blk_ext [index_eq t]

theorem block2 (c : Dev nD) (t : Fin cfg0.N) (j : Fin 3072) (k : Fin 1024) :
    iblk m c 2 t (ix2 j k) = m ((c : Thread nD τ).loc main_arg2) (ix3 (0 : Fin 1) k ⟨j.val, by omega⟩) := by
  blk_simp [iblk, index_eq t]
  entry_read
  pointwise []
  blk_ext [index_eq t]

theorem block3 (c : Dev nD) (t : Fin cfg0.N) (d : Fin 16) (k : Fin 1024) :
    iblk m c 3 t (ix2 d k) = m ((c : Thread nD τ).loc main_arg2) (ix3 (0 : Fin 1) k ⟨3072 + d.val, by omega⟩) := by
  blk_simp [iblk, index_eq t]
  entry_read
  pointwise []
  blk_ext [index_eq t]

theorem block4 (c : Dev nD) (t : Fin cfg0.N) (d : Fin 16) :
    iblk m c 4 t (ix2 d (0 : Fin 1)) = m ((c : Thread nD τ).loc main_arg3) (ix2 (0 : Fin 1) d) := by
  blk_simp [iblk, index_eq t]
  entry_read
  pointwise []
  blk_ext [index_eq t]

/-- Where an output block's entry lies. -/
theorem place5 (t : Fin cfg0.N) (j : Fin 1024) (r : Fin 512) (h : t.val < 32) :
    (((cfg0.win 5).blk t).view.emb (ix3 (0 : Fin 1) j r) : S2x1024x8192.Idx) = ix3 ⟨t.val / 16, by omega⟩ j ⟨t.val % 16 * 512 + r.val, by omega⟩ := by
  blk_ext [index_eq t]

theorem place6 (t : Fin cfg0.N) (j : Fin 1024) (r : Fin 512) (h : t.val < 32) :
    (((cfg0.win 6).blk t).view.emb (ix3 (0 : Fin 1) j r) : S2x1024x8192.Idx) = ix3 ⟨t.val / 16, by omega⟩ j ⟨t.val % 16 * 512 + r.val, by omega⟩ := by
  blk_ext [index_eq t]

theorem place7 (t : Fin cfg0.N) (d : Fin 16) (r : Fin 512) (h : t.val < 32) :
    (((cfg0.win 7).blk t).view.emb (ix3 (0 : Fin 1) d r) : S2x16x8192.Idx) = ix3 ⟨t.val / 16, by omega⟩ d ⟨t.val % 16 * 512 + r.val, by omega⟩ := by
  blk_ext [index_eq t]

/-! ## The arrays -/

/-- The row of the sequence `a`'s position `r`. -/
def row (a : Fin 2) (r : Fin 8192) : Fin 16384 := ⟨a.val * 8192 + r.val, by omega⟩

/-- The keys of every row, positions last. -/
def keys (c : Dev nD) : FVec Ideal S2x1024x8192 .f32 := fun i =>
  key (m ((c : Thread nD τ).loc main_arg0)) (m ((c : Thread nD τ).loc main_arg1)) (m ((c : Thread nD τ).loc main_arg2)) (row (i 0) (i 2)) (i 1)

/-- The values of every row, positions last. -/
def values (c : Dev nD) : FVec Ideal S2x1024x8192 .f32 := fun i =>
  value (m ((c : Thread nD τ).loc main_arg0)) (m ((c : Thread nD τ).loc main_arg1)) (m ((c : Thread nD τ).loc main_arg2)) (row (i 0) (i 2)) (i 1)

/-- The forget gates of every row, positions last. -/
def gates (c : Dev nD) : FVec Ideal S2x16x8192 .f32 := fun i =>
  forget (m ((c : Thread nD τ).loc main_arg0)) (m ((c : Thread nD τ).loc main_arg1)) (m ((c : Thread nD τ).loc main_arg2)) (m ((c : Thread nD τ).loc main_arg3)) (row (i 0) (i 2)) (i 1)

theorem keys_at (c : Dev nD) (a : Fin 2) (j : Fin 1024) (r : Fin 8192) : keys m c (ix3 a j r) = key (m ((c : Thread nD τ).loc main_arg0)) (m ((c : Thread nD τ).loc main_arg1)) (m ((c : Thread nD τ).loc main_arg2)) ⟨a.val * 8192 + r.val, by omega⟩ j := rfl
theorem values_at (c : Dev nD) (a : Fin 2) (j : Fin 1024) (r : Fin 8192) : values m c (ix3 a j r) = value (m ((c : Thread nD τ).loc main_arg0)) (m ((c : Thread nD τ).loc main_arg1)) (m ((c : Thread nD τ).loc main_arg2)) ⟨a.val * 8192 + r.val, by omega⟩ j := rfl
theorem gates_at (c : Dev nD) (a : Fin 2) (d : Fin 16) (r : Fin 8192) : gates m c (ix3 a d r) = forget (m ((c : Thread nD τ).loc main_arg0)) (m ((c : Thread nD τ).loc main_arg1)) (m ((c : Thread nD τ).loc main_arg2)) (m ((c : Thread nD τ).loc main_arg3)) ⟨a.val * 8192 + r.val, by omega⟩ d := rfl

theorem key_entry (c : Dev nD) (t : Fin cfg0.N) (j : Fin 1024) (r : Fin 512) (h : t.val < 32) :
    k0_pay3 (F := Ideal) (iblk m c 0 t) (iblk m c 1 t) (iblk m c 2 t) (ix3 (0 : Fin 1) j r) = keys m c (ix3 ⟨t.val / 16, by omega⟩ j ⟨t.val % 16 * 512 + r.val, by omega⟩) := by
  refine ((keys_apply _ _ _ j r).trans (all_rows _ _ _ _ r)).trans ?_
  rw [keys_at]
  unfold key column
  exact times_at (fun k => rms_congr (block1 m c t) (fun l => block0 m c t r l h) k) (fun k => block2 m c t _ k)

theorem value_entry (c : Dev nD) (t : Fin cfg0.N) (j : Fin 1024) (r : Fin 512) (h : t.val < 32) :
    k0_pay4 (F := Ideal) (iblk m c 0 t) (iblk m c 1 t) (iblk m c 2 t) (ix3 (0 : Fin 1) j r) = values m c (ix3 ⟨t.val / 16, by omega⟩ j ⟨t.val % 16 * 512 + r.val, by omega⟩) := by
  refine ((values_apply _ _ _ j r).trans (all_rows _ _ _ _ r)).trans ?_
  rw [values_at]
  unfold value column
  exact times_at (fun k => rms_congr (block1 m c t) (fun l => block0 m c t r l h) k) (fun k => block2 m c t _ k)

theorem gate_entry (c : Dev nD) (t : Fin cfg0.N) (d : Fin 16) (r : Fin 512) (h : t.val < 32) :
    k0_pay7 (F := Ideal) (k0_pay5 (F := Ideal) (iblk m c 0 t) (iblk m c 1 t) (iblk m c 3 t)) (k0_pay6 (F := Ideal) (iblk m c 4 t)) (ix3 (0 : Fin 1) d r)
      = gates m c (ix3 ⟨t.val / 16, by omega⟩ d ⟨t.val % 16 * 512 + r.val, by omega⟩) := by
  refine (gates_apply _ _ d r).trans ?_
  rw [gates_at]
  unfold forget column
  exact congrArg gate (congrArg₂ (fun a b : EReal => a + b)
    ((products_apply _ _ _ d r).trans (times_at (fun k => (normed_apply _ _ r k).trans (rms_congr (block1 m c t) (fun l => block0 m c t r l h) k)) (fun k => block3 m c t d k)))
    ((offsets_apply _ d r).trans (block4 m c t d)))

/-- The keys after the run. -/
theorem keys_final (c : Dev nD) : (dats m 0 c).arrAt 5 cfg0.N = keys m c := by
  refine (dats m 0 c).arrAt_eq_of_covers 5 _ (by decide +kernel) fun t _ y => ?_
  blk_simp
  rw [after0_5]
  unfold outsAt0
  frame_out
  obtain ⟨z, j, r, rfl⟩ : ∃ (z : Fin 1) (j : Fin 1024) (r : Fin 512), y = ix3 z j r := ⟨y 0, y 1, y 2, eq_ix3 y⟩
  obtain rfl : z = 0 := Subsingleton.elim _ _
  exact (key_entry m c t j r t.isLt).trans (congrArg (keys m c) (place5 t j r t.isLt)).symm

/-- The values after the run. -/
theorem values_final (c : Dev nD) : (dats m 0 c).arrAt 6 cfg0.N = values m c := by
  refine (dats m 0 c).arrAt_eq_of_covers 6 _ (by decide +kernel) fun t _ y => ?_
  blk_simp
  rw [after0_6]
  unfold outsAt0
  frame_out
  obtain ⟨z, j, r, rfl⟩ : ∃ (z : Fin 1) (j : Fin 1024) (r : Fin 512), y = ix3 z j r := ⟨y 0, y 1, y 2, eq_ix3 y⟩
  obtain rfl : z = 0 := Subsingleton.elim _ _
  exact (value_entry m c t j r t.isLt).trans (congrArg (values m c) (place6 t j r t.isLt)).symm

/-- The gates after the run. -/
theorem gates_final (c : Dev nD) : (dats m 0 c).arrAt 7 cfg0.N = gates m c := by
  refine (dats m 0 c).arrAt_eq_of_covers 7 _ (by decide +kernel) fun t _ y => ?_
  blk_simp
  rw [after0_7]
  unfold outsAt0
  frame_out
  obtain ⟨z, d, r, rfl⟩ : ∃ (z : Fin 1) (d : Fin 16) (r : Fin 512), y = ix3 z d r := ⟨y 0, y 1, y 2, eq_ix3 y⟩
  obtain rfl : z = 0 := Subsingleton.elim _ _
  exact (gate_entry m c t d r t.isLt).trans (congrArg (gates m c) (place7 t d r t.isLt)).symm

end Cert.ProjIdeal.Rows
-- ==== Proof.Proj.ReferenceP.lean ====
/- What the reference of the projections of the prompt computes: every key, value and forget gate from its row. -/
module

public import proofs.«01_k».proof.Proof.Gen.RefProjIdeal
public import proofs.«01_k».proof.Proof.Gen.RefProjIdeal.Run
public import proofs.«01_k».proof.Proof.Proj.Columns

@[expose] public section

set_option maxRecDepth 16384
set_option Elab.async false

noncomputable section

namespace Cert.RefProjIdeal.Rows

open Cert.RefProjIdeal Cert.RefProjIdeal.Gen Cert.Rows
open Idealize.ShloMosaic Idealize.ShloMosaic.TcCoe

/-! ## The program's values -/

/-- The root-mean-square norm of every row, with the second layer's gains. -/
def normed (x : FVec Ideal S16384x1024 .f32) (g : FVec Ideal S2x1024 .f32) : FVec Ideal S2x8192x1024 .f32 :=
  mulf (mulf (shapeCast _ x shapeCasts_S16384x1024_S2x8192x1024) (broadcastInDim S2x8192x1024 ![0, 1, 2] bcast_S2x8192x1_S2x8192x1024_0_1_2 (Host.rsqrt (addf
      (Host.divf (broadcastInDim S2x8192x1 ![0, 1] bcast_S2x8192_S2x8192x1_0_1 (Host.reduceAdd
          (mulf (shapeCast _ x shapeCasts_S16384x1024_S2x8192x1024) (shapeCast _ x shapeCasts_S16384x1024_S2x8192x1024))
          (constant S_ .f32 0x00000000#32) reducesTo_S2x8192x1024_S2x8192_d2 h_S_))
        (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2
      (shapeCast _ (extractStridedSlice S1x1024 ![1, 0] g slices_S2x1024_S1x1024_1_0) shapeCasts_S1x1024_S1024)))

/-- The normed rows times the projection's weights. -/
def columns (x : FVec Ideal S16384x1024 .f32) (g : FVec Ideal S2x1024 .f32) (w : FVec Ideal S1x1024x3088 .f32) : FVec Ideal S2x8192x3088 .f32 :=
  Host.dotGeneral dot_S2x8192x1024_S1024x3088_S2x8192x3088_2_0_01_1_n_n none (normed x g) (shapeCast _ w shapeCasts_S1x1024x3088_S1024x3088)

/-- The keys' columns, positions last. -/
def keys (p : FVec Ideal S2x8192x3088 .f32) : FVec Ideal S2x1024x8192 .f32 :=
  transpose S2x1024x8192 [0, 2, 1] (extractStridedSlice S2x8192x1024 ![0, 0, 1024] p slices_S2x8192x3088_S2x8192x1024_0_0_1024) transposes_S2x8192x1024_S2x1024x8192_0_2_1

/-- The values' columns, positions last. -/
def values (p : FVec Ideal S2x8192x3088 .f32) : FVec Ideal S2x1024x8192 .f32 :=
  transpose S2x1024x8192 [0, 2, 1] (extractStridedSlice S2x8192x1024 ![0, 0, 2048] p slices_S2x8192x3088_S2x8192x1024_0_0_2048) transposes_S2x8192x1024_S2x1024x8192_0_2_1

/-- The gates' columns with their offsets. -/
def logits (p : FVec Ideal S2x8192x3088 .f32) (b : FVec Ideal S1x16 .f32) : FVec Ideal S2x8192x16 .f32 :=
  addf (extractStridedSlice S2x8192x16 ![0, 0, 3072] p slices_S2x8192x3088_S2x8192x16_0_0_3072)
    (broadcastInDim S2x8192x16 ![0, 1, 2] bcast_S1x1x16_S2x8192x16_0_1_2 (broadcastInDim S1x1x16 ![2] bcast_S16_S1x1x16_2 (shapeCast _ b shapeCasts_S1x16_S16)))

/-- The zeros the logarithm of the logistic is computed with. -/
def zeros : FVec Ideal S2x8192x16 .f32 := broadcastInDim S2x8192x16 ![] bcast_S_S2x8192x16 (constant S_ .f32 0x00000000#32)

/-- The logarithm of the logistic of every number, positions last. -/
def gates (x : FVec Ideal S2x8192x16 .f32) : FVec Ideal S2x16x8192 .f32 :=
  transpose S2x16x8192 [0, 2, 1] (Host.negf (select
    (cmpf .une (subf (Host.negf x) zeros) (subf (Host.negf x) zeros)) (addf (Host.negf x) zeros)
    (addf (maximumf (Host.negf x) zeros) (Host.log1p (Host.exp (Host.negf (Host.absf (subf (Host.negf x) zeros)))))))) transposes_S2x8192x16_S2x16x8192_0_2_1

theorem gates_eq (m : (ℓ : Loc nD τ sig) → Buf (Elt Ideal) ℓ) (c : Dev nD) :
    Value.res_out2 m c = gates (logits (columns (m ((c.tc : Thread nD τ).loc main_arg0)) (m ((c.tc : Thread nD τ).loc main_arg1)) (m ((c.tc : Thread nD τ).loc main_arg2)))
      (m ((c.tc : Thread nD τ).loc main_arg3))) := rfl

/-! ## An entry of each -/

theorem normed_apply (x : FVec Ideal S16384x1024 .f32) (g : FVec Ideal S2x1024 .f32) (a : Fin 2) (r : Fin 8192) (l : Fin 1024) :
    normed x g (ix3 a r l) = rms (fun l => g (ix2 (1 : Fin 2) l)) (fun l => x (ix2 ⟨a.val * 8192 + r.val, by omega⟩ l)) l := by
  unfold rms mean
  pointwise [normed]

theorem columns_apply (x : FVec Ideal S16384x1024 .f32) (g : FVec Ideal S2x1024 .f32) (w : FVec Ideal S1x1024x3088 .f32) (a : Fin 2) (r : Fin 8192) (j : Fin 3088) :
    columns x g w (ix3 a r j) = column x g w ⟨a.val * 8192 + r.val, by omega⟩ j := by
  have e : columns x g w (ix3 a r j) = times (fun k : Fin 1024 => (normed x g (ix3 a r k) : EReal)) (fun k j => (w (ix3 (0 : Fin 1) k j) : EReal)) j := by
    unfold times columns
    generalize normed x g = n
    pointwise []
  exact e.trans (times_congr (fun k => normed_apply x g a r k) (fun _ _ => rfl) j)

theorem keys_apply (p : FVec Ideal S2x8192x3088 .f32) (a : Fin 2) (r : Fin 8192) (j : Fin 1024) :
    keys p (ix3 a j r) = p (ix3 a r ⟨1024 + j.val, by omega⟩) := by
  pointwise [keys]

theorem values_apply (p : FVec Ideal S2x8192x3088 .f32) (a : Fin 2) (r : Fin 8192) (j : Fin 1024) :
    values p (ix3 a j r) = p (ix3 a r ⟨2048 + j.val, by omega⟩) := by
  pointwise [values]

theorem logits_apply (p : FVec Ideal S2x8192x3088 .f32) (b : FVec Ideal S1x16 .f32) (a : Fin 2) (r : Fin 8192) (d : Fin 16) :
    logits p b (ix3 a r d) = (p (ix3 a r ⟨3072 + d.val, by omega⟩) : EReal) + b (ix2 (0 : Fin 1) d) := by
  pointwise [logits]

theorem gates_apply (x : FVec Ideal S2x8192x16 .f32) (a : Fin 2) (d : Fin 16) (r : Fin 8192) : gates x (ix3 a d r) = gate (x (ix3 a r d)) := by
  rw [← gate_eq]
  pointwise [gates, zeros]
  exact congrArg (fun z : EReal => -z) (if_neg fun h => h rfl)

/-- A key, from its row. -/
theorem key_apply (x : FVec Ideal S16384x1024 .f32) (g : FVec Ideal S2x1024 .f32) (w : FVec Ideal S1x1024x3088 .f32) (a : Fin 2) (j : Fin 1024) (r : Fin 8192) :
    keys (columns x g w) (ix3 a j r) = key x g w ⟨a.val * 8192 + r.val, by omega⟩ j := (keys_apply _ a r j).trans (columns_apply x g w a r _)

/-- A value, from its row. -/
theorem value_apply (x : FVec Ideal S16384x1024 .f32) (g : FVec Ideal S2x1024 .f32) (w : FVec Ideal S1x1024x3088 .f32) (a : Fin 2) (j : Fin 1024) (r : Fin 8192) :
    values (columns x g w) (ix3 a j r) = value x g w ⟨a.val * 8192 + r.val, by omega⟩ j := (values_apply _ a r j).trans (columns_apply x g w a r _)

/-- A forget gate, from its row. -/
theorem forget_apply (x : FVec Ideal S16384x1024 .f32) (g : FVec Ideal S2x1024 .f32) (w : FVec Ideal S1x1024x3088 .f32) (b : FVec Ideal S1x16 .f32)
    (a : Fin 2) (d : Fin 16) (r : Fin 8192) :
    gates (logits (columns x g w) b) (ix3 a d r) = forget x g w b ⟨a.val * 8192 + r.val, by omega⟩ d := by
  rw [gates_apply, logits_apply, columns_apply]
  rfl

end Cert.RefProjIdeal.Rows
-- ==== Proof.Proj.EqualP.lean ====
/- The projections of the prompt: the kernel's keys, values and forget gates are the reference's, at extended reals. -/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.RefProjIdeal.Run
public import proofs.«01_k».proof.Proof.Proj.KernelP
public import proofs.«01_k».proof.Proof.Proj.ReferenceP
public import Idealize.ShloMosaic.Adequacy
public import Idealize.ShloMosaic.Init

@[expose] public section

set_option Elab.async false

noncomputable section

namespace Cert.ProjectP

open Idealize.ShloMosaic Idealize.SL.Sem

/-- The reference of the projections of the prompt runs to its end, returns its arguments unchanged and leaves every semaphore at zero. -/
theorem reference_frame : Cert.quiescent_RefProjIdeal (hRefProjIdeal := Cert.RefProjIdeal.Gen.facts) :=
  fun m ρ _ => (θ_run Cert.RefProjIdeal.defs _ _).mono (fun r h => ⟨fun c => (h c).2.2.2, sem_eq_zero_of_no_sems (by decide) r.2⟩)
    (Cert.RefProjIdeal.Value.run m ρ)

section
variable (m : (ℓ : Loc Cert.ProjIdeal.nD Cert.ProjIdeal.τ Cert.ProjIdeal.sig) → Buf (Elt Ideal) ℓ) (c : Dev Cert.ProjIdeal.nD)

/-- From equal arguments the reference's keys are the array the kernel leaves. -/
theorem same_keys : Cert.RefProjIdeal.Rows.keys (Cert.RefProjIdeal.Rows.columns (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))) = Cert.ProjIdeal.Rows.keys m c := by
  refine funext fun i => ?_
  obtain ⟨a, j, r, rfl⟩ : ∃ (a : Fin 2) (j : Fin 1024) (r : Fin 8192), i = ix3 a j r := ⟨i 0, i 1, i 2, eq_ix3 i⟩
  exact (Cert.RefProjIdeal.Rows.key_apply _ _ _ a j r).trans (Cert.ProjIdeal.Rows.keys_at m c a j r).symm

/-- From equal arguments the reference's values are the array the kernel leaves. -/
theorem same_values : Cert.RefProjIdeal.Rows.values (Cert.RefProjIdeal.Rows.columns (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))) = Cert.ProjIdeal.Rows.values m c := by
  refine funext fun i => ?_
  obtain ⟨a, j, r, rfl⟩ : ∃ (a : Fin 2) (j : Fin 1024) (r : Fin 8192), i = ix3 a j r := ⟨i 0, i 1, i 2, eq_ix3 i⟩
  exact (Cert.RefProjIdeal.Rows.value_apply _ _ _ a j r).trans (Cert.ProjIdeal.Rows.values_at m c a j r).symm

/-- From equal arguments the reference's gates are the array the kernel leaves. -/
theorem same_gates : Cert.RefProjIdeal.Rows.gates (Cert.RefProjIdeal.Rows.logits (Cert.RefProjIdeal.Rows.columns (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))) (m ((c.tc : Thread Cert.ProjIdeal.nD Cert.ProjIdeal.τ).loc Cert.ProjIdeal.main_arg3)))
    = Cert.ProjIdeal.Rows.gates m c := by
  refine funext fun i => ?_
  obtain ⟨a, d, r, rfl⟩ : ∃ (a : Fin 2) (d : Fin 16) (r : Fin 8192), i = ix3 a d r := ⟨i 0, i 1, i 2, eq_ix3 i⟩
  exact (Cert.RefProjIdeal.Rows.forget_apply _ _ _ _ a d r).trans (Cert.ProjIdeal.Rows.gates_at m c a d r).symm
end

/-- From equal arguments the kernel of the projections of the prompt and its reference end with equal keys, values and forget gates, at extended reals. -/
theorem equal : Cert.algebraic_ProjIdeal_RefProjIdeal (hProjIdeal := Cert.ProjIdeal.Gen.facts) (hRefProjIdeal := Cert.RefProjIdeal.Gen.facts) := by
  intro m ρ m' ρ' _ ha
  refine ⟨fun c => Cert.ProjIdeal.Rows.keys m c, fun c => Cert.ProjIdeal.Rows.values m c, fun c => Cert.ProjIdeal.Rows.gates m c, ?_, ?_⟩
  · refine (θ_run Cert.ProjIdeal.defs _ _).mono (fun r h c => ?_) (Cert.ProjIdeal.Value.run_blocks m ρ)
    obtain ⟨h0, h1, h2, _, _, _, hk⟩ := h c
    exact ⟨h0.trans (Cert.ProjIdeal.Rows.keys_final m c), h1.trans (Cert.ProjIdeal.Rows.values_final m c), h2.trans (Cert.ProjIdeal.Rows.gates_final m c), hk⟩
  · refine (θ_run Cert.RefProjIdeal.defs _ _).mono (fun r h c => ?_) (Cert.RefProjIdeal.Value.run m' ρ')
    obtain ⟨h0, h1, h2, hk⟩ := h c
    obtain ⟨a0, a1, a2, a3⟩ := ha c
    refine ⟨h0.trans ?_, h1.trans ?_, (h2.trans (Cert.RefProjIdeal.Rows.gates_eq m' c)).trans ?_, hk⟩
    · rw [a0, a1, a2]
      exact same_keys m c
    · rw [a0, a1, a2]
      exact same_values m c
    · rw [a0, a1, a2, a3]
      exact same_gates m c

end Cert.ProjectP

end
-- ==== Proof.Proj.KernelQ.lean ====
/- What the kernel of the projections of the sampled steps computes: every key, value and forget gate from its row. -/
module

public import proofs.«01_k».proof.Proof.Gen.ProjsIdeal.Value
public import proofs.«01_k».proof.Proof.Proj.Columns

@[expose] public section

set_option maxRecDepth 16384
set_option Elab.async false

noncomputable section

namespace Cert.ProjsIdeal.Rows

open Cert.ProjsIdeal Cert.ProjsIdeal.Gen Cert.Rows
open Idealize.ShloMosaic Idealize.ShloMosaic.TcCoe
open Idealize.ShloMosaic.Pipeline (Dat)

/-! ## The body on its blocks -/

/-- The normed rows. -/
theorem normed_apply (x : FVec Ideal S1x128x1024 .f32) (g : FVec Ideal S1x1024 .f32) (r : Fin 128) (l : Fin 1024) :
    k0_pay3 (F := Ideal) x g (ix2 r l) = rms (fun l => g (ix2 (0 : Fin 1) l)) (fun l => x (ix3 (0 : Fin 1) r l)) l := by
  unfold rms mean
  pointwise [k0_pay3]

/-- The normed rows times the keys' and the values' weights. -/
theorem both_apply (x : FVec Ideal S1x128x1024 .f32) (g : FVec Ideal S1x1024 .f32) (w : FVec Ideal S2048x1024 .bf16) (r : Fin 128) (j : Fin 2048) :
    k0_pay5 (F := Ideal) x g w (ix2 r j) = times (fun k => k0_pay3 (F := Ideal) x g (ix2 r k)) (fun k j => w (ix2 j k)) j := by
  unfold times
  unfold k0_pay5
  generalize k0_pay3 (F := Ideal) x g = n
  pointwise []
  exact Finset.sum_congr rfl fun k _ => mul_comm _ _

/-- The same, from the rows. -/
theorem both_rows (x : FVec Ideal S1x128x1024 .f32) (g : FVec Ideal S1x1024 .f32) (w : FVec Ideal S2048x1024 .bf16) (r : Fin 128) (j : Fin 2048) :
    k0_pay5 (F := Ideal) x g w (ix2 r j)
      = times (rms (fun l => g (ix2 (0 : Fin 1) l)) (fun l => x (ix3 (0 : Fin 1) r l))) (fun k j => w (ix2 j k)) j :=
  (both_apply x g w r j).trans (times_congr (fun k => normed_apply x g r k) (fun _ _ => rfl) j)

/-- The keys' half. -/
theorem keys_apply (x : FVec Ideal S1x128x1024 .f32) (g : FVec Ideal S1x1024 .f32) (w : FVec Ideal S2048x1024 .bf16) (r : Fin 128) (j : Fin 1024) :
    k0_pay6 (F := Ideal) x g w (ix3 (0 : Fin 1) r j) = k0_pay5 (F := Ideal) x g w (ix2 r ⟨j.val, by omega⟩) := by
  unfold k0_pay6
  generalize k0_pay5 (F := Ideal) x g w = n
  pointwise []

/-- The values' half. -/
theorem values_apply (x : FVec Ideal S1x128x1024 .f32) (g : FVec Ideal S1x1024 .f32) (w : FVec Ideal S2048x1024 .bf16) (r : Fin 128) (j : Fin 1024) :
    k0_pay1 (F := Ideal) (k0_pay7 (F := Ideal) x g w) (ix3 (0 : Fin 1) r j) = k0_pay5 (F := Ideal) x g w (ix2 r ⟨1024 + j.val, by omega⟩) := by
  unfold k0_pay1 k0_pay7
  generalize k0_pay5 (F := Ideal) x g w = n
  pointwise []

/-- The gates. -/
theorem gates_apply (n : FVec Ideal S128x1024 .bf16) (w : FVec Ideal S16x1024 .bf16) (b : FVec Ideal S16x1 .f32) (d : Fin 16) (r : Fin 128) :
    k0_pay2 (F := Ideal) n w b (ix3 (0 : Fin 1) d r)
      = gate (times (fun k : Fin 1024 => (n (ix2 r k) : EReal)) (fun k d => (w (ix2 d k) : EReal)) d + b (ix2 d (0 : Fin 1))) := by
  have e : ∀ k : Fin 1024, (w (ix2 d k) : EReal) * n (ix2 r k) = n (ix2 r k) * w (ix2 d k) := fun k => mul_comm _ _
  unfold gate times
  pointwise [k0_pay2]
  simp only [e, zero_sub]
  rfl

/-! ## The blocks -/

variable (m : (ℓ : Loc nD τ sig) → Buf (Elt Ideal) ℓ)

/-- Every window's block, at the one grid point. -/
theorem index_eq : ∀ t : Fin cfg0.N, win0_0.index t = ![0, 0, 0] ∧ win0_1.index t = ![0, 0] ∧ win0_3.index t = ![0, 0] ∧ win0_4.index t = ![0, 0]
    ∧ win0_5.index t = ![0, 0] ∧ win0_7.index t = ![0, 0, 0] ∧ win0_8.index t = ![0, 0, 0] ∧ win0_9.index t = ![0, 0, 0] :=
  (by decide +kernel : ∀ t : Fin grid0.N, _)

theorem block0 (c : Dev nD) (t : Fin cfg0.N) (r : Fin 128) (l : Fin 1024) :
    iblk m c 0 t (ix3 (0 : Fin 1) r l) = m ((c : Thread nD τ).loc main_arg0) (ix2 r l) := by
  blk_simp [iblk, index_eq t]
  entry_read
  pointwise []
  blk_ext [index_eq t]

theorem block1 (c : Dev nD) (t : Fin cfg0.N) (l : Fin 1024) :
    iblk m c 1 t (ix2 (0 : Fin 1) l) = m ((c : Thread nD τ).loc main_arg1) (ix2 (1 : Fin 2) l) := by
  blk_simp [iblk, index_eq t]
  entry_read
  pointwise []
  blk_ext [index_eq t]

theorem block3 (c : Dev nD) (t : Fin cfg0.N) (j : Fin 2048) (k : Fin 1024) :
    iblk m c 3 t (ix2 j k) = m ((c : Thread nD τ).loc main_arg2) (ix3 (0 : Fin 1) k ⟨1024 + j.val, by omega⟩) := by
  blk_simp [iblk, index_eq t]
  entry_read
  pointwise []
  blk_ext [index_eq t]

theorem block4 (c : Dev nD) (t : Fin cfg0.N) (d : Fin 16) (k : Fin 1024) :
    iblk m c 4 t (ix2 d k) = m ((c : Thread nD τ).loc main_arg2) (ix3 (0 : Fin 1) k ⟨3072 + d.val, by omega⟩) := by
  blk_simp [iblk, index_eq t]
  entry_read
  pointwise []
  blk_ext [index_eq t]

theorem block5 (c : Dev nD) (t : Fin cfg0.N) (d : Fin 16) :
    iblk m c 5 t (ix2 d (0 : Fin 1)) = m ((c : Thread nD τ).loc main_arg3) (ix2 (0 : Fin 1) d) := by
  blk_simp [iblk, index_eq t]
  entry_read
  pointwise []
  blk_ext [index_eq t]

/-- Where an output block's entry lies. -/
theorem place7 (t : Fin cfg0.N) (r : Fin 128) (j : Fin 1024) :
    (((cfg0.win 7).blk t).view.emb (ix3 (0 : Fin 1) r j) : S1x128x1024.Idx) = ix3 (0 : Fin 1) r j := by
  blk_ext [index_eq t]

theorem place8 (t : Fin cfg0.N) (r : Fin 128) (j : Fin 1024) :
    (((cfg0.win 8).blk t).view.emb (ix3 (0 : Fin 1) r j) : S1x128x1024.Idx) = ix3 (0 : Fin 1) r j := by
  blk_ext [index_eq t]

theorem place9 (t : Fin cfg0.N) (d : Fin 16) (r : Fin 128) :
    (((cfg0.win 9).blk t).view.emb (ix3 (0 : Fin 1) d r) : S1x16x128.Idx) = ix3 (0 : Fin 1) d r := by
  blk_ext [index_eq t]

/-! ## The arrays -/

/-- The keys of every row. -/
def keys (c : Dev nD) : FVec Ideal S1x128x1024 .f32 := fun i =>
  key (m ((c : Thread nD τ).loc main_arg0)) (m ((c : Thread nD τ).loc main_arg1)) (m ((c : Thread nD τ).loc main_arg2)) (i 1) (i 2)

/-- The values of every row. -/
def values (c : Dev nD) : FVec Ideal S1x128x1024 .f32 := fun i =>
  value (m ((c : Thread nD τ).loc main_arg0)) (m ((c : Thread nD τ).loc main_arg1)) (m ((c : Thread nD τ).loc main_arg2)) (i 1) (i 2)

/-- The forget gates of every row. -/
def gates (c : Dev nD) : FVec Ideal S1x16x128 .f32 := fun i =>
  forget (m ((c : Thread nD τ).loc main_arg0)) (m ((c : Thread nD τ).loc main_arg1)) (m ((c : Thread nD τ).loc main_arg2)) (m ((c : Thread nD τ).loc main_arg3)) (i 2) (i 1)

theorem keys_at (c : Dev nD) (r : Fin 128) (j : Fin 1024) : keys m c (ix3 (0 : Fin 1) r j) = key (m ((c : Thread nD τ).loc main_arg0)) (m ((c : Thread nD τ).loc main_arg1)) (m ((c : Thread nD τ).loc main_arg2)) r j := rfl
theorem values_at (c : Dev nD) (r : Fin 128) (j : Fin 1024) : values m c (ix3 (0 : Fin 1) r j) = value (m ((c : Thread nD τ).loc main_arg0)) (m ((c : Thread nD τ).loc main_arg1)) (m ((c : Thread nD τ).loc main_arg2)) r j := rfl
theorem gates_at (c : Dev nD) (d : Fin 16) (r : Fin 128) : gates m c (ix3 (0 : Fin 1) d r) = forget (m ((c : Thread nD τ).loc main_arg0)) (m ((c : Thread nD τ).loc main_arg1)) (m ((c : Thread nD τ).loc main_arg2)) (m ((c : Thread nD τ).loc main_arg3)) r d := rfl

theorem key_entry (c : Dev nD) (t : Fin cfg0.N) (r : Fin 128) (j : Fin 1024) :
    k0_pay6 (F := Ideal) (iblk m c 0 t) (iblk m c 1 t) (iblk m c 3 t) (ix3 (0 : Fin 1) r j) = keys m c (ix3 (0 : Fin 1) r j) := by
  refine ((keys_apply _ _ _ r j).trans (both_rows _ _ _ r _)).trans ?_
  rw [keys_at]
  unfold key column
  exact times_at (fun k => rms_congr (block1 m c t) (block0 m c t r) k) (fun k => block3 m c t _ k)

theorem value_entry (c : Dev nD) (t : Fin cfg0.N) (r : Fin 128) (j : Fin 1024) :
    k0_pay1 (F := Ideal) (k0_pay7 (F := Ideal) (iblk m c 0 t) (iblk m c 1 t) (iblk m c 3 t)) (ix3 (0 : Fin 1) r j) = values m c (ix3 (0 : Fin 1) r j) := by
  refine ((values_apply _ _ _ r j).trans (both_rows _ _ _ r _)).trans ?_
  rw [values_at]
  unfold value column
  exact times_at (fun k => rms_congr (block1 m c t) (block0 m c t r) k) (fun k => (block3 m c t _ k).trans
    (congrArg (fun j => m ((c : Thread nD τ).loc main_arg2) (ix3 (0 : Fin 1) k j)) (Fin.ext (show 1024 + (1024 + j.val) = 2048 + j.val by omega))))

theorem gate_entry (c : Dev nD) (t : Fin cfg0.N) (d : Fin 16) (r : Fin 128) :
    k0_pay2 (F := Ideal) (k0_pay3 (F := Ideal) (iblk m c 0 t) (iblk m c 1 t)) (iblk m c 4 t) (iblk m c 5 t) (ix3 (0 : Fin 1) d r) = gates m c (ix3 (0 : Fin 1) d r) := by
  refine (gates_apply _ _ _ d r).trans ?_
  rw [gates_at]
  unfold forget column
  exact congrArg gate (congrArg₂ (fun a b : EReal => a + b)
    (times_at (fun k => (normed_apply _ _ r k).trans (rms_congr (block1 m c t) (block0 m c t r) k)) (fun k => block4 m c t d k)) (block5 m c t d))

/-- The keys after the run. -/
theorem keys_final (c : Dev nD) : (dats m 0 c).arrAt 7 cfg0.N = keys m c := by
  refine (dats m 0 c).arrAt_eq_of_covers 7 _ (by decide +kernel) fun t _ y => ?_
  blk_simp
  rw [after0_7]
  frame_out
  obtain ⟨z, r, j, rfl⟩ : ∃ (z : Fin 1) (r : Fin 128) (j : Fin 1024), y = ix3 z r j := ⟨y 0, y 1, y 2, eq_ix3 y⟩
  obtain rfl : z = 0 := Subsingleton.elim _ _
  exact (key_entry m c t r j).trans (congrArg (keys m c) (place7 t r j)).symm

/-- The values after the run. -/
theorem values_final (c : Dev nD) : (dats m 0 c).arrAt 8 cfg0.N = values m c := by
  refine (dats m 0 c).arrAt_eq_of_covers 8 _ (by decide +kernel) fun t _ y => ?_
  blk_simp
  rw [after0_8]
  frame_out
  obtain ⟨z, r, j, rfl⟩ : ∃ (z : Fin 1) (r : Fin 128) (j : Fin 1024), y = ix3 z r j := ⟨y 0, y 1, y 2, eq_ix3 y⟩
  obtain rfl : z = 0 := Subsingleton.elim _ _
  exact (value_entry m c t r j).trans (congrArg (values m c) (place8 t r j)).symm

/-- The gates after the run. -/
theorem gates_final (c : Dev nD) : (dats m 0 c).arrAt 9 cfg0.N = gates m c := by
  refine (dats m 0 c).arrAt_eq_of_covers 9 _ (by decide +kernel) fun t _ y => ?_
  blk_simp
  rw [after0_9]
  frame_out
  obtain ⟨z, d, r, rfl⟩ : ∃ (z : Fin 1) (d : Fin 16) (r : Fin 128), y = ix3 z d r := ⟨y 0, y 1, y 2, eq_ix3 y⟩
  obtain rfl : z = 0 := Subsingleton.elim _ _
  exact (gate_entry m c t d r).trans (congrArg (gates m c) (place9 t d r)).symm

end Cert.ProjsIdeal.Rows
-- ==== Proof.Proj.ReferenceQ.lean ====
/- What the reference of the projections of the sampled steps computes: every key, value and forget gate from its row. -/
module

public import proofs.«01_k».proof.Proof.Gen.RefProjsIdeal
public import proofs.«01_k».proof.Proof.Gen.RefProjsIdeal.Run
public import proofs.«01_k».proof.Proof.Proj.Columns

@[expose] public section

set_option maxRecDepth 16384
set_option Elab.async false

noncomputable section

namespace Cert.RefProjsIdeal.Rows

open Cert.RefProjsIdeal Cert.RefProjsIdeal.Gen Cert.Rows
open Idealize.ShloMosaic Idealize.ShloMosaic.TcCoe

/-! ## The program's values -/

/-- The root-mean-square norm of every row, with the second layer's gains. -/
def normed (x : FVec Ideal S128x1024 .f32) (g : FVec Ideal S2x1024 .f32) : FVec Ideal S128x1024 .f32 :=
  mulf (mulf x (broadcastInDim S128x1024 ![0, 1] bcast_S128x1_S128x1024_0_1 (Host.rsqrt (addf
      (Host.divf (broadcastInDim S128x1 ![0] bcast_S128_S128x1_0 (Host.reduceAdd (mulf x x) (constant S_ .f32 0x00000000#32) reducesTo_S128x1024_S128_d1 h_S_))
        (broadcastInDim S128x1 ![] bcast_S_S128x1 (constant S_ .f32 0x44800000#32)))
      (broadcastInDim S128x1 ![] bcast_S_S128x1 (constant S_ .f32 0x358637BD#32))))))
    (broadcastInDim S128x1024 ![0, 1] bcast_S1x1024_S128x1024_0_1 (broadcastInDim S1x1024 ![1] bcast_S1024_S1x1024_1
      (shapeCast _ (extractStridedSlice S1x1024 ![1, 0] g slices_S2x1024_S1x1024_1_0) shapeCasts_S1x1024_S1024)))

/-- The normed rows times the projection's weights. -/
def columns (x : FVec Ideal S128x1024 .f32) (g : FVec Ideal S2x1024 .f32) (w : FVec Ideal S1x1024x3088 .f32) : FVec Ideal S128x3088 .f32 :=
  Host.dotGeneral dot_S128x1024_S1024x3088_S128x3088_1_0_0_1_n_n none (normed x g) (shapeCast _ w shapeCasts_S1x1024x3088_S1024x3088)

/-- The keys' columns. -/
def keys (p : FVec Ideal S128x3088 .f32) : FVec Ideal S1x128x1024 .f32 :=
  broadcastInDim S1x128x1024 ![1, 2] bcast_S128x1024_S1x128x1024_1_2 (extractStridedSlice S128x1024 ![0, 1024] p slices_S128x3088_S128x1024_0_1024)

/-- The values' columns. -/
def values (p : FVec Ideal S128x3088 .f32) : FVec Ideal S1x128x1024 .f32 :=
  broadcastInDim S1x128x1024 ![1, 2] bcast_S128x1024_S1x128x1024_1_2 (extractStridedSlice S128x1024 ![0, 2048] p slices_S128x3088_S128x1024_0_2048)

/-- The gates' columns with their offsets. -/
def logits (p : FVec Ideal S128x3088 .f32) (b : FVec Ideal S1x16 .f32) : FVec Ideal S128x16 .f32 :=
  addf (extractStridedSlice S128x16 ![0, 3072] p slices_S128x3088_S128x16_0_3072)
    (broadcastInDim S128x16 ![0, 1] bcast_S1x16_S128x16_0_1 (broadcastInDim S1x16 ![1] bcast_S16_S1x16_1 (shapeCast _ b shapeCasts_S1x16_S16)))

/-- The zeros the logarithm of the logistic is computed with. -/
def zeros : FVec Ideal S128x16 .f32 := broadcastInDim S128x16 ![] bcast_S_S128x16 (constant S_ .f32 0x00000000#32)

/-- The logarithm of the logistic of every number. -/
def gates (x : FVec Ideal S128x16 .f32) : FVec Ideal S1x16x128 .f32 :=
  broadcastInDim S1x16x128 ![1, 2] bcast_S16x128_S1x16x128_1_2 (transpose S16x128 [1, 0] (Host.negf (select
    (cmpf .une (subf (Host.negf x) zeros) (subf (Host.negf x) zeros)) (addf (Host.negf x) zeros)
    (addf (maximumf (Host.negf x) zeros) (Host.log1p (Host.exp (Host.negf (Host.absf (subf (Host.negf x) zeros)))))))) transposes_S128x16_S16x128_1_0)

theorem gates_eq (m : (ℓ : Loc nD τ sig) → Buf (Elt Ideal) ℓ) (c : Dev nD) :
    Value.res_out2 m c = gates (logits (columns (m ((c.tc : Thread nD τ).loc main_arg0)) (m ((c.tc : Thread nD τ).loc main_arg1)) (m ((c.tc : Thread nD τ).loc main_arg2)))
      (m ((c.tc : Thread nD τ).loc main_arg3))) := rfl

/-! ## An entry of each -/

theorem normed_apply (x : FVec Ideal S128x1024 .f32) (g : FVec Ideal S2x1024 .f32) (r : Fin 128) (l : Fin 1024) :
    normed x g (ix2 r l) = rms (fun l => g (ix2 (1 : Fin 2) l)) (fun l => x (ix2 r l)) l := by
  unfold rms mean
  pointwise [normed]

theorem columns_apply (x : FVec Ideal S128x1024 .f32) (g : FVec Ideal S2x1024 .f32) (w : FVec Ideal S1x1024x3088 .f32) (r : Fin 128) (j : Fin 3088) :
    columns x g w (ix2 r j) = column x g w r j := by
  have e : columns x g w (ix2 r j) = times (fun k : Fin 1024 => (normed x g (ix2 r k) : EReal)) (fun k j => (w (ix3 (0 : Fin 1) k j) : EReal)) j := by
    unfold times columns
    generalize normed x g = n
    pointwise []
  exact e.trans (times_congr (fun k => normed_apply x g r k) (fun _ _ => rfl) j)

theorem keys_apply (p : FVec Ideal S128x3088 .f32) (r : Fin 128) (j : Fin 1024) :
    keys p (ix3 (0 : Fin 1) r j) = p (ix2 r ⟨1024 + j.val, by omega⟩) := by
  pointwise [keys]

theorem values_apply (p : FVec Ideal S128x3088 .f32) (r : Fin 128) (j : Fin 1024) :
    values p (ix3 (0 : Fin 1) r j) = p (ix2 r ⟨2048 + j.val, by omega⟩) := by
  pointwise [values]

theorem logits_apply (p : FVec Ideal S128x3088 .f32) (b : FVec Ideal S1x16 .f32) (r : Fin 128) (d : Fin 16) :
    logits p b (ix2 r d) = (p (ix2 r ⟨3072 + d.val, by omega⟩) : EReal) + b (ix2 (0 : Fin 1) d) := by
  pointwise [logits]

theorem gates_apply (x : FVec Ideal S128x16 .f32) (d : Fin 16) (r : Fin 128) : gates x (ix3 (0 : Fin 1) d r) = gate (x (ix2 r d)) := by
  rw [← gate_eq]
  pointwise [gates, zeros]
  exact congrArg (fun z : EReal => -z) (if_neg fun h => h rfl)

/-- A key, from its row. -/
theorem key_apply (x : FVec Ideal S128x1024 .f32) (g : FVec Ideal S2x1024 .f32) (w : FVec Ideal S1x1024x3088 .f32) (r : Fin 128) (j : Fin 1024) :
    keys (columns x g w) (ix3 (0 : Fin 1) r j) = key x g w r j := (keys_apply _ r j).trans (columns_apply x g w r _)

/-- A value, from its row. -/
theorem value_apply (x : FVec Ideal S128x1024 .f32) (g : FVec Ideal S2x1024 .f32) (w : FVec Ideal S1x1024x3088 .f32) (r : Fin 128) (j : Fin 1024) :
    values (columns x g w) (ix3 (0 : Fin 1) r j) = value x g w r j := (values_apply _ r j).trans (columns_apply x g w r _)

/-- A forget gate, from its row. -/
theorem forget_apply (x : FVec Ideal S128x1024 .f32) (g : FVec Ideal S2x1024 .f32) (w : FVec Ideal S1x1024x3088 .f32) (b : FVec Ideal S1x16 .f32) (d : Fin 16) (r : Fin 128) :
    gates (logits (columns x g w) b) (ix3 (0 : Fin 1) d r) = forget x g w b r d := by
  rw [gates_apply, logits_apply, columns_apply]
  rfl

end Cert.RefProjsIdeal.Rows
-- ==== Proof.Proj.EqualQ.lean ====
/- The projections of the sampled steps: the kernel's keys, values and forget gates are the reference's, at extended reals. -/
module

public import proofs.«01_k».proof.Defs
public import proofs.«01_k».proof.Proof.Gen.Projs.Frame
public import proofs.«01_k».proof.Proof.Gen.ProjsIdeal.Frame
public import proofs.«01_k».proof.Proof.Gen.ProjsIdeal.Value
public import proofs.«01_k».proof.Proof.Gen.RefProjsIdeal.Run
public import proofs.«01_k».proof.Proof.Proj.KernelQ
public import proofs.«01_k».proof.Proof.Proj.ReferenceQ
public import Idealize.ShloMosaic.Adequacy
public import Idealize.ShloMosaic.Init

@[expose] public section

set_option Elab.async false

noncomputable section

namespace Cert.ProjectQ

open Idealize.ShloMosaic Idealize.SL.Sem

/-- The reference of the projections of the sampled steps runs to its end, returns its arguments unchanged and leaves every semaphore at zero. -/
theorem reference_frame : Cert.quiescent_RefProjsIdeal (hRefProjsIdeal := Cert.RefProjsIdeal.Gen.facts) :=
  fun m ρ _ => (θ_run Cert.RefProjsIdeal.defs _ _).mono (fun r h => ⟨fun c => (h c).2.2.2, sem_eq_zero_of_no_sems (by decide) r.2⟩)
    (Cert.RefProjsIdeal.Value.run m ρ)

section
variable (m : (ℓ : Loc Cert.ProjsIdeal.nD Cert.ProjsIdeal.τ Cert.ProjsIdeal.sig) → Buf (Elt Ideal) ℓ) (c : Dev Cert.ProjsIdeal.nD)

/-- From equal arguments the reference's keys are the array the kernel leaves. -/
theorem same_keys : Cert.RefProjsIdeal.Rows.keys (Cert.RefProjsIdeal.Rows.columns (m ((c.tc : Thread Cert.ProjsIdeal.nD Cert.ProjsIdeal.τ).loc Cert.ProjsIdeal.main_arg0)) (m ((c.tc : Thread Cert.ProjsIdeal.nD Cert.ProjsIdeal.τ).loc Cert.ProjsIdeal.main_arg1)) (m ((c.tc : Thread Cert.ProjsIdeal.nD Cert.ProjsIdeal.τ).loc Cert.ProjsIdeal.main_arg2))) = Cert.ProjsIdeal.Rows.keys m c := by
  refine funext fun i => ?_
  obtain ⟨z, r, j, rfl⟩ : ∃ (z : Fin 1) (r : Fin 128) (j : Fin 1024), i = ix3 z r j := ⟨i 0, i 1, i 2, eq_ix3 i⟩
  obtain rfl : z = 0 := Subsingleton.elim _ _
  exact (Cert.RefProjsIdeal.Rows.key_apply _ _ _ r j).trans (Cert.ProjsIdeal.Rows.keys_at m c r j).symm

/-- From equal arguments the reference's values are the array the kernel leaves. -/
theorem same_values : Cert.RefProjsIdeal.Rows.values (Cert.RefProjsIdeal.Rows.columns (m ((c.tc : Thread Cert.ProjsIdeal.nD Cert.ProjsIdeal.τ).loc Cert.ProjsIdeal.main_arg0)) (m ((c.tc : Thread Cert.ProjsIdeal.nD Cert.ProjsIdeal.τ).loc Cert.ProjsIdeal.main_arg1)) (m ((c.tc : Thread Cert.ProjsIdeal.nD Cert.ProjsIdeal.τ).loc Cert.ProjsIdeal.main_arg2))) = Cert.ProjsIdeal.Rows.values m c := by
  refine funext fun i => ?_
  obtain ⟨z, r, j, rfl⟩ : ∃ (z : Fin 1) (r : Fin 128) (j : Fin 1024), i = ix3 z r j := ⟨i 0, i 1, i 2, eq_ix3 i⟩
  obtain rfl : z = 0 := Subsingleton.elim _ _
  exact (Cert.RefProjsIdeal.Rows.value_apply _ _ _ r j).trans (Cert.ProjsIdeal.Rows.values_at m c r j).symm

/-- From equal arguments the reference's gates are the array the kernel leaves. -/
theorem same_gates : Cert.RefProjsIdeal.Rows.gates (Cert.RefProjsIdeal.Rows.logits (Cert.RefProjsIdeal.Rows.columns (m ((c.tc : Thread Cert.ProjsIdeal.nD Cert.ProjsIdeal.τ).loc Cert.ProjsIdeal.main_arg0)) (m ((c.tc : Thread Cert.ProjsIdeal.nD Cert.ProjsIdeal.τ).loc Cert.ProjsIdeal.main_arg1)) (m ((c.tc : Thread Cert.ProjsIdeal.nD Cert.ProjsIdeal.τ).loc Cert.ProjsIdeal.main_arg2))) (m ((c.tc : Thread Cert.ProjsIdeal.nD Cert.ProjsIdeal.τ).loc Cert.ProjsIdeal.main_arg3)))
    = Cert.ProjsIdeal.Rows.gates m c := by
  refine funext fun i => ?_
  obtain ⟨z, d, r, rfl⟩ : ∃ (z : Fin 1) (d : Fin 16) (r : Fin 128), i = ix3 z d r := ⟨i 0, i 1, i 2, eq_ix3 i⟩
  obtain rfl : z = 0 := Subsingleton.elim _ _
  exact (Cert.RefProjsIdeal.Rows.forget_apply _ _ _ _ d r).trans (Cert.ProjsIdeal.Rows.gates_at m c d r).symm
end

/-- From equal arguments the kernel of the projections of the sampled steps and its reference end with equal keys, values and forget gates, at extended reals. -/
theorem equal : Cert.algebraic_ProjsIdeal_RefProjsIdeal (hProjsIdeal := Cert.ProjsIdeal.Gen.facts) (hRefProjsIdeal := Cert.RefProjsIdeal.Gen.facts) := by
  intro m ρ m' ρ' _ ha
  refine ⟨fun c => Cert.ProjsIdeal.Rows.keys m c, fun c => Cert.ProjsIdeal.Rows.values m c, fun c => Cert.ProjsIdeal.Rows.gates m c, ?_, ?_⟩
  · refine (θ_run Cert.ProjsIdeal.defs _ _).mono (fun r h c => ?_) (Cert.ProjsIdeal.Value.run_blocks m ρ)
    obtain ⟨_, h0, h1, h2, hk⟩ := h c
    exact ⟨h0.trans (Cert.ProjsIdeal.Rows.keys_final m c), h1.trans (Cert.ProjsIdeal.Rows.values_final m c), h2.trans (Cert.ProjsIdeal.Rows.gates_final m c), hk⟩
  · refine (θ_run Cert.RefProjsIdeal.defs _ _).mono (fun r h c => ?_) (Cert.RefProjsIdeal.Value.run m' ρ')
    obtain ⟨h0, h1, h2, hk⟩ := h c
    obtain ⟨a0, a1, a2, a3⟩ := ha c
    refine ⟨h0.trans ?_, h1.trans ?_, (h2.trans (Cert.RefProjsIdeal.Rows.gates_eq m' c)).trans ?_, hk⟩
    · rw [a0, a1, a2]
      exact same_keys m c
    · rw [a0, a1, a2]
      exact same_values m c
    · rw [a0, a1, a2, a3]
      exact same_gates m c

end Cert.ProjectQ

end
-- ==== Proof.lean ====
/- The certificate: the claims, from the kernel's run at bits and at extended reals, the reference's run, and what each leaves in its
   result. -/
module

public import proofs.«01_k».proof.Defs
public import proofs.«01_k».proof.Proof.Launch
public import proofs.«01_k».proof.Proof.Ideal.Launch
public import proofs.«01_k».proof.Proof.Ideal.Result
public import proofs.«01_k».proof.Proof.Inputs
public import proofs.«01_k».proof.Proof.Reference
public import proofs.«01_k».proof.Proof.Gen.ReferenceIdeal
public import proofs.«01_k».proof.Proof.Gen.ReferenceIdeal.Run
public import proofs.«01_k».proof.Proof.Gen.Pre_slabs
public import proofs.«01_k».proof.Proof.Ffn.Equal1
public import proofs.«01_k».proof.Proof.Ffn.Equal0
public import proofs.«01_k».proof.Proof.Ffn.EqualS
public import proofs.«01_k».proof.Proof.Proj.EqualP
public import proofs.«01_k».proof.Proof.Proj.EqualQ
public import Idealize.ShloMosaic.Adequacy
public import Idealize.ShloMosaic.Init

@[expose] public section

noncomputable section

namespace Cert.Proof

open Idealize.ShloMosaic Idealize.SL.Sem

/-- The reference runs to its end, returns its arguments unchanged and leaves every semaphore at zero. -/
theorem reference_frame : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run m ρ)

/-- Under the precondition the slabs have real scores and values. -/
theorem reals (m : (ℓ : Loc Cert.KernelIdeal.nD Cert.KernelIdeal.τ Cert.KernelIdeal.sig) → Buf (Elt Ideal) ℓ)
    (c : Dev Cert.KernelIdeal.nD)
    (G : Cert.Inputs.Good (Cert.KernelIdeal.Flash.argQ m c) (Cert.KernelIdeal.Flash.argK m c) (Cert.KernelIdeal.Flash.argV m c)) :
    Cert.KernelIdeal.Flash.Reals m c (Cert.Inputs.scoreOf (Cert.KernelIdeal.Flash.argQ m c) (Cert.KernelIdeal.Flash.argK m c))
      (Cert.Inputs.valueOf (Cert.KernelIdeal.Flash.argV m c)) :=
  ⟨Cert.Inputs.kernel_score G, Cert.Inputs.value_real G, Cert.Inputs.value_one G⟩

/-- The reference's result is the attention that the kernel leaves. -/
theorem same (q k : FVec Ideal Cert.ReferenceIdeal.S2x16x128x8192 .bf16) (v : FVec Ideal Cert.ReferenceIdeal.S2x16x80x8192 .bf16)
    (G : Cert.Inputs.Good q k v) :
    Cert.ReferenceIdeal.Attention.attention q k v = Cert.KernelIdeal.Flash.attended (Cert.Inputs.scoreOf q k) (Cert.Inputs.valueOf v) := by
  funext x
  rw [eq_ix3 x]
  exact Cert.ReferenceIdeal.Attention.attention_real q k v (Cert.Inputs.total k) _ _ (Cert.Inputs.reference_score G) (Cert.Inputs.value_real G) (x 0) (x 1) (x 2)

/-- On slabs that satisfy the precondition the kernel and the reference end with equal results, at extended reals. -/
theorem equal : Cert.algebraic_KernelIdeal_ReferenceIdeal_pre_slabs (hKernelIdeal := Cert.KernelIdeal.Gen.facts)
    (hReferenceIdeal := Cert.ReferenceIdeal.Gen.facts) (hPre_slabs := Cert.Pre_slabs.Gen.facts) := by
  intro m ρ m' ρ' hp ha
  have G : ∀ c, Cert.Inputs.Good (Cert.KernelIdeal.Flash.argQ m c) (Cert.KernelIdeal.Flash.argK m c) (Cert.KernelIdeal.Flash.argV m c) :=
    fun c => Cert.Inputs.good _ _ _ (hp c)
  refine ⟨fun c => Cert.KernelIdeal.Flash.attended (Cert.Inputs.scoreOf (Cert.KernelIdeal.Flash.argQ m c) (Cert.KernelIdeal.Flash.argK m c))
      (Cert.Inputs.valueOf (Cert.KernelIdeal.Flash.argV m c)), ?_, ?_⟩
  · refine (θ_run Cert.KernelIdeal.defs _ _).mono (fun r h c => ?_) (Cert.KernelIdeal.Flash.run_main m ρ)
    exact ⟨(h.1 c 3).trans (Cert.KernelIdeal.Flash.result_eq (reals m c (G c))),
      (h.1 c 0).trans ((Cert.KernelIdeal.Flash.dats m 0 c).arrAt_in (0 : Fin 4) rfl _),
      (h.1 c 1).trans ((Cert.KernelIdeal.Flash.dats m 0 c).arrAt_in (1 : Fin 4) rfl _),
      (h.1 c 2).trans ((Cert.KernelIdeal.Flash.dats m 0 c).arrAt_in (2 : Fin 4) rfl _)⟩
  · refine (θ_run Cert.ReferenceIdeal.defs _ _).mono (fun r h c => ?_) (Cert.ReferenceIdeal.Value.run m' ρ')
    refine ⟨((h c).1.trans (Cert.ReferenceIdeal.Attention.result_eq m' c)).trans ?_, (h c).2⟩
    rw [(ha c).1, (ha c).2.1, (ha c).2.2]
    exact same _ _ _ (G c)

/-- The attention, the feed-forward layers and the projections, each with its frames and the equality of results; and the attention's one
    named constant. -/
theorem claim : Cert.Claim :=
  ⟨Cert.Kernel.Gen.facts, Cert.KernelIdeal.Gen.facts, Cert.ReferenceIdeal.Gen.facts,
    Cert.Ffn1.Gen.facts, Cert.Ffn1Ideal.Gen.facts, Cert.RefFfn1Ideal.Gen.facts,
    Cert.Ffn0.Gen.facts, Cert.Ffn0Ideal.Gen.facts, Cert.RefFfn0Ideal.Gen.facts,
    Cert.Ffns.Gen.facts, Cert.FfnsIdeal.Gen.facts, Cert.RefFfnsIdeal.Gen.facts,
    Cert.Proj.Gen.facts, Cert.ProjIdeal.Gen.facts, Cert.RefProjIdeal.Gen.facts,
    Cert.Projs.Gen.facts, Cert.ProjsIdeal.Gen.facts, Cert.RefProjsIdeal.Gen.facts,
    Cert.Pre_slabs.Gen.facts,
    fun m ρ _ => Cert.Kernel.Flash.frame m ρ,
    fun m ρ _ => Cert.KernelIdeal.Flash.frame m ρ,
    fun m ρ _ => Cert.KernelIdeal.Flash.frame m ρ,
    fun m ρ _ => reference_frame m ρ trivial,
    fun m ρ _ => reference_frame m ρ trivial,
    fun m ρ _ => Cert.Ffn1.Gen.frame m ρ,
    fun m ρ _ => Cert.Ffn1Ideal.Gen.frame m ρ,
    Cert.Layer1.reference_frame,
    fun m ρ _ => Cert.Ffn0.Gen.frame m ρ,
    fun m ρ _ => Cert.Ffn0Ideal.Gen.frame m ρ,
    Cert.Layer0.reference_frame,
    fun m ρ _ => Cert.Ffns.Gen.frame m ρ,
    fun m ρ _ => Cert.FfnsIdeal.Gen.frame m ρ,
    Cert.LayerS.reference_frame,
    fun m ρ _ => Cert.Proj.Gen.frame m ρ,
    fun m ρ _ => Cert.ProjIdeal.Gen.frame m ρ,
    Cert.ProjectP.reference_frame,
    fun m ρ _ => Cert.Projs.Gen.frame m ρ,
    fun m ρ _ => Cert.ProjsIdeal.Gen.frame m ρ,
    Cert.ProjectQ.reference_frame,
    IdealRules.named_const.statement Cert.KernelIdeal.κ "mask" .f32 0xF149F2CA#32 ⊥ rfl,
    equal,
    trivial,
    Cert.Layer1.equal,
    trivial,
    Cert.Layer0.equal,
    trivial,
    Cert.LayerS.equal,
    trivial,
    Cert.ProjectP.equal,
    trivial,
    Cert.ProjectQ.equal⟩

end Cert.Proof

end
